-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelWo (m : (ℓ : Loc Cert.KernelWo.nD Cert.KernelWo.τ Cert.KernelWo.sig) → Buf (Elt Bits) ℓ) : Prop :=
  True

def Pre_KernelWoIdeal (m : (ℓ : Loc Cert.KernelWoIdeal.nD Cert.KernelWoIdeal.τ Cert.KernelWoIdeal.sig) → Buf (Elt Ideal) ℓ) : Prop :=
  True

def Pre_ReferenceWoIdeal (m : (ℓ : Loc Cert.ReferenceWoIdeal.nD Cert.ReferenceWoIdeal.τ Cert.ReferenceWoIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_KernelQkvIdeal_finite [hPre_finite : Cert.Pre_finite.Facts] (m : (ℓ : Loc Cert.KernelQkvIdeal.nD Cert.KernelQkvIdeal.τ Cert.KernelQkvIdeal.sig) → Buf (Elt Ideal) ℓ) : Prop :=
  ∀ c : Dev Cert.KernelQkvIdeal.nD,
    (Cert.Pre_finite.fn (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg5)) (m ((c.tc : Thread Cert.KernelQkvIdeal.nD Cert.KernelQkvIdeal.τ).loc Cert.KernelQkvIdeal.main_arg6))) = (fun _ => 1#1)

def Pre_ReferenceQkvIdeal (m : (ℓ : Loc Cert.ReferenceQkvIdeal.nD Cert.ReferenceQkvIdeal.τ Cert.ReferenceQkvIdeal.sig) → Buf (Elt Ideal) ℓ) : Prop :=
  True

def Pre_ReferenceQkvIdeal_finite [hPre_finite : Cert.Pre_finite.Facts] (m : (ℓ : Loc Cert.ReferenceQkvIdeal.nD Cert.ReferenceQkvIdeal.τ Cert.ReferenceQkvIdeal.sig) → Buf (Elt Ideal) ℓ) : Prop :=
  ∀ c : Dev Cert.ReferenceQkvIdeal.nD,
    (Cert.Pre_finite.fn (F := Ideal) (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5)) (m ((c.tc : Thread Cert.ReferenceQkvIdeal.nD Cert.ReferenceQkvIdeal.τ).loc Cert.ReferenceQkvIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6))
      ∧ r.2.sem = fun _ => 0)

def quiescent_KernelWo [hKernelWo : Cert.KernelWo.Facts] : Prop :=
  ∀ (m : (ℓ : Loc Cert.KernelWo.nD Cert.KernelWo.τ Cert.KernelWo.sig) → Buf (Elt Bits) ℓ) (g : Dev Cert.KernelWo.nD → PrngReg), Pre_KernelWo m →
    θ_run (Cert.KernelWo.defs (F := Bits)) (onTc (τ := Cert.KernelWo.τ) (Cert.KernelWo.main (F := Bits))) ⟨m, fun _ => 0, g⟩ (fun r => (∀ c : Dev Cert.KernelWo.nD,
      r.2.mem ((c.tc : Thread Cert.KernelWo.nD Cert.KernelWo.τ).loc Cert.KernelWo.main_arg0) = m ((c.tc : Thread Cert.KernelWo.nD Cert.KernelWo.τ).loc Cert.KernelWo.main_arg0)
      ∧ r.2.mem ((c.tc : Thread Cert.KernelWo.nD Cert.KernelWo.τ).loc Cert.KernelWo.main_arg1) = m ((c.tc : Thread Cert.KernelWo.nD Cert.KernelWo.τ).loc Cert.KernelWo.main_arg1)
      ∧ r.2.mem ((c.tc : Thread Cert.KernelWo.nD Cert.KernelWo.τ).loc Cert.KernelWo.main_arg2) = m ((c.tc : Thread Cert.KernelWo.nD Cert.KernelWo.τ).loc Cert.KernelWo.main_arg2)
      ∧ r.2.mem ((c.tc : Thread Cert.KernelWo.nD Cert.KernelWo.τ).loc Cert.KernelWo.main_arg3) = m ((c.tc : Thread Cert.KernelWo.nD Cert.KernelWo.τ).loc Cert.KernelWo.main_arg3))
      ∧ r.2.sem = fun _ => 0)

def quiescent_KernelWoIdeal [hKernelWoIdeal : Cert.KernelWoIdeal.Facts] : Prop :=
  ∀ (m : (ℓ : Loc Cert.KernelWoIdeal.nD Cert.KernelWoIdeal.τ Cert.KernelWoIdeal.sig) → Buf (Elt Ideal) ℓ) (g : Dev Cert.KernelWoIdeal.nD → PrngReg), Pre_KernelWoIdeal m →
    θ_run (Cert.KernelWoIdeal.defs (F := Ideal)) (onTc (τ := Cert.KernelWoIdeal.τ) (Cert.KernelWoIdeal.main (F := Ideal))) ⟨m, fun _ => 0, g⟩ (fun r => (∀ c : Dev Cert.KernelWoIdeal.nD,
      r.2.mem ((c.tc : Thread Cert.KernelWoIdeal.nD Cert.KernelWoIdeal.τ).loc Cert.KernelWoIdeal.main_arg0) = m ((c.tc : Thread Cert.KernelWoIdeal.nD Cert.KernelWoIdeal.τ).loc Cert.KernelWoIdeal.main_arg0)
      ∧ r.2.mem ((c.tc : Thread Cert.KernelWoIdeal.nD Cert.KernelWoIdeal.τ).loc Cert.KernelWoIdeal.main_arg1) = m ((c.tc : Thread Cert.KernelWoIdeal.nD Cert.KernelWoIdeal.τ).loc Cert.KernelWoIdeal.main_arg1)
      ∧ r.2.mem ((c.tc : Thread Cert.KernelWoIdeal.nD Cert.KernelWoIdeal.τ).loc Cert.KernelWoIdeal.main_arg2) = m ((c.tc : Thread Cert.KernelWoIdeal.nD Cert.KernelWoIdeal.τ).loc Cert.KernelWoIdeal.main_arg2)
      ∧ r.2.mem ((c.tc : Thread Cert.KernelWoIdeal.nD Cert.KernelWoIdeal.τ).loc Cert.KernelWoIdeal.main_arg3) = m ((c.tc : Thread Cert.KernelWoIdeal.nD Cert.KernelWoIdeal.τ).loc Cert.KernelWoIdeal.main_arg3))
      ∧ r.2.sem = fun _ => 0)

def quiescent_ReferenceWoIdeal [hReferenceWoIdeal : Cert.ReferenceWoIdeal.Facts] : Prop :=
  ∀ (m : (ℓ : Loc Cert.ReferenceWoIdeal.nD Cert.ReferenceWoIdeal.τ Cert.ReferenceWoIdeal.sig) → Buf (Elt Ideal) ℓ) (g : Dev Cert.ReferenceWoIdeal.nD → PrngReg), Pre_ReferenceWoIdeal m →
    θ_run (Cert.ReferenceWoIdeal.defs (F := Ideal)) (onTc (τ := Cert.ReferenceWoIdeal.τ) (Cert.ReferenceWoIdeal.main (F := Ideal))) ⟨m, fun _ => 0, g⟩ (fun r => (∀ c : Dev Cert.ReferenceWoIdeal.nD,
      r.2.mem ((c.tc : Thread Cert.ReferenceWoIdeal.nD Cert.ReferenceWoIdeal.τ).loc Cert.ReferenceWoIdeal.main_arg0) = m ((c.tc : Thread Cert.ReferenceWoIdeal.nD Cert.ReferenceWoIdeal.τ).loc Cert.ReferenceWoIdeal.main_arg0)
      ∧ r.2.mem ((c.tc : Thread Cert.ReferenceWoIdeal.nD Cert.ReferenceWoIdeal.τ).loc Cert.ReferenceWoIdeal.main_arg1) = m ((c.tc : Thread Cert.ReferenceWoIdeal.nD Cert.ReferenceWoIdeal.τ).loc Cert.ReferenceWoIdeal.main_arg1)
      ∧ r.2.mem ((c.tc : Thread Cert.ReferenceWoIdeal.nD Cert.ReferenceWoIdeal.τ).loc Cert.ReferenceWoIdeal.main_arg2) = m ((c.tc : Thread Cert.ReferenceWoIdeal.nD Cert.ReferenceWoIdeal.τ).loc Cert.ReferenceWoIdeal.main_arg2)
      ∧ r.2.mem ((c.tc : Thread Cert.ReferenceWoIdeal.nD Cert.ReferenceWoIdeal.τ).loc Cert.ReferenceWoIdeal.main_arg3) = m ((c.tc : Thread Cert.ReferenceWoIdeal.nD Cert.ReferenceWoIdeal.τ).loc Cert.ReferenceWoIdeal.main_arg3))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3)
      ∧ r.2.mem ((c.tc : Thread Cert.KernelQkv.nD Cert.KernelQkv.τ).loc Cert.KernelQkv.main_arg4) = m ((c.tc : Thread Cert.KernelQkv.nD Cert.KernelQkv.τ).loc Cert.KernelQkv.main_arg4)
      ∧ r.2.mem ((c.tc : Thread Cert.KernelQkv.nD Cert.KernelQkv.τ).loc Cert.KernelQkv.main_arg5) = m ((c.tc : Thread Cert.KernelQkv.nD Cert.KernelQkv.τ).loc Cert.KernelQkv.main_arg5)
      ∧ r.2.mem ((c.tc : Thread Cert.KernelQkv.nD Cert.KernelQkv.τ).loc Cert.KernelQkv.main_arg6) = m ((c.tc : Thread Cert.KernelQkv.nD Cert.KernelQkv.τ).loc Cert.KernelQkv.main_arg6))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
      ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6))
      ∧ r.2.sem = fun _ => 0)

def quiescent_KernelQkvIdeal_pre_finite [hKernelQkvIdeal : Cert.KernelQkvIdeal.Facts] [hPre_finite : Cert.Pre_finite.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal_finite m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
      ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5)
      ∧ r.2.mem ((c.tc : Thread Cert.ReferenceQkvIdeal.nD Cert.ReferenceQkvIdeal.τ).loc Cert.ReferenceQkvIdeal.main_arg6) = m ((c.tc : Thread Cert.ReferenceQkvIdeal.nD Cert.ReferenceQkvIdeal.τ).loc Cert.ReferenceQkvIdeal.main_arg6))
      ∧ r.2.sem = fun _ => 0)

def quiescent_ReferenceQkvIdeal_pre_finite [hReferenceQkvIdeal : Cert.ReferenceQkvIdeal.Facts] [hPre_finite : Cert.Pre_finite.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal_finite m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5)
      ∧ r.2.mem ((c.tc : Thread Cert.ReferenceQkvIdeal.nD Cert.ReferenceQkvIdeal.τ).loc Cert.ReferenceQkvIdeal.main_arg6) = m ((c.tc : Thread Cert.ReferenceQkvIdeal.nD Cert.ReferenceQkvIdeal.τ).loc Cert.ReferenceQkvIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E38AA3B#32 (((1 / 8) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)) →
    ∃ (v0 : (c : Dev Cert.KernelFfnIdeal.nD) → Buf (Elt Ideal) ((c.tc : Thread Cert.KernelFfnIdeal.nD Cert.KernelFfnIdeal.τ).loc Cert.KernelFfnIdeal.main_v2)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v2) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v26) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6))

def preserves_KernelWo_KernelWoIdeal : Prop :=
  True

def algebraic_KernelWoIdeal_ReferenceWoIdeal [hKernelWoIdeal : Cert.KernelWoIdeal.Facts] [hReferenceWoIdeal : Cert.ReferenceWoIdeal.Facts] : Prop :=
  ∀ (m : (ℓ : Loc Cert.KernelWoIdeal.nD Cert.KernelWoIdeal.τ Cert.KernelWoIdeal.sig) → Buf (Elt Ideal) ℓ) (g : Dev Cert.KernelWoIdeal.nD → PrngReg)
    (m' : (ℓ : Loc Cert.ReferenceWoIdeal.nD Cert.ReferenceWoIdeal.τ Cert.ReferenceWoIdeal.sig) → Buf (Elt Ideal) ℓ) (g' : Dev Cert.ReferenceWoIdeal.nD → PrngReg), Pre_KernelWoIdeal m →
    (∀ c : Dev Cert.KernelWoIdeal.nD,
      m' ((c.tc : Thread Cert.ReferenceWoIdeal.nD Cert.ReferenceWoIdeal.τ).loc Cert.ReferenceWoIdeal.main_arg0) = m ((c.tc : Thread Cert.KernelWoIdeal.nD Cert.KernelWoIdeal.τ).loc Cert.KernelWoIdeal.main_arg0)
      ∧ m' ((c.tc : Thread Cert.ReferenceWoIdeal.nD Cert.ReferenceWoIdeal.τ).loc Cert.ReferenceWoIdeal.main_arg1) = m ((c.tc : Thread Cert.KernelWoIdeal.nD Cert.KernelWoIdeal.τ).loc Cert.KernelWoIdeal.main_arg1)
      ∧ m' ((c.tc : Thread Cert.ReferenceWoIdeal.nD Cert.ReferenceWoIdeal.τ).loc Cert.ReferenceWoIdeal.main_arg2) = m ((c.tc : Thread Cert.KernelWoIdeal.nD Cert.KernelWoIdeal.τ).loc Cert.KernelWoIdeal.main_arg2)
      ∧ m' ((c.tc : Thread Cert.ReferenceWoIdeal.nD Cert.ReferenceWoIdeal.τ).loc Cert.ReferenceWoIdeal.main_arg3) = m ((c.tc : Thread Cert.KernelWoIdeal.nD Cert.KernelWoIdeal.τ).loc Cert.KernelWoIdeal.main_arg3)) →
    ∃ (v0 : (c : Dev Cert.KernelWoIdeal.nD) → Buf (Elt Ideal) ((c.tc : Thread Cert.KernelWoIdeal.nD Cert.KernelWoIdeal.τ).loc Cert.KernelWoIdeal.main_v1)),
      θ_run (Cert.KernelWoIdeal.defs (F := Ideal)) (onTc (τ := Cert.KernelWoIdeal.τ) (Cert.KernelWoIdeal.main (F := Ideal))) ⟨m, fun _ => 0, g⟩ (fun r => ∀ c : Dev Cert.KernelWoIdeal.nD,
          r.2.mem ((c.tc : Thread Cert.KernelWoIdeal.nD Cert.KernelWoIdeal.τ).loc Cert.KernelWoIdeal.main_v1) = v0 c
          ∧ r.2.mem ((c.tc : Thread Cert.KernelWoIdeal.nD Cert.KernelWoIdeal.τ).loc Cert.KernelWoIdeal.main_arg0) = m ((c.tc : Thread Cert.KernelWoIdeal.nD Cert.KernelWoIdeal.τ).loc Cert.KernelWoIdeal.main_arg0)
          ∧ r.2.mem ((c.tc : Thread Cert.KernelWoIdeal.nD Cert.KernelWoIdeal.τ).loc Cert.KernelWoIdeal.main_arg1) = m ((c.tc : Thread Cert.KernelWoIdeal.nD Cert.KernelWoIdeal.τ).loc Cert.KernelWoIdeal.main_arg1)
          ∧ r.2.mem ((c.tc : Thread Cert.KernelWoIdeal.nD Cert.KernelWoIdeal.τ).loc Cert.KernelWoIdeal.main_arg2) = m ((c.tc : Thread Cert.KernelWoIdeal.nD Cert.KernelWoIdeal.τ).loc Cert.KernelWoIdeal.main_arg2)
          ∧ r.2.mem ((c.tc : Thread Cert.KernelWoIdeal.nD Cert.KernelWoIdeal.τ).loc Cert.KernelWoIdeal.main_arg3) = m ((c.tc : Thread Cert.KernelWoIdeal.nD Cert.KernelWoIdeal.τ).loc Cert.KernelWoIdeal.main_arg3))
      ∧ θ_run (Cert.ReferenceWoIdeal.defs (F := Ideal)) (onTc (τ := Cert.ReferenceWoIdeal.τ) (Cert.ReferenceWoIdeal.main (F := Ideal))) ⟨m', fun _ => 0, g'⟩ (fun r => ∀ c : Dev Cert.ReferenceWoIdeal.nD,
          r.2.mem ((c.tc : Thread Cert.ReferenceWoIdeal.nD Cert.ReferenceWoIdeal.τ).loc Cert.ReferenceWoIdeal.main_v4) = v0 c
          ∧ r.2.mem ((c.tc : Thread Cert.ReferenceWoIdeal.nD Cert.ReferenceWoIdeal.τ).loc Cert.ReferenceWoIdeal.main_arg0) = m' ((c.tc : Thread Cert.ReferenceWoIdeal.nD Cert.ReferenceWoIdeal.τ).loc Cert.ReferenceWoIdeal.main_arg0)
          ∧ r.2.mem ((c.tc : Thread Cert.ReferenceWoIdeal.nD Cert.ReferenceWoIdeal.τ).loc Cert.ReferenceWoIdeal.main_arg1) = m' ((c.tc : Thread Cert.ReferenceWoIdeal.nD Cert.ReferenceWoIdeal.τ).loc Cert.ReferenceWoIdeal.main_arg1)
          ∧ r.2.mem ((c.tc : Thread Cert.ReferenceWoIdeal.nD Cert.ReferenceWoIdeal.τ).loc Cert.ReferenceWoIdeal.main_arg2) = m' ((c.tc : Thread Cert.ReferenceWoIdeal.nD Cert.ReferenceWoIdeal.τ).loc Cert.ReferenceWoIdeal.main_arg2)
          ∧ r.2.mem ((c.tc : Thread Cert.ReferenceWoIdeal.nD Cert.ReferenceWoIdeal.τ).loc Cert.ReferenceWoIdeal.main_arg3) = m' ((c.tc : Thread Cert.ReferenceWoIdeal.nD Cert.ReferenceWoIdeal.τ).loc Cert.ReferenceWoIdeal.main_arg3))

def preserves_KernelQkv_KernelQkvIdeal : Prop :=
  IdealRules.named_const.Statement Cert.KernelQkvIdeal.κ "scale_log2e" .f32 0x3E38AA3B#32 (((1 / 8) * (Real.log 2)⁻¹ : ℝ) : EReal)

def algebraic_KernelQkvIdeal_ReferenceQkvIdeal_pre_finite [hKernelQkvIdeal : Cert.KernelQkvIdeal.Facts] [hReferenceQkvIdeal : Cert.ReferenceQkvIdeal.Facts] [hPre_finite : Cert.Pre_finite.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal_finite m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)
      ∧ m' ((c.tc : Thread Cert.ReferenceQkvIdeal.nD Cert.ReferenceQkvIdeal.τ).loc Cert.ReferenceQkvIdeal.main_arg4) = m ((c.tc : Thread Cert.KernelQkvIdeal.nD Cert.KernelQkvIdeal.τ).loc Cert.KernelQkvIdeal.main_arg4)
      ∧ m' ((c.tc : Thread Cert.ReferenceQkvIdeal.nD Cert.ReferenceQkvIdeal.τ).loc Cert.ReferenceQkvIdeal.main_arg5) = m ((c.tc : Thread Cert.KernelQkvIdeal.nD Cert.KernelQkvIdeal.τ).loc Cert.KernelQkvIdeal.main_arg5)
      ∧ m' ((c.tc : Thread Cert.ReferenceQkvIdeal.nD Cert.ReferenceQkvIdeal.τ).loc Cert.ReferenceQkvIdeal.main_arg6) = m ((c.tc : Thread Cert.KernelQkvIdeal.nD Cert.KernelQkvIdeal.τ).loc Cert.KernelQkvIdeal.main_arg6)) →
    ∃ (v0 : (c : Dev Cert.KernelQkvIdeal.nD) → Buf (Elt Ideal) ((c.tc : Thread Cert.KernelQkvIdeal.nD Cert.KernelQkvIdeal.τ).loc Cert.KernelQkvIdeal.main_v18_0)) (v1 : (c : Dev Cert.KernelQkvIdeal.nD) → Buf (Elt Ideal) ((c.tc : Thread Cert.KernelQkvIdeal.nD Cert.KernelQkvIdeal.τ).loc Cert.KernelQkvIdeal.main_v18_1)) (v2 : (c : Dev Cert.KernelQkvIdeal.nD) → Buf (Elt Ideal) ((c.tc : Thread Cert.KernelQkvIdeal.nD Cert.KernelQkvIdeal.τ).loc Cert.KernelQkvIdeal.main_v18_3)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v18_0) = v0 c
          ∧ r.2.mem ((c.tc : Thread Cert.KernelQkvIdeal.nD Cert.KernelQkvIdeal.τ).loc Cert.KernelQkvIdeal.main_v18_1) = v1 c
          ∧ r.2.mem ((c.tc : Thread Cert.KernelQkvIdeal.nD Cert.KernelQkvIdeal.τ).loc Cert.KernelQkvIdeal.main_v18_3) = v2 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
          ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
          ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
          ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v52) = v0 c
          ∧ r.2.mem ((c.tc : Thread Cert.ReferenceQkvIdeal.nD Cert.ReferenceQkvIdeal.τ).loc Cert.ReferenceQkvIdeal.main_v53) = v1 c
          ∧ r.2.mem ((c.tc : Thread Cert.ReferenceQkvIdeal.nD Cert.ReferenceQkvIdeal.τ).loc Cert.ReferenceQkvIdeal.main_v62) = v2 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3)
          ∧ r.2.mem ((c.tc : Thread Cert.ReferenceQkvIdeal.nD Cert.ReferenceQkvIdeal.τ).loc Cert.ReferenceQkvIdeal.main_arg4) = m' ((c.tc : Thread Cert.ReferenceQkvIdeal.nD Cert.ReferenceQkvIdeal.τ).loc Cert.ReferenceQkvIdeal.main_arg4)
          ∧ r.2.mem ((c.tc : Thread Cert.ReferenceQkvIdeal.nD Cert.ReferenceQkvIdeal.τ).loc Cert.ReferenceQkvIdeal.main_arg5) = m' ((c.tc : Thread Cert.ReferenceQkvIdeal.nD Cert.ReferenceQkvIdeal.τ).loc Cert.ReferenceQkvIdeal.main_arg5)
          ∧ r.2.mem ((c.tc : Thread Cert.ReferenceQkvIdeal.nD Cert.ReferenceQkvIdeal.τ).loc Cert.ReferenceQkvIdeal.main_arg6) = m' ((c.tc : Thread Cert.ReferenceQkvIdeal.nD Cert.ReferenceQkvIdeal.τ).loc Cert.ReferenceQkvIdeal.main_arg6))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelWo : Cert.KernelWo.Facts) (hKernelWoIdeal : Cert.KernelWoIdeal.Facts) (hReferenceWoIdeal : Cert.ReferenceWoIdeal.Facts) (hKernelQkv : Cert.KernelQkv.Facts) (hKernelQkvIdeal : Cert.KernelQkvIdeal.Facts) (hReferenceQkvIdeal : Cert.ReferenceQkvIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelWo (hKernelWo := hKernelWo)
    ∧ quiescent_KernelWoIdeal (hKernelWoIdeal := hKernelWoIdeal)
    ∧ quiescent_ReferenceWoIdeal (hReferenceWoIdeal := hReferenceWoIdeal)
    ∧ quiescent_KernelQkv (hKernelQkv := hKernelQkv)
    ∧ quiescent_KernelQkvIdeal (hKernelQkvIdeal := hKernelQkvIdeal)
    ∧ quiescent_KernelQkvIdeal_pre_finite (hKernelQkvIdeal := hKernelQkvIdeal) (hPre_finite := hPre_finite)
    ∧ quiescent_ReferenceQkvIdeal (hReferenceQkvIdeal := hReferenceQkvIdeal)
    ∧ quiescent_ReferenceQkvIdeal_pre_finite (hReferenceQkvIdeal := hReferenceQkvIdeal) (hPre_finite := hPre_finite)
    ∧ preserves_Kernel_KernelIdeal
    ∧ algebraic_KernelIdeal_ReferenceIdeal (hKernelIdeal := hKernelIdeal) (hReferenceIdeal := hReferenceIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelWo_KernelWoIdeal
    ∧ algebraic_KernelWoIdeal_ReferenceWoIdeal (hKernelWoIdeal := hKernelWoIdeal) (hReferenceWoIdeal := hReferenceWoIdeal)
    ∧ preserves_KernelQkv_KernelQkvIdeal
    ∧ algebraic_KernelQkvIdeal_ReferenceQkvIdeal_pre_finite (hKernelQkvIdeal := hKernelQkvIdeal) (hReferenceQkvIdeal := hReferenceQkvIdeal) (hPre_finite := hPre_finite)
-- ==== Pre_finite.lean ====
abbrev S16384x1024 : Shape := ⟨2, ![16384, 1024]⟩
abbrev S1x1024 : Shape := ⟨2, ![1, 1024]⟩
abbrev S1024x3072 : Shape := ⟨2, ![1024, 3072]⟩
abbrev S64 : Shape := ⟨1, ![64]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_

variable [Facts]

def fn_part1 {F : FTy → Type} [FloatOps F] (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  main_v18

def fn {F : FTy → Type} [FloatOps F] (main_arg0 : FVec F S16384x1024 .f32) (main_arg1 : FVec F S1x1024 .f32) (main_arg2 : FVec F S1x1024 .f32) (main_arg3 : FVec F S1x1024 .f32) (main_arg4 : FVec F S1024x3072 .f32) (main_arg5 : FVec F S64 .f32) (main_arg6 : FVec F S64 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x3072 .f32 := Host.absf main_arg4
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_v13 main_v16
-- ==== Kernel.lean ====
abbrev S16384x16x64 : Shape := ⟨3, ![16384, 16, 64]⟩
abbrev S16 : Shape := ⟨1, ![16]⟩
abbrev S264x256 : Shape := ⟨2, ![264, 256]⟩
abbrev S_ : Shape := ⟨0, ![]⟩
abbrev S16384x1024 : Shape := ⟨2, ![16384, 1024]⟩
abbrev S1024x16384 : Shape := ⟨2, ![1024, 16384]⟩
abbrev S16384x16x3 : Shape := ⟨3, ![16384, 16, 3]⟩
abbrev S16384x16x61 : Shape := ⟨3, ![16384, 16, 61]⟩
abbrev S16384x16x128 : Shape := ⟨3, ![16384, 16, 128]⟩
abbrev S16384x2048 : Shape := ⟨2, ![16384, 2048]⟩
abbrev S64x256x16x64 : Shape := ⟨4, ![64, 256, 16, 64]⟩
abbrev S16x64x64x256 : Shape := ⟨4, ![16, 64, 64, 256]⟩
abbrev S128x512 : Shape := ⟨2, ![128, 512]⟩
abbrev S16384x256 : Shape := ⟨2, ![16384, 256]⟩
abbrev S2x64x64x256 : Shape := ⟨4, ![2, 64, 64, 256]⟩
abbrev S128x1024 : Shape := ⟨2, ![128, 1024]⟩
abbrev S8x1024 : Shape := ⟨2, ![8, 1024]⟩
abbrev S256x1024 : Shape := ⟨2, ![256, 1024]⟩
abbrev S2x256x1024 : Shape := ⟨3, ![2, 256, 1024]⟩
abbrev S64x512 : Shape := ⟨2, ![64, 512]⟩
abbrev S1 : Shape := ⟨1, ![1]⟩
abbrev S256x256 : Shape := ⟨2, ![256, 256]⟩
abbrev S256x128 : Shape := ⟨2, ![256, 128]⟩
abbrev S128x256 : Shape := ⟨2, ![128, 256]⟩
abbrev S1x256x256 : Shape := ⟨3, ![1, 256, 256]⟩
abbrev S1x256 : Shape := ⟨2, ![1, 256]⟩
abbrev S64x256 : Shape := ⟨2, ![64, 256]⟩
abbrev S1x1x64x256 : Shape := ⟨4, ![1, 1, 64, 256]⟩

abbrev nBuf : Space → Nat
  | .hbm => 25
  | .vmem => 15
  | .smem => 1
  | _ => 0

abbrev bufTy : (tb : Table) → Fin (tcTables nBuf tb) → BufTy
  | .hbm, ⟨0, _⟩ => ⟨S16384x16x64, .f32⟩
  | .hbm, ⟨1, _⟩ => ⟨S16384x16x64, .f32⟩
  | .hbm, ⟨2, _⟩ => ⟨S16384x16x64, .f32⟩
  | .hbm, ⟨3, _⟩ => ⟨S16, .f32⟩
  | .hbm, ⟨4, _⟩ => ⟨S264x256, .i32⟩
  | .hbm, ⟨5, _⟩ => ⟨S264x256, .i32⟩
  | .hbm, ⟨6, _⟩ => ⟨S264x256, .i1⟩
  | .hbm, ⟨7, _⟩ => ⟨S_, .i32⟩
  | .hbm, ⟨8, _⟩ => ⟨S264x256, .i32⟩
  | .hbm, ⟨9, _⟩ => ⟨S264x256, .i1⟩
  | .hbm, ⟨10, _⟩ => ⟨S264x256, .i1⟩
  | .hbm, ⟨11, _⟩ => ⟨S264x256, .bf16⟩
  | .hbm, ⟨12, _⟩ => ⟨S16384x1024, .f32⟩
  | .hbm, ⟨13, _⟩ => ⟨S1024x16384, .f32⟩
  | .hbm, ⟨14, _⟩ => ⟨S_, .f32⟩
  | .hbm, ⟨15, _⟩ => ⟨S16384x16x3, .f32⟩
  | .hbm, ⟨16, _⟩ => ⟨S_, .f32⟩
  | .hbm, ⟨17, _⟩ => ⟨S16384x16x61, .f32⟩
  | .hbm, ⟨18, _⟩ => ⟨S16384x16x128, .f32⟩
  | .hbm, ⟨19, _⟩ => ⟨S16384x2048, .f32⟩
  | .hbm, ⟨20, _⟩ => ⟨S16384x2048, .bf16⟩
  | .hbm, ⟨21, _⟩ => ⟨S64x256x16x64, .f32⟩
  | .hbm, ⟨22, _⟩ => ⟨S16x64x64x256, .f32⟩
  | .hbm, ⟨23, _⟩ => ⟨S16x64x64x256, .bf16⟩
  | .hbm, ⟨24, _⟩ => ⟨S1024x16384, .f32⟩
  | .local _ .vmem, ⟨0, _⟩ => ⟨S128x512, .f32⟩
  | .local _ .vmem, ⟨1, _⟩ => ⟨S128x512, .f32⟩
  | .local _ .vmem, ⟨2, _⟩ => ⟨S16384x256, .bf16⟩
  | .local _ .vmem, ⟨3, _⟩ => ⟨S16384x256, .bf16⟩
  | .local _ .vmem, ⟨4, _⟩ => ⟨S2x64x64x256, .bf16⟩
  | .local _ .vmem, ⟨5, _⟩ => ⟨S2x64x64x256, .bf16⟩
  | .local _ .vmem, ⟨6, _⟩ => ⟨S264x256, .bf16⟩
  | .local _ .vmem, ⟨7, _⟩ => ⟨S128x512, .f32⟩
  | .local _ .vmem, ⟨8, _⟩ => ⟨S128x512, .f32⟩
  | .local _ .vmem, ⟨9, _⟩ => ⟨S128x1024, .bf16⟩
  | .local _ .vmem, ⟨10, _⟩ => ⟨S128x512, .f32⟩
  | .local _ .vmem, ⟨11, _⟩ => ⟨S8x1024, .f32⟩
  | .local _ .vmem, ⟨12, _⟩ => ⟨S8x1024, .f32⟩
  | .local _ .vmem, ⟨13, _⟩ => ⟨S256x1024, .bf16⟩
  | .local _ .vmem, ⟨14, _⟩ => ⟨S2x256x1024, .f32⟩
  | .local _ .smem, ⟨0, _⟩ => ⟨S16, .f32⟩
  | _, _ => ⟨S16384x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 32], ![false, false]⟩

def k0_off1 (i : grid0.Coords) (c0_i32 : BitVec 32) : Fin 1 → Nat :=
  let c2_i32 : BitVec 32 := 2#32
  let arg0 : BitVec 32 := BitVec.ofNat 32 (i 0).val
  let v1 : BitVec 32 := Scalar.muli c2_i32 arg0
  let v2 : BitVec 32 := Scalar.addi v1 c0_i32
  let v3 : Index := Scalar.indexCast v2
  ![v3.toNat]
def k0_mult1 (i : grid0.Coords) : BitVec 32 :=
  let arg1 : BitVec 32 := BitVec.ofNat 32 (i 1).val
  let c2_i32_29 : BitVec 32 := 2#32
  let v89 : BitVec 32 := Scalar.muli arg1 c2_i32_29
  let c1_i32_30 : BitVec 32 := 1#32
  let v90 : BitVec 32 := Scalar.subi v89 c1_i32_30
  let c0_i32_31 : BitVec 32 := 0#32
  let v91 : BitVec 32 := Scalar.maxsi v90 c0_i32_31
  let c256_i32 : BitVec 32 := 256#32
  let v92 : BitVec 32 := Scalar.muli v91 c256_i32
  v92
def k0_off2 (i : grid0.Coords) : Fin 2 → Nat :=
  let arg1 : BitVec 32 := BitVec.ofNat 32 (i 1).val
  let c2_i32_29 : BitVec 32 := 2#32
  let v89 : BitVec 32 := Scalar.muli arg1 c2_i32_29
  let c1_i32_30 : BitVec 32 := 1#32
  let v90 : BitVec 32 := Scalar.subi v89 c1_i32_30
  let c0_i32_31 : BitVec 32 := 0#32
  let v91 : BitVec 32 := Scalar.maxsi v90 c0_i32_31
  let c256_i32 : BitVec 32 := 256#32
  let v92 : BitVec 32 := Scalar.muli v91 c256_i32
  let v93 : BitVec 32 := v92
  let v94 : Index := Scalar.indexCast v93
  let c0_32 : Index := 0#32
  ![v94.toNat, 0]
def k0_mult2 (i : grid0.Coords) : BitVec 32 :=
  let arg1 : BitVec 32 := BitVec.ofNat 32 (i 1).val
  let c2_i32_29 : BitVec 32 := 2#32
  let v89 : BitVec 32 := Scalar.muli arg1 c2_i32_29
  let c1_i32_55 : BitVec 32 := 1#32
  let v121 : BitVec 32 := Scalar.addi v89 c1_i32_55
  let c256_i32_56 : BitVec 32 := 256#32
  let v122 : BitVec 32 := Scalar.muli v121 c256_i32_56
  v122
def k0_off3 (i : grid0.Coords) (c1_i32_55 : BitVec 32) : Fin 2 → Nat :=
  let arg1 : BitVec 32 := BitVec.ofNat 32 (i 1).val
  let c2_i32_29 : BitVec 32 := 2#32
  let v89 : BitVec 32 := Scalar.muli arg1 c2_i32_29
  let v121 : BitVec 32 := Scalar.addi v89 c1_i32_55
  let c256_i32_56 : BitVec 32 := 256#32
  let v122 : BitVec 32 := Scalar.muli v121 c256_i32_56
  let v123 : BitVec 32 := v122
  let v124 : Index := Scalar.indexCast v123
  let c0_57 : Index := 0#32
  ![v124.toNat, 0]
def k0_off4 (i : grid0.Coords) : Fin 4 → Nat :=
  let c0_104 : Index := 0#32
  let arg1 : BitVec 32 := BitVec.ofNat 32 (i 1).val
  let c2_i32_29 : BitVec 32 := 2#32
  let v89 : BitVec 32 := Scalar.muli arg1 c2_i32_29
  let c1_i32_55 : BitVec 32 := 1#32
  let v121 : BitVec 32 := Scalar.addi v89 c1_i32_55
  let v223 : Index := Scalar.indexCast v121
  let c0_105 : Index := 0#32
  let c0_106 : Index := 0#32
  ![0, v223.toNat, 0, 0]
def k0_off5 (i : grid0.Coords) : Fin 4 → Nat :=
  let c1 : Index := 1#32
  let arg1 : BitVec 32 := BitVec.ofNat 32 (i 1).val
  let c2_i32_29 : BitVec 32 := 2#32
  let v89 : BitVec 32 := Scalar.muli arg1 c2_i32_29
  let c1_i32_55 : BitVec 32 := 1#32
  let v121 : BitVec 32 := Scalar.addi v89 c1_i32_55
  let v236 : Index := Scalar.indexCast v121
  let c0_116 : Index := 0#32
  let c0_117 : Index := 0#32
  ![1, v236.toNat, 0, 0]
def k0_mult3 (i : grid0.Coords) : BitVec 32 :=
  let arg1 : BitVec 32 := BitVec.ofNat 32 (i 1).val
  let c2_i32_29 : BitVec 32 := 2#32
  let v89 : BitVec 32 := Scalar.muli arg1 c2_i32_29
  let c0_i32_101 : BitVec 32 := 0#32
  let v221 : BitVec 32 := Scalar.addi v89 c0_i32_101
  let c256_i32_125 : BitVec 32 := 256#32
  let v248 : BitVec 32 := Scalar.muli v221 c256_i32_125
  v248
def k0_cond1 (i : grid0.Coords) : BitVec 1 :=
  let arg1 : BitVec 32 := BitVec.ofNat 32 (i 1).val
  let c2_i32_215 : BitVec 32 := 2#32
  let c0_i32_216 : BitVec 32 := 0#32
  let v441 : BitVec 1 := Scalar.cmpi .eq c2_i32_215 c0_i32_216
  let c1_i32_217 : BitVec 32 := 1#32
  let v442 : BitVec 32 := Scalar.select v441 c1_i32_217 c2_i32_215
  let v443 : BitVec 32 := Scalar.remsi arg1 v442
  let c0_i32_219 : BitVec 32 := 0#32
  let v445 : BitVec 1 := Scalar.cmpi .slt v443 c0_i32_219
  let c0_i32_220 : BitVec 32 := 0#32
  let v446 : BitVec 1 := Scalar.cmpi .slt v442 c0_i32_220
  let v447 : BitVec 1 := Scalar.xori v445 v446
  let c0_i32_218 : BitVec 32 := 0#32
  let v444 : BitVec 1 := Scalar.cmpi .ne v443 c0_i32_218
  let v448 : BitVec 1 := Scalar.andi v447 v444
  let v449 : BitVec 32 := Scalar.addi v443 v442
  let v450 : BitVec 32 := Scalar.select v448 v449 v443
  let c1_i32_221 : BitVec 32 := 1#32
  let v451 : BitVec 1 := Scalar.cmpi .eq v450 c1_i32_221
  let v452 : BitVec 32 := Scalar.extui v451
  let c0_i32_222 : BitVec 32 := 0#32
  let v453 : BitVec 1 := Scalar.cmpi .ne v452 c0_i32_222
  v453

def k0_mult4 (i : grid0.Coords) : BitVec 32 :=
  let arg1 : BitVec 32 := BitVec.ofNat 32 (i 1).val
  let c2_i32_29 : BitVec 32 := 2#32
  let v89 : BitVec 32 := Scalar.muli arg1 c2_i32_29
  let c1_i32_291 : BitVec 32 := 1#32
  let v528 : BitVec 32 := Scalar.subi v89 c1_i32_291
  let c1_i32_304 : BitVec 32 := 1#32
  let v537 : BitVec 32 := Scalar.subi v528 c1_i32_304
  let c0_i32_305 : BitVec 32 := 0#32
  let v538 : BitVec 32 := Scalar.maxsi v537 c0_i32_305
  let c256_i32_306 : BitVec 32 := 256#32
  let v539 : BitVec 32 := Scalar.muli v538 c256_i32_306
  v539
def k0_off6 (i : grid0.Coords) (c1_i32_291 : BitVec 32) : Fin 2 → Nat :=
  let arg1 : BitVec 32 := BitVec.ofNat 32 (i 1).val
  let c2_i32_29 : BitVec 32 := 2#32
  let v89 : BitVec 32 := Scalar.muli arg1 c2_i32_29
  let v528 : BitVec 32 := Scalar.subi v89 c1_i32_291
  let c1_i32_304 : BitVec 32 := 1#32
  let v537 : BitVec 32 := Scalar.subi v528 c1_i32_304
  let c0_i32_305 : BitVec 32 := 0#32
  let v538 : BitVec 32 := Scalar.maxsi v537 c0_i32_305
  let c256_i32_306 : BitVec 32 := 256#32
  let v539 : BitVec 32 := Scalar.muli v538 c256_i32_306
  let v540 : BitVec 32 := v539
  let v541 : Index := Scalar.indexCast v540
  let c0_307 : Index := 0#32
  ![v541.toNat, 0]
def k0_off7 (i : grid0.Coords) (c1_i32_291 : BitVec 32) : Fin 4 → Nat :=
  let c0_335 : Index := 0#32
  let arg1 : BitVec 32 := BitVec.ofNat 32 (i 1).val
  let c2_i32_29 : BitVec 32 := 2#32
  let v89 : BitVec 32 := Scalar.muli arg1 c2_i32_29
  let v528 : BitVec 32 := Scalar.subi v89 c1_i32_291
  let c1_i32_332 : BitVec 32 := 1#32
  let v568 : BitVec 32 := Scalar.addi v528 c1_i32_332
  let v570 : Index := Scalar.indexCast v568
  let c0_336 : Index := 0#32
  let c0_337 : Index := 0#32
  ![0, v570.toNat, 0, 0]
def k0_off8 (i : grid0.Coords) (c1_i32_291 : BitVec 32) : Fin 4 → Nat :=
  let c1_359 : Index := 1#32
  let arg1 : BitVec 32 := BitVec.ofNat 32 (i 1).val
  let c2_i32_29 : BitVec 32 := 2#32
  let v89 : BitVec 32 := Scalar.muli arg1 c2_i32_29
  let v528 : BitVec 32 := Scalar.subi v89 c1_i32_291
  let c1_i32_332 : BitVec 32 := 1#32
  let v568 : BitVec 32 := Scalar.addi v528 c1_i32_332
  let v596 : Index := Scalar.indexCast v568
  let c0_360 : Index := 0#32
  let c0_361 : Index := 0#32
  ![1, v596.toNat, 0, 0]
def k0_mult5 (i : grid0.Coords) : BitVec 32 :=
  let arg1 : BitVec 32 := BitVec.ofNat 32 (i 1).val
  let c2_i32_29 : BitVec 32 := 2#32
  let v89 : BitVec 32 := Scalar.muli arg1 c2_i32_29
  let c2_i32_437 : BitVec 32 := 2#32
  let v753 : BitVec 32 := Scalar.subi v89 c2_i32_437
  let c1_i32_450 : BitVec 32 := 1#32
  let v762 : BitVec 32 := Scalar.subi v753 c1_i32_450
  let c0_i32_451 : BitVec 32 := 0#32
  let v763 : BitVec 32 := Scalar.maxsi v762 c0_i32_451
  let c256_i32_452 : BitVec 32 := 256#32
  let v764 : BitVec 32 := Scalar.muli v763 c256_i32_452
  v764
@[reducible] def k0_t1_loop (i : grid0.Coords) : Scf.Loop 32 :=
  let c0_i32_230 : BitVec 32 := 0#32
  let arg1 : BitVec 32 := BitVec.ofNat 32 (i 1).val
  let c0_i32_224 : BitVec 32 := 0#32
  let v455 : BitVec 1 := Scalar.cmpi .sgt arg1 c0_i32_224
  let v456 : BitVec 32 := Scalar.extui v455
  let c0_i32_225 : BitVec 32 := 0#32
  let v457 : BitVec 1 := Scalar.cmpi .slt arg1 c0_i32_225
  let v458 : BitVec 32 := Scalar.extui v457
  let v459 : BitVec 32 := Scalar.subi v456 v458
  let c2_i32_223 : BitVec 32 := 2#32
  let c0_i32_226 : BitVec 32 := 0#32
  let v460 : BitVec 1 := Scalar.cmpi .sgt c2_i32_223 c0_i32_226
  let v461 : BitVec 32 := Scalar.extui v460
  let c0_i32_227 : BitVec 32 := 0#32
  let v462 : BitVec 1 := Scalar.cmpi .slt c2_i32_223 c0_i32_227
  let v463 : BitVec 32 := Scalar.extui v462
  let v464 : BitVec 32 := Scalar.subi v461 v463
  let v465 : BitVec 1 := Scalar.cmpi .ne v459 v464
  let v466 : BitVec 32 := Scalar.remsi arg1 c2_i32_223
  let c0_i32_228 : BitVec 32 := 0#32
  let v467 : BitVec 1 := Scalar.cmpi .ne v466 c0_i32_228
  let v468 : BitVec 1 := Scalar.andi v465 v467
  let v454 : BitVec 32 := Scalar.divsi arg1 c2_i32_223
  let c1_i32_229 : BitVec 32 := 1#32
  let v469 : BitVec 32 := Scalar.subi v454 c1_i32_229
  let v470 : BitVec 32 := Scalar.select v468 v469 v454
  let v471 : BitVec 32 := Scalar.subi v470 c0_i32_230
  let c1_i32_232 : BitVec 32 := 1#32
  let v473 : BitVec 32 := Scalar.divsi v471 c1_i32_232
  let v474 : BitVec 32 := Scalar.muli v473 c1_i32_232
  let v475 : BitVec 32 := Scalar.addi c0_i32_230 v474
  let c1_i32_233 : BitVec 32 := 1#32
  ⟨c0_i32_230, v475, c1_i32_233⟩
def k0_mult6 (i : grid0.Coords) (k0_t1 : Fin (k0_t1_loop i).trips) : BitVec 32 :=
  let c4_i32 : BitVec 32 := 4#32
  let arg1 : BitVec 32 := BitVec.ofNat 32 (i 1).val
  let c0_i32_224 : BitVec 32 := 0#32
  let v455 : BitVec 1 := Scalar.cmpi .sgt arg1 c0_i32_224
  let v456 : BitVec 32 := Scalar.extui v455
  let c0_i32_225 : BitVec 32 := 0#32
  let v457 : BitVec 1 := Scalar.cmpi .slt arg1 c0_i32_225
  let v458 : BitVec 32 := Scalar.extui v457
  let v459 : BitVec 32 := Scalar.subi v456 v458
  let c2_i32_223 : BitVec 32 := 2#32
  let c0_i32_226 : BitVec 32 := 0#32
  let v460 : BitVec 1 := Scalar.cmpi .sgt c2_i32_223 c0_i32_226
  let v461 : BitVec 32 := Scalar.extui v460
  let c0_i32_227 : BitVec 32 := 0#32
  let v462 : BitVec 1 := Scalar.cmpi .slt c2_i32_223 c0_i32_227
  let v463 : BitVec 32 := Scalar.extui v462
  let v464 : BitVec 32 := Scalar.subi v461 v463
  let v465 : BitVec 1 := Scalar.cmpi .ne v459 v464
  let v466 : BitVec 32 := Scalar.remsi arg1 c2_i32_223
  let c0_i32_228 : BitVec 32 := 0#32
  let v467 : BitVec 1 := Scalar.cmpi .ne v466 c0_i32_228
  let v468 : BitVec 1 := Scalar.andi v465 v467
  let v454 : BitVec 32 := Scalar.divsi arg1 c2_i32_223
  let c1_i32_229 : BitVec 32 := 1#32
  let v469 : BitVec 32 := Scalar.subi v454 c1_i32_229
  let v470 : BitVec 32 := Scalar.select v468 v469 v454
  let c0_i32_230 : BitVec 32 := 0#32
  let c1_i32_233 : BitVec 32 := 1#32
  let arg14 : BitVec 32 := Scf.iv c0_i32_230 c1_i32_233 k0_t1
  let v528 : BitVec 32 := Scalar.subi v470 arg14
  let v529 : BitVec 32 := Scalar.muli c4_i32 v528
  let c1_i32_291 : BitVec 32 := 1#32
  let v530 : BitVec 32 := Scalar.subi v529 c1_i32_291
  let c0_i32_292 : BitVec 32 := 0#32
  let v531 : BitVec 32 := Scalar.subi v530 c0_i32_292
  let c1_i32_305 : BitVec 32 := 1#32
  let v540 : BitVec 32 := Scalar.subi v531 c1_i32_305
  let c0_i32_306 : BitVec 32 := 0#32
  let v541 : BitVec 32 := Scalar.maxsi v540 c0_i32_306
  let c256_i32_307 : BitVec 32 := 256#32
  let v542 : BitVec 32 := Scalar.muli v541 c256_i32_307
  v542
def k0_off9 (i : grid0.Coords) (k0_t1 : Fin (k0_t1_loop i).trips) (c0_i32_292 : BitVec 32) : Fin 2 → Nat :=
  let c4_i32 : BitVec 32 := 4#32
  let arg1 : BitVec 32 := BitVec.ofNat 32 (i 1).val
  let c0_i32_224 : BitVec 32 := 0#32
  let v455 : BitVec 1 := Scalar.cmpi .sgt arg1 c0_i32_224
  let v456 : BitVec 32 := Scalar.extui v455
  let c0_i32_225 : BitVec 32 := 0#32
  let v457 : BitVec 1 := Scalar.cmpi .slt arg1 c0_i32_225
  let v458 : BitVec 32 := Scalar.extui v457
  let v459 : BitVec 32 := Scalar.subi v456 v458
  let c2_i32_223 : BitVec 32 := 2#32
  let c0_i32_226 : BitVec 32 := 0#32
  let v460 : BitVec 1 := Scalar.cmpi .sgt c2_i32_223 c0_i32_226
  let v461 : BitVec 32 := Scalar.extui v460
  let c0_i32_227 : BitVec 32 := 0#32
  let v462 : BitVec 1 := Scalar.cmpi .slt c2_i32_223 c0_i32_227
  let v463 : BitVec 32 := Scalar.extui v462
  let v464 : BitVec 32 := Scalar.subi v461 v463
  let v465 : BitVec 1 := Scalar.cmpi .ne v459 v464
  let v466 : BitVec 32 := Scalar.remsi arg1 c2_i32_223
  let c0_i32_228 : BitVec 32 := 0#32
  let v467 : BitVec 1 := Scalar.cmpi .ne v466 c0_i32_228
  let v468 : BitVec 1 := Scalar.andi v465 v467
  let v454 : BitVec 32 := Scalar.divsi arg1 c2_i32_223
  let c1_i32_229 : BitVec 32 := 1#32
  let v469 : BitVec 32 := Scalar.subi v454 c1_i32_229
  let v470 : BitVec 32 := Scalar.select v468 v469 v454
  let c0_i32_230 : BitVec 32 := 0#32
  let c1_i32_233 : BitVec 32 := 1#32
  let arg14 : BitVec 32 := Scf.iv c0_i32_230 c1_i32_233 k0_t1
  let v528 : BitVec 32 := Scalar.subi v470 arg14
  let v529 : BitVec 32 := Scalar.muli c4_i32 v528
  let c1_i32_291 : BitVec 32 := 1#32
  let v530 : BitVec 32 := Scalar.subi v529 c1_i32_291
  let v531 : BitVec 32 := Scalar.subi v530 c0_i32_292
  let c1_i32_305 : BitVec 32 := 1#32
  let v540 : BitVec 32 := Scalar.subi v531 c1_i32_305
  let c0_i32_306 : BitVec 32 := 0#32
  let v541 : BitVec 32 := Scalar.maxsi v540 c0_i32_306
  let c256_i32_307 : BitVec 32 := 256#32
  let v542 : BitVec 32 := Scalar.muli v541 c256_i32_307
  let v543 : BitVec 32 := v542
  let v544 : Index := Scalar.indexCast v543
  let c0_308 : Index := 0#32
  ![v544.toNat, 0]
def k0_off10 (i : grid0.Coords) (k0_t1 : Fin (k0_t1_loop i).trips) (c0_i32_292 : BitVec 32) : Fin 4 → Nat :=
  let c0_336 : Index := 0#32
  let c4_i32 : BitVec 32 := 4#32
  let arg1 : BitVec 32 := BitVec.ofNat 32 (i 1).val
  let c0_i32_224 : BitVec 32 := 0#32
  let v455 : BitVec 1 := Scalar.cmpi .sgt arg1 c0_i32_224
  let v456 : BitVec 32 := Scalar.extui v455
  let c0_i32_225 : BitVec 32 := 0#32
  let v457 : BitVec 1 := Scalar.cmpi .slt arg1 c0_i32_225
  let v458 : BitVec 32 := Scalar.extui v457
  let v459 : BitVec 32 := Scalar.subi v456 v458
  let c2_i32_223 : BitVec 32 := 2#32
  let c0_i32_226 : BitVec 32 := 0#32
  let v460 : BitVec 1 := Scalar.cmpi .sgt c2_i32_223 c0_i32_226
  let v461 : BitVec 32 := Scalar.extui v460
  let c0_i32_227 : BitVec 32 := 0#32
  let v462 : BitVec 1 := Scalar.cmpi .slt c2_i32_223 c0_i32_227
  let v463 : BitVec 32 := Scalar.extui v462
  let v464 : BitVec 32 := Scalar.subi v461 v463
  let v465 : BitVec 1 := Scalar.cmpi .ne v459 v464
  let v466 : BitVec 32 := Scalar.remsi arg1 c2_i32_223
  let c0_i32_228 : BitVec 32 := 0#32
  let v467 : BitVec 1 := Scalar.cmpi .ne v466 c0_i32_228
  let v468 : BitVec 1 := Scalar.andi v465 v467
  let v454 : BitVec 32 := Scalar.divsi arg1 c2_i32_223
  let c1_i32_229 : BitVec 32 := 1#32
  let v469 : BitVec 32 := Scalar.subi v454 c1_i32_229
  let v470 : BitVec 32 := Scalar.select v468 v469 v454
  let c0_i32_230 : BitVec 32 := 0#32
  let c1_i32_233 : BitVec 32 := 1#32
  let arg14 : BitVec 32 := Scf.iv c0_i32_230 c1_i32_233 k0_t1
  let v528 : BitVec 32 := Scalar.subi v470 arg14
  let v529 : BitVec 32 := Scalar.muli c4_i32 v528
  let c1_i32_291 : BitVec 32 := 1#32
  let v530 : BitVec 32 := Scalar.subi v529 c1_i32_291
  let v531 : BitVec 32 := Scalar.subi v530 c0_i32_292
  let c1_i32_333 : BitVec 32 := 1#32
  let v571 : BitVec 32 := Scalar.addi v531 c1_i32_333
  let v573 : Index := Scalar.indexCast v571
  let c0_337 : Index := 0#32
  let c0_338 : Index := 0#32
  ![0, v573.toNat, 0, 0]
def k0_off11 (i : grid0.Coords) (k0_t1 : Fin (k0_t1_loop i).trips) (c0_i32_292 : BitVec 32) : Fin 4 → Nat :=
  let c1_360 : Index := 1#32
  let c4_i32 : BitVec 32 := 4#32
  let arg1 : BitVec 32 := BitVec.ofNat 32 (i 1).val
  let c0_i32_224 : BitVec 32 := 0#32
  let v455 : BitVec 1 := Scalar.cmpi .sgt arg1 c0_i32_224
  let v456 : BitVec 32 := Scalar.extui v455
  let c0_i32_225 : BitVec 32 := 0#32
  let v457 : BitVec 1 := Scalar.cmpi .slt arg1 c0_i32_225
  let v458 : BitVec 32 := Scalar.extui v457
  let v459 : BitVec 32 := Scalar.subi v456 v458
  let c2_i32_223 : BitVec 32 := 2#32
  let c0_i32_226 : BitVec 32 := 0#32
  let v460 : BitVec 1 := Scalar.cmpi .sgt c2_i32_223 c0_i32_226
  let v461 : BitVec 32 := Scalar.extui v460
  let c0_i32_227 : BitVec 32 := 0#32
  let v462 : BitVec 1 := Scalar.cmpi .slt c2_i32_223 c0_i32_227
  let v463 : BitVec 32 := Scalar.extui v462
  let v464 : BitVec 32 := Scalar.subi v461 v463
  let v465 : BitVec 1 := Scalar.cmpi .ne v459 v464
  let v466 : BitVec 32 := Scalar.remsi arg1 c2_i32_223
  let c0_i32_228 : BitVec 32 := 0#32
  let v467 : BitVec 1 := Scalar.cmpi .ne v466 c0_i32_228
  let v468 : BitVec 1 := Scalar.andi v465 v467
  let v454 : BitVec 32 := Scalar.divsi arg1 c2_i32_223
  let c1_i32_229 : BitVec 32 := 1#32
  let v469 : BitVec 32 := Scalar.subi v454 c1_i32_229
  let v470 : BitVec 32 := Scalar.select v468 v469 v454
  let c0_i32_230 : BitVec 32 := 0#32
  let c1_i32_233 : BitVec 32 := 1#32
  let arg14 : BitVec 32 := Scf.iv c0_i32_230 c1_i32_233 k0_t1
  let v528 : BitVec 32 := Scalar.subi v470 arg14
  let v529 : BitVec 32 := Scalar.muli c4_i32 v528
  let c1_i32_291 : BitVec 32 := 1#32
  let v530 : BitVec 32 := Scalar.subi v529 c1_i32_291
  let v531 : BitVec 32 := Scalar.subi v530 c0_i32_292
  let c1_i32_333 : BitVec 32 := 1#32
  let v571 : BitVec 32 := Scalar.addi v531 c1_i32_333
  let v599 : Index := Scalar.indexCast v571
  let c0_361 : Index := 0#32
  let c0_362 : Index := 0#32
  ![1, v599.toNat, 0, 0]
def k0_mult7 (i : grid0.Coords) (k0_t1 : Fin (k0_t1_loop i).trips) : BitVec 32 :=
  let c4_i32 : BitVec 32 := 4#32
  let arg1 : BitVec 32 := BitVec.ofNat 32 (i 1).val
  let c0_i32_224 : BitVec 32 := 0#32
  let v455 : BitVec 1 := Scalar.cmpi .sgt arg1 c0_i32_224
  let v456 : BitVec 32 := Scalar.extui v455
  let c0_i32_225 : BitVec 32 := 0#32
  let v457 : BitVec 1 := Scalar.cmpi .slt arg1 c0_i32_225
  let v458 : BitVec 32 := Scalar.extui v457
  let v459 : BitVec 32 := Scalar.subi v456 v458
  let c2_i32_223 : BitVec 32 := 2#32
  let c0_i32_226 : BitVec 32 := 0#32
  let v460 : BitVec 1 := Scalar.cmpi .sgt c2_i32_223 c0_i32_226
  let v461 : BitVec 32 := Scalar.extui v460
  let c0_i32_227 : BitVec 32 := 0#32
  let v462 : BitVec 1 := Scalar.cmpi .slt c2_i32_223 c0_i32_227
  let v463 : BitVec 32 := Scalar.extui v462
  let v464 : BitVec 32 := Scalar.subi v461 v463
  let v465 : BitVec 1 := Scalar.cmpi .ne v459 v464
  let v466 : BitVec 32 := Scalar.remsi arg1 c2_i32_223
  let c0_i32_228 : BitVec 32 := 0#32
  let v467 : BitVec 1 := Scalar.cmpi .ne v466 c0_i32_228
  let v468 : BitVec 1 := Scalar.andi v465 v467
  let v454 : BitVec 32 := Scalar.divsi arg1 c2_i32_223
  let c1_i32_229 : BitVec 32 := 1#32
  let v469 : BitVec 32 := Scalar.subi v454 c1_i32_229
  let v470 : BitVec 32 := Scalar.select v468 v469 v454
  let c0_i32_230 : BitVec 32 := 0#32
  let c1_i32_233 : BitVec 32 := 1#32
  let arg14 : BitVec 32 := Scf.iv c0_i32_230 c1_i32_233 k0_t1
  let v528 : BitVec 32 := Scalar.subi v470 arg14
  let v529 : BitVec 32 := Scalar.muli c4_i32 v528
  let c1_i32_291 : BitVec 32 := 1#32
  let v530 : BitVec 32 := Scalar.subi v529 c1_i32_291
  let c1_i32_438 : BitVec 32 := 1#32
  let v756 : BitVec 32 := Scalar.subi v530 c1_i32_438
  let c1_i32_451 : BitVec 32 := 1#32
  let v765 : BitVec 32 := Scalar.subi v756 c1_i32_451
  let c0_i32_452 : BitVec 32 := 0#32
  let v766 : BitVec 32 := Scalar.maxsi v765 c0_i32_452
  let c256_i32_453 : BitVec 32 := 256#32
  let v767 : BitVec 32 := Scalar.muli v766 c256_i32_453
  v767
def k0_mult8 (i : grid0.Coords) (k0_t1 : Fin (k0_t1_loop i).trips) : BitVec 32 :=
  let c4_i32 : BitVec 32 := 4#32
  let arg1 : BitVec 32 := BitVec.ofNat 32 (i 1).val
  let c0_i32_224 : BitVec 32 := 0#32
  let v455 : BitVec 1 := Scalar.cmpi .sgt arg1 c0_i32_224
  let v456 : BitVec 32 := Scalar.extui v455
  let c0_i32_225 : BitVec 32 := 0#32
  let v457 : BitVec 1 := Scalar.cmpi .slt arg1 c0_i32_225
  let v458 : BitVec 32 := Scalar.extui v457
  let v459 : BitVec 32 := Scalar.subi v456 v458
  let c2_i32_223 : BitVec 32 := 2#32
  let c0_i32_226 : BitVec 32 := 0#32
  let v460 : BitVec 1 := Scalar.cmpi .sgt c2_i32_223 c0_i32_226
  let v461 : BitVec 32 := Scalar.extui v460
  let c0_i32_227 : BitVec 32 := 0#32
  let v462 : BitVec 1 := Scalar.cmpi .slt c2_i32_223 c0_i32_227
  let v463 : BitVec 32 := Scalar.extui v462
  let v464 : BitVec 32 := Scalar.subi v461 v463
  let v465 : BitVec 1 := Scalar.cmpi .ne v459 v464
  let v466 : BitVec 32 := Scalar.remsi arg1 c2_i32_223
  let c0_i32_228 : BitVec 32 := 0#32
  let v467 : BitVec 1 := Scalar.cmpi .ne v466 c0_i32_228
  let v468 : BitVec 1 := Scalar.andi v465 v467
  let v454 : BitVec 32 := Scalar.divsi arg1 c2_i32_223
  let c1_i32_229 : BitVec 32 := 1#32
  let v469 : BitVec 32 := Scalar.subi v454 c1_i32_229
  let v470 : BitVec 32 := Scalar.select v468 v469 v454
  let c0_i32_230 : BitVec 32 := 0#32
  let c1_i32_233 : BitVec 32 := 1#32
  let arg14 : BitVec 32 := Scf.iv c0_i32_230 c1_i32_233 k0_t1
  let v528 : BitVec 32 := Scalar.subi v470 arg14
  let v529 : BitVec 32 := Scalar.muli c4_i32 v528
  let c1_i32_291 : BitVec 32 := 1#32
  let v530 : BitVec 32 := Scalar.subi v529 c1_i32_291
  let c2_i32_584 : BitVec 32 := 2#32
  let v981 : BitVec 32 := Scalar.subi v530 c2_i32_584
  let c1_i32_597 : BitVec 32 := 1#32
  let v990 : BitVec 32 := Scalar.subi v981 c1_i32_597
  let c0_i32_598 : BitVec 32 := 0#32
  let v991 : BitVec 32 := Scalar.maxsi v990 c0_i32_598
  let c256_i32_599 : BitVec 32 := 256#32
  let v992 : BitVec 32 := Scalar.muli v991 c256_i32_599
  v992
def k0_mult9 (i : grid0.Coords) (k0_t1 : Fin (k0_t1_loop i).trips) : BitVec 32 :=
  let c4_i32 : BitVec 32 := 4#32
  let arg1 : BitVec 32 := BitVec.ofNat 32 (i 1).val
  let c0_i32_224 : BitVec 32 := 0#32
  let v455 : BitVec 1 := Scalar.cmpi .sgt arg1 c0_i32_224
  let v456 : BitVec 32 := Scalar.extui v455
  let c0_i32_225 : BitVec 32 := 0#32
  let v457 : BitVec 1 := Scalar.cmpi .slt arg1 c0_i32_225
  let v458 : BitVec 32 := Scalar.extui v457
  let v459 : BitVec 32 := Scalar.subi v456 v458
  let c2_i32_223 : BitVec 32 := 2#32
  let c0_i32_226 : BitVec 32 := 0#32
  let v460 : BitVec 1 := Scalar.cmpi .sgt c2_i32_223 c0_i32_226
  let v461 : BitVec 32 := Scalar.extui v460
  let c0_i32_227 : BitVec 32 := 0#32
  let v462 : BitVec 1 := Scalar.cmpi .slt c2_i32_223 c0_i32_227
  let v463 : BitVec 32 := Scalar.extui v462
  let v464 : BitVec 32 := Scalar.subi v461 v463
  let v465 : BitVec 1 := Scalar.cmpi .ne v459 v464
  let v466 : BitVec 32 := Scalar.remsi arg1 c2_i32_223
  let c0_i32_228 : BitVec 32 := 0#32
  let v467 : BitVec 1 := Scalar.cmpi .ne v466 c0_i32_228
  let v468 : BitVec 1 := Scalar.andi v465 v467
  let v454 : BitVec 32 := Scalar.divsi arg1 c2_i32_223
  let c1_i32_229 : BitVec 32 := 1#32
  let v469 : BitVec 32 := Scalar.subi v454 c1_i32_229
  let v470 : BitVec 32 := Scalar.select v468 v469 v454
  let c0_i32_230 : BitVec 32 := 0#32
  let c1_i32_233 : BitVec 32 := 1#32
  let arg14 : BitVec 32 := Scf.iv c0_i32_230 c1_i32_233 k0_t1
  let v528 : BitVec 32 := Scalar.subi v470 arg14
  let v529 : BitVec 32 := Scalar.muli c4_i32 v528
  let c1_i32_291 : BitVec 32 := 1#32
  let v530 : BitVec 32 := Scalar.subi v529 c1_i32_291
  let c3_i32 : BitVec 32 := 3#32
  let v1206 : BitVec 32 := Scalar.subi v530 c3_i32
  let c1_i32_742 : BitVec 32 := 1#32
  let v1215 : BitVec 32 := Scalar.subi v1206 c1_i32_742
  let c0_i32_743 : BitVec 32 := 0#32
  let v1216 : BitVec 32 := Scalar.maxsi v1215 c0_i32_743
  let c256_i32_744 : BitVec 32 := 256#32
  let v1217 : BitVec 32 := Scalar.muli v1216 c256_i32_744
  v1217
@[reducible] def k0_t2_loop (i : grid0.Coords) : Scf.Loop 32 :=
  let c0_i32_230 : BitVec 32 := 0#32
  let arg1 : BitVec 32 := BitVec.ofNat 32 (i 1).val
  let c0_i32_224 : BitVec 32 := 0#32
  let v455 : BitVec 1 := Scalar.cmpi .sgt arg1 c0_i32_224
  let v456 : BitVec 32 := Scalar.extui v455
  let c0_i32_225 : BitVec 32 := 0#32
  let v457 : BitVec 1 := Scalar.cmpi .slt arg1 c0_i32_225
  let v458 : BitVec 32 := Scalar.extui v457
  let v459 : BitVec 32 := Scalar.subi v456 v458
  let c2_i32_223 : BitVec 32 := 2#32
  let c0_i32_226 : BitVec 32 := 0#32
  let v460 : BitVec 1 := Scalar.cmpi .sgt c2_i32_223 c0_i32_226
  let v461 : BitVec 32 := Scalar.extui v460
  let c0_i32_227 : BitVec 32 := 0#32
  let v462 : BitVec 1 := Scalar.cmpi .slt c2_i32_223 c0_i32_227
  let v463 : BitVec 32 := Scalar.extui v462
  let v464 : BitVec 32 := Scalar.subi v461 v463
  let v465 : BitVec 1 := Scalar.cmpi .ne v459 v464
  let v466 : BitVec 32 := Scalar.remsi arg1 c2_i32_223
  let c0_i32_228 : BitVec 32 := 0#32
  let v467 : BitVec 1 := Scalar.cmpi .ne v466 c0_i32_228
  let v468 : BitVec 1 := Scalar.andi v465 v467
  let v454 : BitVec 32 := Scalar.divsi arg1 c2_i32_223
  let c1_i32_229 : BitVec 32 := 1#32
  let v469 : BitVec 32 := Scalar.subi v454 c1_i32_229
  let v470 : BitVec 32 := Scalar.select v468 v469 v454
  let v471 : BitVec 32 := Scalar.subi v470 c0_i32_230
  let c1_i32_232 : BitVec 32 := 1#32
  let v473 : BitVec 32 := Scalar.divsi v471 c1_i32_232
  let v474 : BitVec 32 := Scalar.muli v473 c1_i32_232
  let v475 : BitVec 32 := Scalar.addi c0_i32_230 v474
  let v472 : BitVec 32 := Scalar.addi c0_i32_230 v471
  let c1_i32_234 : BitVec 32 := 1#32
  ⟨v475, v472, c1_i32_234⟩
def k0_mult10 (i : grid0.Coords) (k0_t2 : Fin (k0_t2_loop i).trips) : BitVec 32 :=
  let c4_i32 : BitVec 32 := 4#32
  let arg1 : BitVec 32 := BitVec.ofNat 32 (i 1).val
  let c0_i32_224 : BitVec 32 := 0#32
  let v455 : BitVec 1 := Scalar.cmpi .sgt arg1 c0_i32_224
  let v456 : BitVec 32 := Scalar.extui v455
  let c0_i32_225 : BitVec 32 := 0#32
  let v457 : BitVec 1 := Scalar.cmpi .slt arg1 c0_i32_225
  let v458 : BitVec 32 := Scalar.extui v457
  let v459 : BitVec 32 := Scalar.subi v456 v458
  let c2_i32_223 : BitVec 32 := 2#32
  let c0_i32_226 : BitVec 32 := 0#32
  let v460 : BitVec 1 := Scalar.cmpi .sgt c2_i32_223 c0_i32_226
  let v461 : BitVec 32 := Scalar.extui v460
  let c0_i32_227 : BitVec 32 := 0#32
  let v462 : BitVec 1 := Scalar.cmpi .slt c2_i32_223 c0_i32_227
  let v463 : BitVec 32 := Scalar.extui v462
  let v464 : BitVec 32 := Scalar.subi v461 v463
  let v465 : BitVec 1 := Scalar.cmpi .ne v459 v464
  let v466 : BitVec 32 := Scalar.remsi arg1 c2_i32_223
  let c0_i32_228 : BitVec 32 := 0#32
  let v467 : BitVec 1 := Scalar.cmpi .ne v466 c0_i32_228
  let v468 : BitVec 1 := Scalar.andi v465 v467
  let v454 : BitVec 32 := Scalar.divsi arg1 c2_i32_223
  let c1_i32_229 : BitVec 32 := 1#32
  let v469 : BitVec 32 := Scalar.subi v454 c1_i32_229
  let v470 : BitVec 32 := Scalar.select v468 v469 v454
  let c0_i32_230 : BitVec 32 := 0#32
  let v471 : BitVec 32 := Scalar.subi v470 c0_i32_230
  let c1_i32_232 : BitVec 32 := 1#32
  let v473 : BitVec 32 := Scalar.divsi v471 c1_i32_232
  let v474 : BitVec 32 := Scalar.muli v473 c1_i32_232
  let v475 : BitVec 32 := Scalar.addi c0_i32_230 v474
  let c1_i32_234 : BitVec 32 := 1#32
  let arg14 : BitVec 32 := Scf.iv v475 c1_i32_234 k0_t2
  let v528 : BitVec 32 := Scalar.subi v470 arg14
  let v529 : BitVec 32 := Scalar.muli c4_i32 v528
  let c1_i32_291 : BitVec 32 := 1#32
  let v530 : BitVec 32 := Scalar.subi v529 c1_i32_291
  let c0_i32_292 : BitVec 32 := 0#32
  let v531 : BitVec 32 := Scalar.subi v530 c0_i32_292
  let c1_i32_305 : BitVec 32 := 1#32
  let v540 : BitVec 32 := Scalar.subi v531 c1_i32_305
  let c0_i32_306 : BitVec 32 := 0#32
  let v541 : BitVec 32 := Scalar.maxsi v540 c0_i32_306
  let c256_i32_307 : BitVec 32 := 256#32
  let v542 : BitVec 32 := Scalar.muli v541 c256_i32_307
  v542
def k0_off12 (i : grid0.Coords) (k0_t2 : Fin (k0_t2_loop i).trips) (c0_i32_292 : BitVec 32) : Fin 2 → Nat :=
  let c4_i32 : BitVec 32 := 4#32
  let arg1 : BitVec 32 := BitVec.ofNat 32 (i 1).val
  let c0_i32_224 : BitVec 32 := 0#32
  let v455 : BitVec 1 := Scalar.cmpi .sgt arg1 c0_i32_224
  let v456 : BitVec 32 := Scalar.extui v455
  let c0_i32_225 : BitVec 32 := 0#32
  let v457 : BitVec 1 := Scalar.cmpi .slt arg1 c0_i32_225
  let v458 : BitVec 32 := Scalar.extui v457
  let v459 : BitVec 32 := Scalar.subi v456 v458
  let c2_i32_223 : BitVec 32 := 2#32
  let c0_i32_226 : BitVec 32 := 0#32
  let v460 : BitVec 1 := Scalar.cmpi .sgt c2_i32_223 c0_i32_226
  let v461 : BitVec 32 := Scalar.extui v460
  let c0_i32_227 : BitVec 32 := 0#32
  let v462 : BitVec 1 := Scalar.cmpi .slt c2_i32_223 c0_i32_227
  let v463 : BitVec 32 := Scalar.extui v462
  let v464 : BitVec 32 := Scalar.subi v461 v463
  let v465 : BitVec 1 := Scalar.cmpi .ne v459 v464
  let v466 : BitVec 32 := Scalar.remsi arg1 c2_i32_223
  let c0_i32_228 : BitVec 32 := 0#32
  let v467 : BitVec 1 := Scalar.cmpi .ne v466 c0_i32_228
  let v468 : BitVec 1 := Scalar.andi v465 v467
  let v454 : BitVec 32 := Scalar.divsi arg1 c2_i32_223
  let c1_i32_229 : BitVec 32 := 1#32
  let v469 : BitVec 32 := Scalar.subi v454 c1_i32_229
  let v470 : BitVec 32 := Scalar.select v468 v469 v454
  let c0_i32_230 : BitVec 32 := 0#32
  let v471 : BitVec 32 := Scalar.subi v470 c0_i32_230
  let c1_i32_232 : BitVec 32 := 1#32
  let v473 : BitVec 32 := Scalar.divsi v471 c1_i32_232
  let v474 : BitVec 32 := Scalar.muli v473 c1_i32_232
  let v475 : BitVec 32 := Scalar.addi c0_i32_230 v474
  let c1_i32_234 : BitVec 32 := 1#32
  let arg14 : BitVec 32 := Scf.iv v475 c1_i32_234 k0_t2
  let v528 : BitVec 32 := Scalar.subi v470 arg14
  let v529 : BitVec 32 := Scalar.muli c4_i32 v528
  let c1_i32_291 : BitVec 32 := 1#32
  let v530 : BitVec 32 := Scalar.subi v529 c1_i32_291
  let v531 : BitVec 32 := Scalar.subi v530 c0_i32_292
  let c1_i32_305 : BitVec 32 := 1#32
  let v540 : BitVec 32 := Scalar.subi v531 c1_i32_305
  let c0_i32_306 : BitVec 32 := 0#32
  let v541 : BitVec 32 := Scalar.maxsi v540 c0_i32_306
  let c256_i32_307 : BitVec 32 := 256#32
  let v542 : BitVec 32 := Scalar.muli v541 c256_i32_307
  let v543 : BitVec 32 := v542
  let v544 : Index := Scalar.indexCast v543
  let c0_308 : Index := 0#32
  ![v544.toNat, 0]
def k0_off13 (i : grid0.Coords) (k0_t2 : Fin (k0_t2_loop i).trips) (c0_i32_292 : BitVec 32) : Fin 4 → Nat :=
  let c0_336 : Index := 0#32
  let c4_i32 : BitVec 32 := 4#32
  let arg1 : BitVec 32 := BitVec.ofNat 32 (i 1).val
  let c0_i32_224 : BitVec 32 := 0#32
  let v455 : BitVec 1 := Scalar.cmpi .sgt arg1 c0_i32_224
  let v456 : BitVec 32 := Scalar.extui v455
  let c0_i32_225 : BitVec 32 := 0#32
  let v457 : BitVec 1 := Scalar.cmpi .slt arg1 c0_i32_225
  let v458 : BitVec 32 := Scalar.extui v457
  let v459 : BitVec 32 := Scalar.subi v456 v458
  let c2_i32_223 : BitVec 32 := 2#32
  let c0_i32_226 : BitVec 32 := 0#32
  let v460 : BitVec 1 := Scalar.cmpi .sgt c2_i32_223 c0_i32_226
  let v461 : BitVec 32 := Scalar.extui v460
  let c0_i32_227 : BitVec 32 := 0#32
  let v462 : BitVec 1 := Scalar.cmpi .slt c2_i32_223 c0_i32_227
  let v463 : BitVec 32 := Scalar.extui v462
  let v464 : BitVec 32 := Scalar.subi v461 v463
  let v465 : BitVec 1 := Scalar.cmpi .ne v459 v464
  let v466 : BitVec 32 := Scalar.remsi arg1 c2_i32_223
  let c0_i32_228 : BitVec 32 := 0#32
  let v467 : BitVec 1 := Scalar.cmpi .ne v466 c0_i32_228
  let v468 : BitVec 1 := Scalar.andi v465 v467
  let v454 : BitVec 32 := Scalar.divsi arg1 c2_i32_223
  let c1_i32_229 : BitVec 32 := 1#32
  let v469 : BitVec 32 := Scalar.subi v454 c1_i32_229
  let v470 : BitVec 32 := Scalar.select v468 v469 v454
  let c0_i32_230 : BitVec 32 := 0#32
  let v471 : BitVec 32 := Scalar.subi v470 c0_i32_230
  let c1_i32_232 : BitVec 32 := 1#32
  let v473 : BitVec 32 := Scalar.divsi v471 c1_i32_232
  let v474 : BitVec 32 := Scalar.muli v473 c1_i32_232
  let v475 : BitVec 32 := Scalar.addi c0_i32_230 v474
  let c1_i32_234 : BitVec 32 := 1#32
  let arg14 : BitVec 32 := Scf.iv v475 c1_i32_234 k0_t2
  let v528 : BitVec 32 := Scalar.subi v470 arg14
  let v529 : BitVec 32 := Scalar.muli c4_i32 v528
  let c1_i32_291 : BitVec 32 := 1#32
  let v530 : BitVec 32 := Scalar.subi v529 c1_i32_291
  let v531 : BitVec 32 := Scalar.subi v530 c0_i32_292
  let c1_i32_333 : BitVec 32 := 1#32
  let v571 : BitVec 32 := Scalar.addi v531 c1_i32_333
  let v573 : Index := Scalar.indexCast v571
  let c0_337 : Index := 0#32
  let c0_338 : Index := 0#32
  ![0, v573.toNat, 0, 0]
def k0_off14 (i : grid0.Coords) (k0_t2 : Fin (k0_t2_loop i).trips) (c0_i32_292 : BitVec 32) : Fin 4 → Nat :=
  let c1_360 : Index := 1#32
  let c4_i32 : BitVec 32 := 4#32
  let arg1 : BitVec 32 := BitVec.ofNat 32 (i 1).val
  let c0_i32_224 : BitVec 32 := 0#32
  let v455 : BitVec 1 := Scalar.cmpi .sgt arg1 c0_i32_224
  let v456 : BitVec 32 := Scalar.extui v455
  let c0_i32_225 : BitVec 32 := 0#32
  let v457 : BitVec 1 := Scalar.cmpi .slt arg1 c0_i32_225
  let v458 : BitVec 32 := Scalar.extui v457
  let v459 : BitVec 32 := Scalar.subi v456 v458
  let c2_i32_223 : BitVec 32 := 2#32
  let c0_i32_226 : BitVec 32 := 0#32
  let v460 : BitVec 1 := Scalar.cmpi .sgt c2_i32_223 c0_i32_226
  let v461 : BitVec 32 := Scalar.extui v460
  let c0_i32_227 : BitVec 32 := 0#32
  let v462 : BitVec 1 := Scalar.cmpi .slt c2_i32_223 c0_i32_227
  let v463 : BitVec 32 := Scalar.extui v462
  let v464 : BitVec 32 := Scalar.subi v461 v463
  let v465 : BitVec 1 := Scalar.cmpi .ne v459 v464
  let v466 : BitVec 32 := Scalar.remsi arg1 c2_i32_223
  let c0_i32_228 : BitVec 32 := 0#32
  let v467 : BitVec 1 := Scalar.cmpi .ne v466 c0_i32_228
  let v468 : BitVec 1 := Scalar.andi v465 v467
  let v454 : BitVec 32 := Scalar.divsi arg1 c2_i32_223
  let c1_i32_229 : BitVec 32 := 1#32
  let v469 : BitVec 32 := Scalar.subi v454 c1_i32_229
  let v470 : BitVec 32 := Scalar.select v468 v469 v454
  let c0_i32_230 : BitVec 32 := 0#32
  let v471 : BitVec 32 := Scalar.subi v470 c0_i32_230
  let c1_i32_232 : BitVec 32 := 1#32
  let v473 : BitVec 32 := Scalar.divsi v471 c1_i32_232
  let v474 : BitVec 32 := Scalar.muli v473 c1_i32_232
  let v475 : BitVec 32 := Scalar.addi c0_i32_230 v474
  let c1_i32_234 : BitVec 32 := 1#32
  let arg14 : BitVec 32 := Scf.iv v475 c1_i32_234 k0_t2
  let v528 : BitVec 32 := Scalar.subi v470 arg14
  let v529 : BitVec 32 := Scalar.muli c4_i32 v528
  let c1_i32_291 : BitVec 32 := 1#32
  let v530 : BitVec 32 := Scalar.subi v529 c1_i32_291
  let v531 : BitVec 32 := Scalar.subi v530 c0_i32_292
  let c1_i32_333 : BitVec 32 := 1#32
  let v571 : BitVec 32 := Scalar.addi v531 c1_i32_333
  let v599 : Index := Scalar.indexCast v571
  let c0_361 : Index := 0#32
  let c0_362 : Index := 0#32
  ![1, v599.toNat, 0, 0]
def k0_mult11 (i : grid0.Coords) (k0_t2 : Fin (k0_t2_loop i).trips) : BitVec 32 :=
  let c4_i32 : BitVec 32 := 4#32
  let arg1 : BitVec 32 := BitVec.ofNat 32 (i 1).val
  let c0_i32_224 : BitVec 32 := 0#32
  let v455 : BitVec 1 := Scalar.cmpi .sgt arg1 c0_i32_224
  let v456 : BitVec 32 := Scalar.extui v455
  let c0_i32_225 : BitVec 32 := 0#32
  let v457 : BitVec 1 := Scalar.cmpi .slt arg1 c0_i32_225
  let v458 : BitVec 32 := Scalar.extui v457
  let v459 : BitVec 32 := Scalar.subi v456 v458
  let c2_i32_223 : BitVec 32 := 2#32
  let c0_i32_226 : BitVec 32 := 0#32
  let v460 : BitVec 1 := Scalar.cmpi .sgt c2_i32_223 c0_i32_226
  let v461 : BitVec 32 := Scalar.extui v460
  let c0_i32_227 : BitVec 32 := 0#32
  let v462 : BitVec 1 := Scalar.cmpi .slt c2_i32_223 c0_i32_227
  let v463 : BitVec 32 := Scalar.extui v462
  let v464 : BitVec 32 := Scalar.subi v461 v463
  let v465 : BitVec 1 := Scalar.cmpi .ne v459 v464
  let v466 : BitVec 32 := Scalar.remsi arg1 c2_i32_223
  let c0_i32_228 : BitVec 32 := 0#32
  let v467 : BitVec 1 := Scalar.cmpi .ne v466 c0_i32_228
  let v468 : BitVec 1 := Scalar.andi v465 v467
  let v454 : BitVec 32 := Scalar.divsi arg1 c2_i32_223
  let c1_i32_229 : BitVec 32 := 1#32
  let v469 : BitVec 32 := Scalar.subi v454 c1_i32_229
  let v470 : BitVec 32 := Scalar.select v468 v469 v454
  let c0_i32_230 : BitVec 32 := 0#32
  let v471 : BitVec 32 := Scalar.subi v470 c0_i32_230
  let c1_i32_232 : BitVec 32 := 1#32
  let v473 : BitVec 32 := Scalar.divsi v471 c1_i32_232
  let v474 : BitVec 32 := Scalar.muli v473 c1_i32_232
  let v475 : BitVec 32 := Scalar.addi c0_i32_230 v474
  let c1_i32_234 : BitVec 32 := 1#32
  let arg14 : BitVec 32 := Scf.iv v475 c1_i32_234 k0_t2
  let v528 : BitVec 32 := Scalar.subi v470 arg14
  let v529 : BitVec 32 := Scalar.muli c4_i32 v528
  let c1_i32_291 : BitVec 32 := 1#32
  let v530 : BitVec 32 := Scalar.subi v529 c1_i32_291
  let c1_i32_438 : BitVec 32 := 1#32
  let v756 : BitVec 32 := Scalar.subi v530 c1_i32_438
  let c1_i32_451 : BitVec 32 := 1#32
  let v765 : BitVec 32 := Scalar.subi v756 c1_i32_451
  let c0_i32_452 : BitVec 32 := 0#32
  let v766 : BitVec 32 := Scalar.maxsi v765 c0_i32_452
  let c256_i32_453 : BitVec 32 := 256#32
  let v767 : BitVec 32 := Scalar.muli v766 c256_i32_453
  v767
def k0_mult12 (i : grid0.Coords) (k0_t2 : Fin (k0_t2_loop i).trips) : BitVec 32 :=
  let c4_i32 : BitVec 32 := 4#32
  let arg1 : BitVec 32 := BitVec.ofNat 32 (i 1).val
  let c0_i32_224 : BitVec 32 := 0#32
  let v455 : BitVec 1 := Scalar.cmpi .sgt arg1 c0_i32_224
  let v456 : BitVec 32 := Scalar.extui v455
  let c0_i32_225 : BitVec 32 := 0#32
  let v457 : BitVec 1 := Scalar.cmpi .slt arg1 c0_i32_225
  let v458 : BitVec 32 := Scalar.extui v457
  let v459 : BitVec 32 := Scalar.subi v456 v458
  let c2_i32_223 : BitVec 32 := 2#32
  let c0_i32_226 : BitVec 32 := 0#32
  let v460 : BitVec 1 := Scalar.cmpi .sgt c2_i32_223 c0_i32_226
  let v461 : BitVec 32 := Scalar.extui v460
  let c0_i32_227 : BitVec 32 := 0#32
  let v462 : BitVec 1 := Scalar.cmpi .slt c2_i32_223 c0_i32_227
  let v463 : BitVec 32 := Scalar.extui v462
  let v464 : BitVec 32 := Scalar.subi v461 v463
  let v465 : BitVec 1 := Scalar.cmpi .ne v459 v464
  let v466 : BitVec 32 := Scalar.remsi arg1 c2_i32_223
  let c0_i32_228 : BitVec 32 := 0#32
  let v467 : BitVec 1 := Scalar.cmpi .ne v466 c0_i32_228
  let v468 : BitVec 1 := Scalar.andi v465 v467
  let v454 : BitVec 32 := Scalar.divsi arg1 c2_i32_223
  let c1_i32_229 : BitVec 32 := 1#32
  let v469 : BitVec 32 := Scalar.subi v454 c1_i32_229
  let v470 : BitVec 32 := Scalar.select v468 v469 v454
  let c0_i32_230 : BitVec 32 := 0#32
  let v471 : BitVec 32 := Scalar.subi v470 c0_i32_230
  let c1_i32_232 : BitVec 32 := 1#32
  let v473 : BitVec 32 := Scalar.divsi v471 c1_i32_232
  let v474 : BitVec 32 := Scalar.muli v473 c1_i32_232
  let v475 : BitVec 32 := Scalar.addi c0_i32_230 v474
  let c1_i32_234 : BitVec 32 := 1#32
  let arg14 : BitVec 32 := Scf.iv v475 c1_i32_234 k0_t2
  let v528 : BitVec 32 := Scalar.subi v470 arg14
  let v529 : BitVec 32 := Scalar.muli c4_i32 v528
  let c1_i32_291 : BitVec 32 := 1#32
  let v530 : BitVec 32 := Scalar.subi v529 c1_i32_291
  let c2_i32_584 : BitVec 32 := 2#32
  let v981 : BitVec 32 := Scalar.subi v530 c2_i32_584
  let c1_i32_597 : BitVec 32 := 1#32
  let v990 : BitVec 32 := Scalar.subi v981 c1_i32_597
  let c0_i32_598 : BitVec 32 := 0#32
  let v991 : BitVec 32 := Scalar.maxsi v990 c0_i32_598
  let c256_i32_599 : BitVec 32 := 256#32
  let v992 : BitVec 32 := Scalar.muli v991 c256_i32_599
  v992
def k0_mult13 (i : grid0.Coords) (k0_t2 : Fin (k0_t2_loop i).trips) : BitVec 32 :=
  let c4_i32 : BitVec 32 := 4#32
  let arg1 : BitVec 32 := BitVec.ofNat 32 (i 1).val
  let c0_i32_224 : BitVec 32 := 0#32
  let v455 : BitVec 1 := Scalar.cmpi .sgt arg1 c0_i32_224
  let v456 : BitVec 32 := Scalar.extui v455
  let c0_i32_225 : BitVec 32 := 0#32
  let v457 : BitVec 1 := Scalar.cmpi .slt arg1 c0_i32_225
  let v458 : BitVec 32 := Scalar.extui v457
  let v459 : BitVec 32 := Scalar.subi v456 v458
  let c2_i32_223 : BitVec 32 := 2#32
  let c0_i32_226 : BitVec 32 := 0#32
  let v460 : BitVec 1 := Scalar.cmpi .sgt c2_i32_223 c0_i32_226
  let v461 : BitVec 32 := Scalar.extui v460
  let c0_i32_227 : BitVec 32 := 0#32
  let v462 : BitVec 1 := Scalar.cmpi .slt c2_i32_223 c0_i32_227
  let v463 : BitVec 32 := Scalar.extui v462
  let v464 : BitVec 32 := Scalar.subi v461 v463
  let v465 : BitVec 1 := Scalar.cmpi .ne v459 v464
  let v466 : BitVec 32 := Scalar.remsi arg1 c2_i32_223
  let c0_i32_228 : BitVec 32 := 0#32
  let v467 : BitVec 1 := Scalar.cmpi .ne v466 c0_i32_228
  let v468 : BitVec 1 := Scalar.andi v465 v467
  let v454 : BitVec 32 := Scalar.divsi arg1 c2_i32_223
  let c1_i32_229 : BitVec 32 := 1#32
  let v469 : BitVec 32 := Scalar.subi v454 c1_i32_229
  let v470 : BitVec 32 := Scalar.select v468 v469 v454
  let c0_i32_230 : BitVec 32 := 0#32
  let v471 : BitVec 32 := Scalar.subi v470 c0_i32_230
  let c1_i32_232 : BitVec 32 := 1#32
  let v473 : BitVec 32 := Scalar.divsi v471 c1_i32_232
  let v474 : BitVec 32 := Scalar.muli v473 c1_i32_232
  let v475 : BitVec 32 := Scalar.addi c0_i32_230 v474
  let c1_i32_234 : BitVec 32 := 1#32
  let arg14 : BitVec 32 := Scf.iv v475 c1_i32_234 k0_t2
  let v528 : BitVec 32 := Scalar.subi v470 arg14
  let v529 : BitVec 32 := Scalar.muli c4_i32 v528
  let c1_i32_291 : BitVec 32 := 1#32
  let v530 : BitVec 32 := Scalar.subi v529 c1_i32_291
  let c3_i32 : BitVec 32 := 3#32
  let v1206 : BitVec 32 := Scalar.subi v530 c3_i32
  let c1_i32_742 : BitVec 32 := 1#32
  let v1215 : BitVec 32 := Scalar.subi v1206 c1_i32_742
  let c0_i32_743 : BitVec 32 := 0#32
  let v1216 : BitVec 32 := Scalar.maxsi v1215 c0_i32_743
  let c256_i32_744 : BitVec 32 := 256#32
  let v1217 : BitVec 32 := Scalar.muli v1216 c256_i32_744
  v1217
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x64x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S264x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "scale_log2e" => some (((1 / 8) * (Real.log 2)⁻¹ : ℝ) : EReal)
  | _ => none
-- ==== ReferenceIdeal.lean ====
abbrev S16384x16x64 : Shape := ⟨3, ![16384, 16, 64]⟩
abbrev S16 : Shape := ⟨1, ![16]⟩
abbrev S16x16384x16384 : Shape := ⟨3, ![16, 16384, 16384]⟩
abbrev S_ : Shape := ⟨0, ![]⟩
abbrev S16x1x1 : Shape := ⟨3, ![16, 1, 1]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16x64x16384 : Shape := ⟨3, ![16, 64, 16384]⟩
abbrev S1024x16384 : Shape := ⟨2, ![1024, 16384]⟩

abbrev nBuf : Space → Nat
  | .hbm => 68
  | .vmem => 0
  | .smem => 0
  | _ => 0

abbrev bufTy : (tb : Table) → Fin (tcTables nBuf tb) → BufTy
  | .hbm, ⟨0, _⟩ => ⟨S16384x16x64, .f32⟩
  | .hbm, ⟨1, _⟩ => ⟨S16384x16x64, .f32⟩
  | .hbm, ⟨2, _⟩ => ⟨S16384x16x64, .f32⟩
  | .hbm, ⟨3, _⟩ => ⟨S16, .f32⟩
  | .hbm, ⟨4, _⟩ => ⟨S16x16384x16384, .f32⟩
  | .hbm, ⟨5, _⟩ => ⟨S_, .f32⟩
  | .hbm, ⟨6, _⟩ => ⟨S16x16384x16384, .f32⟩
  | .hbm, ⟨7, _⟩ => ⟨S16x16384x16384, .f32⟩
  | .hbm, ⟨8, _⟩ => ⟨S16x1x1, .f32⟩
  | .hbm, ⟨9, _⟩ => ⟨S16x16384x16384, .f32⟩
  | .hbm, ⟨10, _⟩ => ⟨S16x16384x16384, .f32⟩
  | .hbm, ⟨11, _⟩ => ⟨S16384, .i32⟩
  | .hbm, ⟨12, _⟩ => ⟨S1x16384, .i32⟩
  | .hbm, ⟨13, _⟩ => ⟨S16384x1, .i32⟩
  | .hbm, ⟨14, _⟩ => ⟨S16384x16384, .i32⟩
  | .hbm, ⟨15, _⟩ => ⟨S16384x16384, .i32⟩
  | .hbm, ⟨16, _⟩ => ⟨S16384x16384, .i1⟩
  | .hbm, ⟨17, _⟩ => ⟨S16x16384x16384, .f32⟩
  | .hbm, ⟨18, _⟩ => ⟨S_, .f32⟩
  | .hbm, ⟨19, _⟩ => ⟨S16x16384x16384, .f32⟩
  | .hbm, ⟨20, _⟩ => ⟨S16x16384x16384, .f32⟩
  | .hbm, ⟨21, _⟩ => ⟨S16x16384x16384, .f32⟩
  | .hbm, ⟨22, _⟩ => ⟨S16x16384x16384, .f32⟩
  | .hbm, ⟨23, _⟩ => ⟨S16x16384x16384, .i1⟩
  | .hbm, ⟨24, _⟩ => ⟨S16x16384x16384, .f32⟩
  | .hbm, ⟨25, _⟩ => ⟨S16x16384x16384, .f32⟩
  | .hbm, ⟨26, _⟩ => ⟨S16x16384x16384, .f32⟩
  | .hbm, ⟨27, _⟩ => ⟨S16x16384x16384, .f32⟩
  | .hbm, ⟨28, _⟩ => ⟨S16x16384x16384, .f32⟩
  | .hbm, ⟨29, _⟩ => ⟨S16x16384x16384, .f32⟩
  | .hbm, ⟨30, _⟩ => ⟨S16x16384x16384, .f32⟩
  | .hbm, ⟨31, _⟩ => ⟨S16x16384x16384, .f32⟩
  | .hbm, ⟨32, _⟩ => ⟨S16x16384x16384, .f32⟩
  | .hbm, ⟨33, _⟩ => ⟨S16x16384x16384, .f32⟩
  | .hbm, ⟨34, _⟩ => ⟨S16x16384x16384, .f32⟩
  | .hbm, ⟨35, _⟩ => ⟨S_, .f32⟩
  | .hbm, ⟨36, _⟩ => ⟨S16x16384x16384, .f32⟩
  | .hbm, ⟨37, _⟩ => ⟨S16x16384x16384, .f32⟩
  | .hbm, ⟨38, _⟩ => ⟨S16x16384x16384, .f32⟩
  | .hbm, ⟨39, _⟩ => ⟨S16x16384x16384, .f32⟩
  | .hbm, ⟨40, _⟩ => ⟨S16x16384x16384, .i1⟩
  | .hbm, ⟨41, _⟩ => ⟨S16x16384x16384, .f32⟩
  | .hbm, ⟨42, _⟩ => ⟨S16x16384x16384, .f32⟩
  | .hbm, ⟨43, _⟩ => ⟨S16x16384x16384, .f32⟩
  | .hbm, ⟨44, _⟩ => ⟨S16x16384x16384, .f32⟩
  | .hbm, ⟨45, _⟩ => ⟨S16x16384x16384, .f32⟩
  | .hbm, ⟨46, _⟩ => ⟨S16x16384x16384, .f32⟩
  | .hbm, ⟨47, _⟩ => ⟨S16x16384x16384, .f32⟩
  | .hbm, ⟨48, _⟩ => ⟨S16x16384x16384, .f32⟩
  | .hbm, ⟨49, _⟩ => ⟨S16x16384x16384, .f32⟩
  | .hbm, ⟨50, _⟩ => ⟨S_, .f32⟩
  | .hbm, ⟨51, _⟩ => ⟨S_, .f32⟩
  | .hbm, ⟨52, _⟩ => ⟨S16x16384x16384, .i1⟩
  | .hbm, ⟨53, _⟩ => ⟨S16x16384x16384, .f32⟩
  | .hbm, ⟨54, _⟩ => ⟨S16x16384x16384, .f32⟩
  | .hbm, ⟨55, _⟩ => ⟨S_, .f32⟩
  | .hbm, ⟨56, _⟩ => ⟨S_, .f32⟩
  | .hbm, ⟨57, _⟩ => ⟨S16x16384x16384, .f32⟩
  | .hbm, ⟨58, _⟩ => ⟨S16x16384x16384, .f32⟩
  | .hbm, ⟨59, _⟩ => ⟨S16x16384x16384, .f32⟩
  | .hbm, ⟨60, _⟩ => ⟨S16x16384x16384, .f32⟩
  | .hbm, ⟨61, _⟩ => ⟨S_, .f32⟩
  | .hbm, ⟨62, _⟩ => ⟨S_, .f32⟩
  | .hbm, ⟨63, _⟩ => ⟨S16x16384x16384, .i1⟩
  | .hbm, ⟨64, _⟩ => ⟨S16x16384x16384, .f32⟩
  | .hbm, ⟨65, _⟩ => ⟨S16x16384x16384, .f32⟩
  | .hbm, ⟨66, _⟩ => ⟨S16x64x16384, .f32⟩
  | .hbm, ⟨67, _⟩ => ⟨S1024x16384, .f32⟩
  | _, _ => ⟨S16384x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v12 : Ref sig .tc := ⟨.hbm, 32, rfl⟩
abbrev main_v13 : Ref sig .tc := ⟨.hbm, 33, rfl⟩
abbrev main_call1_v0 : Ref sig .tc := ⟨.hbm, 34, rfl⟩
abbrev main_call1_call0_cst : Ref sig .tc := ⟨.hbm, 35, rfl⟩
abbrev main_call1_call0_v0 : Ref sig .tc := ⟨.hbm, 36, rfl⟩
abbrev main_call1_call0_v1 : Ref sig .tc := ⟨.hbm, 37, rfl⟩
abbrev main_call1_call0_v2 : Ref sig .tc := ⟨.hbm, 38, rfl⟩
abbrev main_call1_call0_v3 : Ref sig .tc := ⟨.hbm, 39, rfl⟩
abbrev main_call1_call0_v4 : Ref sig .tc := ⟨.hbm, 40, rfl⟩
abbrev main_call1_call0_v5 : Ref sig .tc := ⟨.hbm, 41, rfl⟩
abbrev main_call1_call0_v6 : Ref sig .tc := ⟨.hbm, 42, rfl⟩
abbrev main_call1_call0_v7 : Ref sig .tc := ⟨.hbm, 43, rfl⟩
abbrev main_call1_call0_v8 : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_v11 : Ref sig .tc := ⟨.hbm, 47, rfl⟩
abbrev main_call1_v1 : Ref sig .tc := ⟨.hbm, 48, rfl⟩
abbrev main_v14 : Ref sig .tc := ⟨.hbm, 49, rfl⟩
abbrev main_cst_0 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v15 : Ref sig .tc := ⟨.hbm, 54, rfl⟩
abbrev main_call3_cst : Ref sig .tc := ⟨.hbm, 55, rfl⟩
abbrev main_call3_v0 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩

abbrev nD : Nat := 1
abbrev τ : Topo := Topo.v7x

variable {F : FTy → Type} [FloatOps F]
-- ==== KernelFfn.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S1024x5632, .bf16⟩
  | .hbm, ⟨8, _⟩ => ⟨S2816x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1408x1024, .bf16⟩
  | .local _ .vmem, ⟨11, _⟩ => ⟨S1408x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceFfnIdeal.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x5632, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩

abbrev nD : Nat := 1
abbrev τ : Topo := Topo.v7x

variable {F : FTy → Type} [FloatOps F]
-- ==== KernelWo.lean ====
abbrev S1024x16384 : Shape := ⟨2, ![1024, 16384]⟩
abbrev S16384x1024 : Shape := ⟨2, ![16384, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1024x16384, .f32⟩
  | .hbm, ⟨1, _⟩ => ⟨S16384x1024, .f32⟩
  | .hbm, ⟨2, _⟩ => ⟨S1x1024, .f32⟩
  | .hbm, ⟨3, _⟩ => ⟨S1024x1024, .f32⟩
  | .hbm, ⟨4, _⟩ => ⟨S1024x1024, .bf16⟩
  | .hbm, ⟨5, _⟩ => ⟨S16384x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | _, _ => ⟨S1024x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceWoIdeal.lean ====
abbrev S1024x16384 : Shape := ⟨2, ![1024, 16384]⟩
abbrev S16384x1024 : Shape := ⟨2, ![16384, 1024]⟩
abbrev S1x1024 : Shape := ⟨2, ![1, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S16384x1024, .f32⟩
  | .hbm, ⟨2, _⟩ => ⟨S1x1024, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelQkv.lean ====
abbrev S16384x1024 : Shape := ⟨2, ![16384, 1024]⟩
abbrev S1x1024 : Shape := ⟨2, ![1, 1024]⟩
abbrev S1024x3072 : Shape := ⟨2, ![1024, 3072]⟩
abbrev S64 : Shape := ⟨1, ![64]⟩
abbrev S1024x128 : Shape := ⟨2, ![1024, 128]⟩
abbrev S_ : Shape := ⟨0, ![]⟩
abbrev S128x1024 : Shape := ⟨2, ![128, 1024]⟩
abbrev S1x128x1x1024 : Shape := ⟨4, ![1, 128, 1, 1024]⟩
abbrev S3x128x1x1024 : Shape := ⟨4, ![3, 128, 1, 1024]⟩
abbrev S384x1024 : Shape := ⟨2, ![384, 1024]⟩
abbrev S1x64 : Shape := ⟨2, ![1, 64]⟩
abbrev S16x64 : Shape := ⟨2, ![16, 64]⟩
abbrev S1024 : Shape := ⟨1, ![1024]⟩
abbrev S16384x2048 : Shape := ⟨2, ![16384, 2048]⟩
abbrev S1024x16384 : Shape := ⟨2, ![1024, 16384]⟩
abbrev S16x64x64x256 : Shape := ⟨4, ![16, 64, 64, 256]⟩
abbrev S256x1024 : Shape := ⟨2, ![256, 1024]⟩
abbrev S256x2048 : Shape := ⟨2, ![256, 2048]⟩
abbrev S1024x256 : Shape := ⟨2, ![1024, 256]⟩
abbrev S16x1x64x256 : Shape := ⟨4, ![16, 1, 64, 256]⟩
abbrev S256 : Shape := ⟨1, ![256]⟩
abbrev S256x1 : Shape := ⟨2, ![256, 1]⟩
abbrev S256x3072 : Shape := ⟨2, ![256, 3072]⟩
abbrev S256x128 : Shape := ⟨2, ![256, 128]⟩
abbrev S256x384 : Shape := ⟨2, ![256, 384]⟩
abbrev S1x128 : Shape := ⟨2, ![1, 128]⟩
abbrev S64x256 : Shape := ⟨2, ![64, 256]⟩
abbrev S1x1x64x256 : Shape := ⟨4, ![1, 1, 64, 256]⟩

abbrev nBuf : Space → Nat
  | .hbm => 47
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S64, .f32⟩
  | .hbm, ⟨6, _⟩ => ⟨S64, .f32⟩
  | .hbm, ⟨7, _⟩ => ⟨S1024x128, .i32⟩
  | .hbm, ⟨8, _⟩ => ⟨S_, .i32⟩
  | .hbm, ⟨9, _⟩ => ⟨S_, .i32⟩
  | .hbm, ⟨10, _⟩ => ⟨S1024x128, .i32⟩
  | .hbm, ⟨11, _⟩ => ⟨S1024x128, .i32⟩
  | .hbm, ⟨12, _⟩ => ⟨S1024x128, .i32⟩
  | .hbm, ⟨13, _⟩ => ⟨S_, .i32⟩
  | .hbm, ⟨14, _⟩ => ⟨S1024x128, .i32⟩
  | .hbm, ⟨15, _⟩ => ⟨S1024x128, .i1⟩
  | .hbm, ⟨16, _⟩ => ⟨S1024x128, .i32⟩
  | .hbm, ⟨17, _⟩ => ⟨S1024x128, .i32⟩
  | .hbm, ⟨18, _⟩ => ⟨S_, .i32⟩
  | .hbm, ⟨19, _⟩ => ⟨S1024x128, .i32⟩
  | .hbm, ⟨20, _⟩ => ⟨S1024x128, .i1⟩
  | .hbm, ⟨21, _⟩ => ⟨S1024x128, .i1⟩
  | .hbm, ⟨22, _⟩ => ⟨S_, .i32⟩
  | .hbm, ⟨23, _⟩ => ⟨S1024x128, .i32⟩
  | .hbm, ⟨24, _⟩ => ⟨S1024x128, .i32⟩
  | .hbm, ⟨25, _⟩ => ⟨S1024x128, .i32⟩
  | .hbm, ⟨26, _⟩ => ⟨S1024x128, .i32⟩
  | .hbm, ⟨27, _⟩ => ⟨S1024x128, .i1⟩
  | .hbm, ⟨28, _⟩ => ⟨S1024x128, .bf16⟩
  | .hbm, ⟨29, _⟩ => ⟨S128x1024, .bf16⟩
  | .hbm, ⟨30, _⟩ => ⟨S1x128x1x1024, .bf16⟩
  | .hbm, ⟨31, _⟩ => ⟨S3x128x1x1024, .bf16⟩
  | .hbm, ⟨32, _⟩ => ⟨S384x1024, .bf16⟩
  | .hbm, ⟨33, _⟩ => ⟨S1x64, .f32⟩
  | .hbm, ⟨34, _⟩ => ⟨S16x64, .f32⟩
  | .hbm, ⟨35, _⟩ => ⟨S1024, .f32⟩
  | .hbm, ⟨36, _⟩ => ⟨S1x1024, .f32⟩
  | .hbm, ⟨37, _⟩ => ⟨S1x64, .f32⟩
  | .hbm, ⟨38, _⟩ => ⟨S16x64, .f32⟩
  | .hbm, ⟨39, _⟩ => ⟨S1024, .f32⟩
  | .hbm, ⟨40, _⟩ => ⟨S1x1024, .f32⟩
  | .hbm, ⟨41, _⟩ => ⟨S1024x3072, .bf16⟩
  | .hbm, ⟨42, _⟩ => ⟨S16384x1024, .f32⟩
  | .hbm, ⟨43, _⟩ => ⟨S16384x1024, .f32⟩
  | .hbm, ⟨44, _⟩ => ⟨S16384x2048, .bf16⟩
  | .hbm, ⟨45, _⟩ => ⟨S1024x16384, .bf16⟩
  | .hbm, ⟨46, _⟩ => ⟨S16x64x64x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x3072, .bf16⟩
  | .local _ .vmem, ⟨6, _⟩ => ⟨S1024x128, .bf16⟩
  | .local _ .vmem, ⟨7, _⟩ => ⟨S384x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x2048, .bf16⟩
  | .local _ .vmem, ⟨15, _⟩ => ⟨S256x2048, .bf16⟩
  | .local _ .vmem, ⟨16, _⟩ => ⟨S1024x256, .bf16⟩
  | .local _ .vmem, ⟨17, _⟩ => ⟨S1024x256, .bf16⟩
  | .local _ .vmem, ⟨18, _⟩ => ⟨S16x1x64x256, .bf16⟩
  | .local _ .vmem, ⟨19, _⟩ => ⟨S16x1x64x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18_0 : Ref sig .tc := ⟨.hbm, 42, rfl⟩
abbrev main_v18_1 : Ref sig .tc := ⟨.hbm, 43, rfl⟩
abbrev main_v18_2 : Ref sig .tc := ⟨.hbm, 44, rfl⟩
abbrev main_v18_3 : Ref sig .tc := ⟨.hbm, 45, rfl⟩
abbrev main_v18_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x1x64x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelQkvIdeal.lean ====
variable {F : FTy → Type} [FloatOps F] [Named F]
def κ : String → Option EReal := fun
  | "scale_log2e" => some (((1 / 8) * (Real.log 2)⁻¹ : ℝ) : EReal)
  | _ => none
-- ==== ReferenceQkvIdeal.lean ====
abbrev S16384x1024 : Shape := ⟨2, ![16384, 1024]⟩
abbrev S1x1024 : Shape := ⟨2, ![1, 1024]⟩
abbrev S1024x3072 : Shape := ⟨2, ![1024, 3072]⟩
abbrev S64 : Shape := ⟨1, ![64]⟩
abbrev S_ : Shape := ⟨0, ![]⟩
abbrev S16384 : Shape := ⟨1, ![16384]⟩
abbrev S16384x1 : Shape := ⟨2, ![16384, 1]⟩
abbrev S16384x3072 : Shape := ⟨2, ![16384, 3072]⟩
abbrev S16384x3x16x64 : Shape := ⟨4, ![16384, 3, 16, 64]⟩
abbrev S16384x1x16x64 : Shape := ⟨4, ![16384, 1, 16, 64]⟩
abbrev S16384x16x64 : Shape := ⟨3, ![16384, 16, 64]⟩
abbrev S16384x16 : Shape := ⟨2, ![16384, 16]⟩
abbrev S16384x16x1 : Shape := ⟨3, ![16384, 16, 1]⟩
abbrev S1x1x64 : Shape := ⟨3, ![1, 1, 64]⟩
abbrev S1024x16384 : Shape := ⟨2, ![1024, 16384]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S64, .f32⟩
  | .hbm, ⟨6, _⟩ => ⟨S64, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x3072, .f32⟩
  | .hbm, ⟨30, _⟩ => ⟨S16384x3x16x64, .f32⟩
  | .hbm, ⟨31, _⟩ => ⟨S16384x1x16x64, .f32⟩
  | .hbm, ⟨32, _⟩ => ⟨S16384x16x64, .f32⟩
  | .hbm, ⟨33, _⟩ => ⟨S16384x16x64, .f32⟩
  | .hbm, ⟨34, _⟩ => ⟨S_, .f32⟩
  | .hbm, ⟨35, _⟩ => ⟨S16384x16, .f32⟩
  | .hbm, ⟨36, _⟩ => ⟨S16384x16x1, .f32⟩
  | .hbm, ⟨37, _⟩ => ⟨S_, .f32⟩
  | .hbm, ⟨38, _⟩ => ⟨S16384x16x1, .f32⟩
  | .hbm, ⟨39, _⟩ => ⟨S16384x16x1, .f32⟩
  | .hbm, ⟨40, _⟩ => ⟨S_, .f32⟩
  | .hbm, ⟨41, _⟩ => ⟨S16384x16x1, .f32⟩
  | .hbm, ⟨42, _⟩ => ⟨S16384x16x1, .f32⟩
  | .hbm, ⟨43, _⟩ => ⟨S16384x16x1, .f32⟩
  | .hbm, ⟨44, _⟩ => ⟨S16384x16x64, .f32⟩
  | .hbm, ⟨45, _⟩ => ⟨S16384x16x64, .f32⟩
  | .hbm, ⟨46, _⟩ => ⟨S1x1x64, .f32⟩
  | .hbm, ⟨47, _⟩ => ⟨S16384x16x64, .f32⟩
  | .hbm, ⟨48, _⟩ => ⟨S16384x16x64, .f32⟩
  | .hbm, ⟨49, _⟩ => ⟨S16384x1x16x64, .f32⟩
  | .hbm, ⟨50, _⟩ => ⟨S16384x16x64, .f32⟩
  | .hbm, ⟨51, _⟩ => ⟨S16384x16x64, .f32⟩
  | .hbm, ⟨52, _⟩ => ⟨S_, .f32⟩
  | .hbm, ⟨53, _⟩ => ⟨S16384x16, .f32⟩
  | .hbm, ⟨54, _⟩ => ⟨S16384x16x1, .f32⟩
  | .hbm, ⟨55, _⟩ => ⟨S_, .f32⟩
  | .hbm, ⟨56, _⟩ => ⟨S16384x16x1, .f32⟩
  | .hbm, ⟨57, _⟩ => ⟨S16384x16x1, .f32⟩
  | .hbm, ⟨58, _⟩ => ⟨S_, .f32⟩
  | .hbm, ⟨59, _⟩ => ⟨S16384x16x1, .f32⟩
  | .hbm, ⟨60, _⟩ => ⟨S16384x16x1, .f32⟩
  | .hbm, ⟨61, _⟩ => ⟨S16384x16x1, .f32⟩
  | .hbm, ⟨62, _⟩ => ⟨S16384x16x64, .f32⟩
  | .hbm, ⟨63, _⟩ => ⟨S16384x16x64, .f32⟩
  | .hbm, ⟨64, _⟩ => ⟨S1x1x64, .f32⟩
  | .hbm, ⟨65, _⟩ => ⟨S16384x16x64, .f32⟩
  | .hbm, ⟨66, _⟩ => ⟨S16384x16x64, .f32⟩
  | .hbm, ⟨67, _⟩ => ⟨S16384x1x16x64, .f32⟩
  | .hbm, ⟨68, _⟩ => ⟨S16384x16x64, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384x16x64, .f32⟩
  | .hbm, ⟨73, _⟩ => ⟨S16384x16x64, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S16384x16x64, .f32⟩
  | .hbm, ⟨78, _⟩ => ⟨S16384x16x64, .f32⟩
  | .hbm, ⟨79, _⟩ => ⟨S16384x1024, .f32⟩
  | .hbm, ⟨80, _⟩ => ⟨S1024x16384, .f32⟩
  | .hbm, ⟨81, _⟩ => ⟨S1024x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Proof.Tile.lean ====
/-
  The kernel's tile arithmetic and its program text, stated once: the vector functions that one block of keys is put
  through (logits, the running suffix sums, the weights, the product with the values) and the straight-line programs
  that run them on the scratch buffers. Both printed kernels (`Kernel`, `KernelIdeal`) are sequences of these.
-/
module

public import proofs.«01_k».proof.Proof.Gen.KernelIdeal

@[expose] public section

noncomputable section

namespace Cert.Sb

open Idealize.ShloMosaic Idealize.SL.Sem
open Cert.KernelIdeal Cert.KernelIdeal.Facts₀ Cert.KernelIdeal.Facts

variable {F : FTy → Type} [FloatOps F]

/-! ## Vector functions of one block of keys -/

/-- The logits of a block of keys against one chunk of queries; `ko` is the head's first column of the key block. -/
def qkv (ko : ℕ) (hsl : S256x256.Slices ![0, ko] S256x128) (kt : Vec F S256x256 .bf16) (q : Vec F S128x256 .bf16) :
    FVec F S256x256 .f32 :=
  matmul dot_S256x128_S128x256_S256x256_1_0_0_1_n_n none
    (extractStridedSlice S256x128 ![0, ko] (shapeCast S256x256 kt shapeCasts_S256x256_S256x256) hsl) q
    (constant S256x256 .f32 0x00000000#32)

/-- `log2 (1 + 2^z)`, computed from `|z|`; `l2e` is the constant that takes a natural logarithm to base two. -/
def spv (l2e : F .f32) (z : FVec F S256x256 .f32) : FVec F S256x256 .f32 :=
  addf (maximumf z (broadcast S256x256 (Scalar.ofBits .f32 0x00000000#32)))
    (mulf (log (addf (broadcast S256x256 (Scalar.ofBits .f32 0x3F800000#32))
      (exp2 (subf (broadcast S256x256 (Scalar.ofBits .f32 0x00000000#32)) (absf z))))) (broadcast S256x256 l2e))

/-- The same, as the product reads it, -/
def spb (l2e : F .f32) (z : FVec F S256x256 .f32) : FVec F S256x256 .bf16 := truncf .bf16 (spv l2e z) bitsLt_bf16_f32

/-- and with the pairs outside the mask at nought. -/
def spm (l2e : F .f32) (mk : IVec S256x256 1) (z : FVec F S256x256 .f32) : FVec F S256x256 .bf16 :=
  truncf .bf16 (select mk (spv l2e z) (broadcast S256x256 (Scalar.ofBits .f32 0x00000000#32))) bitsLt_bf16_f32

/-- The block's suffix sums (rows below 256) and its totals (the rows from 256). -/
def cumv (u : FVec F S264x256 .bf16) (sp : FVec F S256x256 .bf16) : FVec F S264x256 .f32 :=
  matmul dot_S264x256_S256x256_S264x256_1_0_0_1_n_n none u sp (constant S264x256 .f32 0x00000000#32)

/-- The weights of a block before the later blocks' factor, -/
def av (z : FVec F S256x256 .f32) (cum : FVec F S264x256 .f32) : FVec F S256x256 .bf16 :=
  truncf .bf16 (exp2 (subf z (extractStridedSlice S256x256 ![0, 0] cum slices_S264x256_o0_0_S256x256))) bitsLt_bf16_f32

/-- and with the pairs outside the mask at nought. -/
def am (mk : IVec S256x256 1) (z : FVec F S256x256 .f32) (cum : FVec F S264x256 .f32) : FVec F S256x256 .bf16 :=
  truncf .bf16 (select mk (exp2 (subf z (extractStridedSlice S256x256 ![0, 0] cum slices_S264x256_o0_0_S256x256)))
    (broadcast S256x256 (Scalar.ofBits .f32 0x00000000#32))) bitsLt_bf16_f32

/-- The later blocks' factor of a block's weights, from their total. -/
def scv (cy : Vec F S1x256 .f32) : FVec F S1x256 .f32 :=
  shapeCast S1x256 (exp2 (subf (broadcast S1x256 (Scalar.ofBits .f32 0x00000000#32)) cy)) shapeCasts_S1x256_S1x256

/-- The total with this block's added. -/
def cyv (cy : Vec F S1x256 .f32) (cum : FVec F S264x256 .f32) : FVec F S1x256 .f32 :=
  shapeCast S1x256 (addf cy (extractStridedSlice S1x256 ![256, 0] cum slices_S264x256_o256_0_S1x256)) shapeCasts_S1x256_S1x256

/-- The accumulator with a block's weighted values added. -/
def flv (acc : Vec F S64x256 .f32) (vt : Vec F S1x1x64x256 .bf16) (a : Vec F S256x256 .bf16) (sc : Vec F S1x256 .f32) :
    FVec F S64x256 .f32 :=
  shapeCast S64x256 (addf acc (mulf
    (matmul dot_S64x256_S256x256_S64x256_1_0_0_1_n_n none (shapeCast S64x256 vt shapeCasts_S1x1x64x256_S64x256) a
      (constant S64x256 .f32 0x00000000#32))
    (broadcastTo S64x256 sc broadcasts_S1x256_S64x256))) shapeCasts_S64x256_S64x256

/-- The mask of a block on the diagonal: key `r` before query `c`, the keys `b` further on. -/
def maskv (b : BitVec 32) : IVec S256x256 1 :=
  cmpi .slt (addi (iota .tc S256x256 32 [0] iota_S256x256_d0_w32) (broadcast S256x256 b)) (iota .tc S256x256 32 [1] iota_S256x256_d1_w32)

/-- The rows beside the queries: the head's bias, to base two, in three bfloat16 pieces, then nought. -/
def augv (l2e : F .f32) (b : Elt F .f32) : FVec F S64x512 .bf16 :=
  have v0 : IVec S64x512 32 := iota .tc S64x512 32 [0] iota_S64x512_d0_w32
  have v5 : FVec F S64x512 .f32 := broadcast S64x512 (Scalar.mulf b l2e)
  have v6 : FVec F S64x512 .bf16 := truncf .bf16 v5 bitsLt_bf16_f32
  have v8 : FVec F S64x512 .f32 := subf v5 (extf .f32 v6 bitsLt_bf16_f32)
  have v9 : FVec F S64x512 .bf16 := truncf .bf16 v8 bitsLt_bf16_f32
  have v12 : FVec F S64x512 .bf16 := truncf .bf16 (subf v8 (extf .f32 v9 bitsLt_bf16_f32)) bitsLt_bf16_f32
  have v17 : FVec F S64x512 .f32 := select (cmpi .eq v0 (broadcast S64x512 2#32)) (extf .f32 v12 bitsLt_bf16_f32)
    (broadcast S64x512 (Scalar.ofBits .f32 0x00000000#32))
  have v21 : FVec F S64x512 .f32 := select (cmpi .eq v0 (broadcast S64x512 1#32)) (extf .f32 v9 bitsLt_bf16_f32) v17
  have v25 : FVec F S64x512 .f32 := select (cmpi .eq v0 (broadcast S64x512 0#32)) (extf .f32 v6 bitsLt_bf16_f32) v21
  shapeCast S64x512 (truncf .bf16 v25 bitsLt_bf16_f32) shapeCasts_S64x512_S64x512

/-- The queries' rows themselves, at the logits' scale. -/
def qsv (sl : F .f32) (q : Vec F S64x512 .f32) : FVec F S64x512 .bf16 :=
  shapeCast S64x512 (truncf .bf16 (mulf (shapeCast S64x512 q shapeCasts_S64x512_S64x512) (broadcast S64x512 sl)) bitsLt_bf16_f32)
    shapeCasts_S64x512_S64x512

/-! ## The buffers -/

/-- The kernel's memrefs. -/
structure Refs (sig : RefSig) where
  bias : Memref sig .tc .smem S16 .f32
  qt : Memref sig .tc .vmem S128x512 .f32
  ky : Memref sig .tc .vmem S16384x256 .bf16
  vt : Memref sig .tc .vmem S2x64x64x256 .bf16
  ut : Memref sig .tc .vmem S264x256 .bf16
  out : Memref sig .tc .vmem S128x512 .f32
  qa : Memref sig .tc .vmem S128x1024 .bf16
  acc : Memref sig .tc .vmem S128x512 .f32
  cy : Memref sig .tc .vmem S8x1024 .f32
  sc : Memref sig .tc .vmem S8x1024 .f32
  a : Memref sig .tc .vmem S256x1024 .bf16
  z : Memref sig .tc .vmem S2x256x1024 .f32
  hqa : qa.IsWhole
  ha : a.IsWhole

/-- What they hold. -/
structure St (F : FTy → Type) where
  bias : Vec F S16 .f32
  qt : Vec F S128x512 .f32
  ky : Vec F S16384x256 .bf16
  vt : Vec F S2x64x64x256 .bf16
  ut : Vec F S264x256 .bf16
  out : Vec F S128x512 .f32
  qa : Vec F S128x1024 .bf16
  acc : Vec F S128x512 .f32
  cy : Vec F S8x1024 .f32
  sc : Vec F S8x1024 .f32
  a : Vec F S256x1024 .bf16
  z : Vec F S2x256x1024 .f32

/-- One chunk of 256 queries of one head: its first column `o` among the pair's 1024, its corner `r`, `co` in the
    accumulator and its head's first column `ko` in a block of keys. -/
structure Ch where
  o : ℕ
  r : ℕ
  co : ℕ
  ko : ℕ
  hz : ∀ sl : ℕ, sl < 2 → ∀ a, (![sl, 0, o] : Fin 3 → ℕ) a + S1x256x256.size a ≤ S2x256x1024.size a
  hq : ∀ a, (![0, o] : Fin 2 → ℕ) a + S128x256.size a ≤ S128x1024.size a
  ha : ∀ a, (![0, o] : Fin 2 → ℕ) a + S256x256.size a ≤ S256x1024.size a
  hc : ∀ a, (![0, o] : Fin 2 → ℕ) a + S1x256.size a ≤ S8x1024.size a
  hacc : ∀ a, (![r, co] : Fin 2 → ℕ) a + S64x256.size a ≤ S128x512.size a
  hsl : S256x256.Slices ![0, ko] S256x128
  hp : (Rect.unit (s := S256x1024) ![0, o] S256x256.size ha).PackedRows (EltTy.packing .bf16)

theorem inbZ (o : ℕ) (ho : o + 256 ≤ 1024) : ∀ sl : ℕ, sl < 2 → ∀ a, (![sl, 0, o] : Fin 3 → ℕ) a + S1x256x256.size a ≤ S2x256x1024.size a := by
  intro sl hs a
  fin_cases a <;> simp <;> omega

/-- The four chunks: the pair's first head, then its second, the earlier queries first. -/
abbrev ch0 : Ch where
  o := 0
  r := 0
  co := 0
  ko := 0
  hz := inbZ 0 (by omega)
  hq := inb_S128x1024_S128x256_0_0
  ha := inb_S256x1024_S256x256_0_0
  hc := inb_S8x1024_S1x256_0_0
  hacc := inb_S128x512_S64x256_0_0
  hsl := slices_S256x256_o0_0_S256x128
  hp := packedbf16_S256x1024_S256x256_0_0

@[inherit_doc ch0] abbrev ch1 : Ch where
  o := 256
  r := 0
  co := 256
  ko := 0
  hz := inbZ 256 (by omega)
  hq := inb_S128x1024_S128x256_0_256
  ha := inb_S256x1024_S256x256_0_256
  hc := inb_S8x1024_S1x256_0_256
  hacc := inb_S128x512_S64x256_0_256
  hsl := slices_S256x256_o0_0_S256x128
  hp := packedbf16_S256x1024_S256x256_0_256

@[inherit_doc ch0] abbrev ch2 : Ch where
  o := 512
  r := 64
  co := 0
  ko := 128
  hz := inbZ 512 (by omega)
  hq := inb_S128x1024_S128x256_0_512
  ha := inb_S256x1024_S256x256_0_512
  hc := inb_S8x1024_S1x256_0_512
  hacc := inb_S128x512_S64x256_64_0
  hsl := slices_S256x256_o0_128_S256x128
  hp := packedbf16_S256x1024_S256x256_0_512

@[inherit_doc ch0] abbrev ch3 : Ch where
  o := 768
  r := 64
  co := 256
  ko := 128
  hz := inbZ 768 (by omega)
  hq := inb_S128x1024_S128x256_0_768
  ha := inb_S256x1024_S256x256_0_768
  hc := inb_S8x1024_S1x256_0_768
  hacc := inb_S128x512_S64x256_64_256
  hsl := slices_S256x256_o0_128_S256x128
  hp := packedbf16_S256x1024_S256x256_0_768

/-- An offset of a block of keys, and of a block of values, with its evidence. -/
abbrev KO : Type := { f : Fin 2 → ℕ // ∀ a, f a + S256x256.size a ≤ S16384x256.size a }
@[inherit_doc KO] abbrev VO : Type := { f : Fin 4 → ℕ // ∀ a, f a + S1x1x64x256.size a ≤ S2x64x64x256.size a }

/-! ## The programs -/

section Programs

variable {nD : ℕ} {τ : Topo} {sig : RefSig} {Λ : Labels}

/-- A slot of the logits' buffer, one chunk: read, -/
def ldZ (M : Refs sig) (sl : ℕ) (hs : sl < 2) (c : Ch) : Prog (TpuEff nD τ sig (Elt F) Λ .tc) (Vec F S1x256x256 .f32) :=
  Prog.lift (.load M.z (Rect.unit (s := S2x256x1024) ![sl, 0, c.o] S1x256x256.size (c.hz sl hs)).toLoadRect (View.loadsAt_vmem h_S1x256x256))

/-- and written. -/
def stZ (M : Refs sig) (sl : ℕ) (hs : sl < 2) (c : Ch) (w : FVec F S1x256x256 .f32) : Prog (TpuEff nD τ sig (Elt F) Λ .tc) PUnit :=
  Prog.lift (.store M.z (Rect.unit (s := S2x256x1024) ![sl, 0, c.o] S1x256x256.size (c.hz sl hs)) w Finset.univ
    (View.stores_vmem_bits_univ h_S1x256x256 rfl) (.inl rfl))

/-- One chunk of the augmented queries. -/
def ldQ (M : Refs sig) (c : Ch) : Prog (TpuEff nD τ sig (Elt F) Λ .tc) (Vec F S128x256 .bf16) :=
  Prog.lift (.load M.qa (Rect.unit (s := S128x1024) ![0, c.o] S128x256.size c.hq).toLoadRect (View.loadsAt_vmem h_S128x256))

/-- One block of keys. -/
def ldK (M : Refs sig) (k : KO) : Prog (TpuEff nD τ sig (Elt F) Λ .tc) (Vec F S256x256 .bf16) :=
  Prog.lift (.load M.ky (Rect.unit (s := S16384x256) k.1 S256x256.size k.2).toLoadRect (View.loadsAt_vmem h_S256x256))

/-- One block of one head's values. -/
def ldV (M : Refs sig) (v : VO) : Prog (TpuEff nD τ sig (Elt F) Λ .tc) (Vec F S1x1x64x256 .bf16) :=
  Prog.lift (.load M.vt (Rect.unit (s := S2x64x64x256) v.1 S1x1x64x256.size v.2).toLoadRect (View.loadsAt_vmem h_S1x1x64x256))

/-- One chunk of the accumulator: read, -/
def ldAcc (M : Refs sig) (c : Ch) : Prog (TpuEff nD τ sig (Elt F) Λ .tc) (Vec F S64x256 .f32) :=
  Prog.lift (.load M.acc (Rect.unit (s := S128x512) ![c.r, c.co] S64x256.size c.hacc).toLoadRect (View.loadsAt_vmem h_S64x256))

/-- and written. -/
def stAcc (M : Refs sig) (c : Ch) (w : FVec F S64x256 .f32) : Prog (TpuEff nD τ sig (Elt F) Λ .tc) PUnit :=
  Prog.lift (.store M.acc (Rect.unit (s := S128x512) ![c.r, c.co] S64x256.size c.hacc) w Finset.univ
    (View.stores_vmem_bits_univ h_S64x256 rfl) (.inl rfl))

/-- One chunk of the weights: read, -/
def ldA (M : Refs sig) (c : Ch) : Prog (TpuEff nD τ sig (Elt F) Λ .tc) (Vec F S256x256 .bf16) :=
  Prog.lift (.load M.a (Rect.unit (s := S256x1024) ![0, c.o] S256x256.size c.ha).toLoadRect (View.loadsAt_vmem h_S256x256))

/-- and written. -/
def stA (M : Refs sig) (c : Ch) (w : FVec F S256x256 .bf16) : Prog (TpuEff nD τ sig (Elt F) Λ .tc) PUnit :=
  Prog.lift (.store M.a (Rect.unit (s := S256x1024) ![0, c.o] S256x256.size c.ha) w Finset.univ
    (View.stores_vmem h_S256x256 (M.ha.storeExact_slice rfl _ c.hp) (fun _ => rfl)) (.inl rfl))

/-- One chunk of the totals: read, -/
def ldCy (M : Refs sig) (c : Ch) : Prog (TpuEff nD τ sig (Elt F) Λ .tc) (Vec F S1x256 .f32) :=
  Prog.lift (.load M.cy (Rect.unit (s := S8x1024) ![0, c.o] S1x256.size c.hc).toLoadRect (View.loadsAt_vmem h_S1x256))

/-- and written. -/
def stCy (M : Refs sig) (c : Ch) (w : FVec F S1x256 .f32) : Prog (TpuEff nD τ sig (Elt F) Λ .tc) PUnit :=
  Prog.lift (.store M.cy (Rect.unit (s := S8x1024) ![0, c.o] S1x256.size c.hc) w Finset.univ
    (View.stores_vmem_bits_univ h_S1x256 rfl) (.inl rfl))

/-- One chunk of the factors: read, -/
def ldSc (M : Refs sig) (c : Ch) : Prog (TpuEff nD τ sig (Elt F) Λ .tc) (Vec F S1x256 .f32) :=
  Prog.lift (.load M.sc (Rect.unit (s := S8x1024) ![0, c.o] S1x256.size c.hc).toLoadRect (View.loadsAt_vmem h_S1x256))

/-- and written. -/
def stSc (M : Refs sig) (c : Ch) (w : FVec F S1x256 .f32) : Prog (TpuEff nD τ sig (Elt F) Λ .tc) PUnit :=
  Prog.lift (.store M.sc (Rect.unit (s := S8x1024) ![0, c.o] S1x256.size c.hc) w Finset.univ
    (View.stores_vmem_bits_univ h_S1x256 rfl) (.inl rfl))

/-- The logits of a block, all four chunks, into a slot. -/
def stashP (M : Refs sig) (sl : ℕ) (hs : sl < 2) (k : KO) : Prog (TpuEff nD τ sig (Elt F) Λ .tc) PUnit := do
  let kt ← ldK M k
  let q0 ← ldQ M ch0
  let q1 ← ldQ M ch1
  let q2 ← ldQ M ch2
  let q3 ← ldQ M ch3
  let _ ← ldZ M sl hs ch0
  stZ M sl hs ch0 (shapeCast S1x256x256 (qkv ch0.ko ch0.hsl kt q0) shapeCasts_S256x256_S1x256x256)
  let _ ← ldZ M sl hs ch1
  stZ M sl hs ch1 (shapeCast S1x256x256 (qkv ch1.ko ch1.hsl kt q1) shapeCasts_S256x256_S1x256x256)
  let _ ← ldZ M sl hs ch2
  stZ M sl hs ch2 (shapeCast S1x256x256 (qkv ch2.ko ch2.hsl kt q2) shapeCasts_S256x256_S1x256x256)
  let _ ← ldZ M sl hs ch3
  stZ M sl hs ch3 (shapeCast S1x256x256 (qkv ch3.ko ch3.hsl kt q3) shapeCasts_S256x256_S1x256x256)

/-- One chunk's weighted values added to the accumulator. -/
def flushP (M : Refs sig) (c : Ch) (v : VO) : Prog (TpuEff nD τ sig (Elt F) Λ .tc) PUnit := do
  let acc ← ldAcc M c
  let vt ← ldV M v
  let a ← ldA M c
  let sc ← ldSc M c
  let _ ← ldAcc M c
  stAcc M c (flv acc vt a sc)

/-- One chunk's weights, factor and total stored. -/
def putP (M : Refs sig) (c : Ch) (a : FVec F S256x256 .bf16) (cum : FVec F S264x256 .f32) : Prog (TpuEff nD τ sig (Elt F) Λ .tc) PUnit := do
  let _ ← ldA M c
  stA M c (shapeCast S256x256 a shapeCasts_S256x256_S256x256)
  let cy ← ldCy M c
  let _ ← ldSc M c
  stSc M c (scv cy)
  let _ ← ldCy M c
  stCy M c (cyv cy cum)

/-- One chunk's weights, factor and total from its logits, no pair masked, -/
def wtP (M : Refs sig) (l2e : F .f32) (u : FVec F S264x256 .bf16) (c : Ch) (z : FVec F S256x256 .f32) : Prog (TpuEff nD τ sig (Elt F) Λ .tc) PUnit :=
  putP M c (av z (cumv u (spb l2e z))) (cumv u (spb l2e z))

/-- and with a mask. -/
def wmP (M : Refs sig) (l2e : F .f32) (u : FVec F S264x256 .bf16) (c : Ch) (mk : IVec S256x256 1) (z : FVec F S256x256 .f32) : Prog (TpuEff nD τ sig (Elt F) Λ .tc) PUnit :=
  putP M c (am mk z (cumv u (spm l2e mk z))) (cumv u (spm l2e mk z))

/-- One block: its logits read from slot `sl`, the next block's stored into slot `sl'`, the block before it added to
    the accumulator, its own weights stored. -/
def stepP (M : Refs sig) (l2e : F .f32) (u : FVec F S264x256 .bf16) (sl sl' : ℕ) (hs : sl < 2) (hs' : sl' < 2) (k : KO) (v v' : VO) :
    Prog (TpuEff nD τ sig (Elt F) Λ .tc) PUnit := do
  let z0 ← ldZ M sl hs ch0
  let z1 ← ldZ M sl hs ch1
  let z2 ← ldZ M sl hs ch2
  let z3 ← ldZ M sl hs ch3
  stashP M sl' hs' k
  flushP M ch0 v
  flushP M ch1 v
  flushP M ch2 v'
  flushP M ch3 v'
  wtP M l2e u ch0 (shapeCast S256x256 z0 shapeCasts_S1x256x256_S256x256)
  wtP M l2e u ch1 (shapeCast S256x256 z1 shapeCasts_S1x256x256_S256x256)
  wtP M l2e u ch2 (shapeCast S256x256 z2 shapeCasts_S1x256x256_S256x256)
  wtP M l2e u ch3 (shapeCast S256x256 z3 shapeCasts_S1x256x256_S256x256)

/-- The later half of the queries against its own keys. -/
def diag1P (M : Refs sig) (l2e : F .f32) (u : FVec F S264x256 .bf16) (b : BitVec 32) (k : KO) : Prog (TpuEff nD τ sig (Elt F) Λ .tc) PUnit := do
  let kt ← ldK M k
  let q1 ← ldQ M ch1
  let q3 ← ldQ M ch3
  wmP M l2e u ch1 (maskv b) (qkv ch1.ko ch1.hsl kt q1)
  wmP M l2e u ch3 (maskv b) (qkv ch3.ko ch3.hsl kt q3)

/-- All the queries against the earlier half's keys. -/
def diag0P (M : Refs sig) (l2e : F .f32) (u : FVec F S264x256 .bf16) (b b' : BitVec 32) (k : KO) : Prog (TpuEff nD τ sig (Elt F) Λ .tc) PUnit := do
  let kt ← ldK M k
  let q0 ← ldQ M ch0
  let q1 ← ldQ M ch1
  let q2 ← ldQ M ch2
  let q3 ← ldQ M ch3
  wmP M l2e u ch0 (maskv b) (qkv ch0.ko ch0.hsl kt q0)
  wmP M l2e u ch1 (maskv b') (qkv ch1.ko ch1.hsl kt q1)
  wmP M l2e u ch2 (maskv b) (qkv ch2.ko ch2.hsl kt q2)
  wmP M l2e u ch3 (maskv b') (qkv ch3.ko ch3.hsl kt q3)

/-- The queries' rows of one head, at columns `o`, beside its bias's rows. -/
def qaugP (M : Refs sig) (l2e sl2e : F .f32) (o r : ℕ) (bo : Fin 1 → ℕ) (hb : ∀ a, bo a + S1.size a ≤ S16.size a)
    (hr : ∀ a, (![r, 0] : Fin 2 → ℕ) a + S64x512.size a ≤ S128x512.size a)
    (h0 : ∀ a, (![0, o] : Fin 2 → ℕ) a + S64x512.size a ≤ S128x1024.size a)
    (h1 : ∀ a, (![64, o] : Fin 2 → ℕ) a + S64x512.size a ≤ S128x1024.size a)
    (p0 : (Rect.unit (s := S128x1024) ![0, o] S64x512.size h0).PackedRows (EltTy.packing .bf16))
    (p1 : (Rect.unit (s := S128x1024) ![64, o] S64x512.size h1).PackedRows (EltTy.packing .bf16)) :
    Prog (TpuEff nD τ sig (Elt F) Λ .tc) PUnit := do
  let b : Elt F .f32 ← smemLoad M.bias (Rect.unit (s := S16) bo S1.size hb) numel1_S1 rfl
  let q : Vec F S64x512 .f32 ← Prog.lift (.load M.qt (Rect.unit (s := S128x512) ![r, 0] S64x512.size hr).toLoadRect (View.loadsAt_vmem h_S64x512))
  let _ : Vec F S64x512 .bf16 ← Prog.lift (.load M.qa (Rect.unit (s := S128x1024) ![0, o] S64x512.size h0).toLoadRect (View.loadsAt_vmem h_S64x512))
  Prog.lift (.store M.qa (Rect.unit (s := S128x1024) ![0, o] S64x512.size h0)
    (qsv sl2e q) Finset.univ
    (View.stores_vmem h_S64x512 (M.hqa.storeExact_slice rfl _ p0) (fun _ => rfl)) (.inl rfl))
  let _ : Vec F S64x512 .bf16 ← Prog.lift (.load M.qa (Rect.unit (s := S128x1024) ![64, o] S64x512.size h1).toLoadRect (View.loadsAt_vmem h_S64x512))
  Prog.lift (.store M.qa (Rect.unit (s := S128x1024) ![64, o] S64x512.size h1) (augv l2e b) Finset.univ
    (View.stores_vmem h_S64x512 (M.hqa.storeExact_slice rfl _ p1) (fun _ => rfl)) (.inl rfl))

/-- The scratch buffers' first contents: the augmented queries, nought in the accumulator and in the totals. -/
def initP (M : Refs sig) (l2e sl2e : F .f32) (b0 b1 : { f : Fin 1 → ℕ // ∀ a, f a + S1.size a ≤ S16.size a }) : Prog (TpuEff nD τ sig (Elt F) Λ .tc) PUnit := do
  qaugP M l2e sl2e 0 0 b0.1 b0.2 inb_S128x512_S64x512_0_0 inb_S128x1024_S64x512_0_0 inb_S128x1024_S64x512_64_0
    packedbf16_S128x1024_S64x512_0_0 packedbf16_S128x1024_S64x512_64_0
  qaugP M l2e sl2e 512 64 b1.1 b1.2 inb_S128x512_S64x512_64_0 inb_S128x1024_S64x512_0_512 inb_S128x1024_S64x512_64_512
    packedbf16_S128x1024_S64x512_0_512 packedbf16_S128x1024_S64x512_64_512
  let _ : Vec F S128x512 .f32 ← Prog.lift (.load M.acc (Rect.unit (s := S128x512) ![0, 0] S128x512.size inb_S128x512_S128x512_0_0).toLoadRect (View.loadsAt_vmem h_S128x512))
  Prog.lift (.store M.acc (Rect.unit (s := S128x512) ![0, 0] S128x512.size inb_S128x512_S128x512_0_0)
    (shapeCast S128x512 (broadcast S128x512 (Scalar.ofBits .f32 0x00000000#32)) shapeCasts_S128x512_S128x512 : FVec F S128x512 .f32) Finset.univ
    (View.stores_vmem_bits_univ h_S128x512 rfl) (.inl rfl))
  let _ : Vec F S8x1024 .f32 ← Prog.lift (.load M.cy (Rect.unit (s := S8x1024) ![0, 0] S8x1024.size inb_S8x1024_S8x1024_0_0).toLoadRect (View.loadsAt_vmem h_S8x1024))
  Prog.lift (.store M.cy (Rect.unit (s := S8x1024) ![0, 0] S8x1024.size inb_S8x1024_S8x1024_0_0)
    (shapeCast S8x1024 (broadcast S8x1024 (Scalar.ofBits .f32 0x00000000#32)) shapeCasts_S8x1024_S8x1024 : FVec F S8x1024 .f32) Finset.univ
    (View.stores_vmem_bits_univ h_S8x1024 rfl) (.inl rfl))

/-- The matrix of the suffix sums. -/
def ldU (M : Refs sig) : Prog (TpuEff nD τ sig (Elt F) Λ .tc) (Vec F S264x256 .bf16) :=
  Prog.lift (.load M.ut (Rect.unit (s := S264x256) ![0, 0] S264x256.size inb_S264x256_S264x256_0_0).toLoadRect (View.loadsAt_vmem h_S264x256))

/-- All but the loop: the first contents, the first stash, the diagonal's blocks. -/
def headP (M : Refs sig) (l2e sl2e : F .f32) (b0 b1 : { f : Fin 1 → ℕ // ∀ a, f a + S1.size a ≤ S16.size a }) (k2 k31 k30 : KO) (v4 v5 : VO)
    (m1 m0 m0' : BitVec 32) : Prog (TpuEff nD τ sig (Elt F) Λ .tc) (FVec F S264x256 .bf16) := do
  initP M l2e sl2e b0 b1
  let u ← ldU M
  stashP M 0 (by omega) k2
  diag1P M l2e (shapeCast S264x256 u shapeCasts_S264x256_S264x256) m1 k31
  flushP M ch1 v4
  flushP M ch3 v5
  diag0P M l2e (shapeCast S264x256 u shapeCasts_S264x256_S264x256) m0 m0' k30
  pure (shapeCast S264x256 u shapeCasts_S264x256_S264x256)

/-- The two blocks before the loop of an odd tile. -/
def oddP (M : Refs sig) (l2e : F .f32) (u : FVec F S264x256 .bf16) (k1 k2 : KO) (v1 v1' v2 v2' : VO) : Prog (TpuEff nD τ sig (Elt F) Λ .tc) PUnit := do
  stepP M l2e u 0 1 (by omega) (by omega) k1 v1 v1'
  stepP M l2e u 1 0 (by omega) (by omega) k2 v2 v2'

/-- The loop's four blocks. -/
def quadP (M : Refs sig) (l2e : F .f32) (u : FVec F S264x256 .bf16) (k : Fin 4 → KO) (v v' : Fin 4 → VO) : Prog (TpuEff nD τ sig (Elt F) Λ .tc) PUnit := do
  stepP M l2e u 0 1 (by omega) (by omega) (k 0) (v 0) (v' 0)
  stepP M l2e u 1 0 (by omega) (by omega) (k 1) (v 1) (v' 1)
  stepP M l2e u 0 1 (by omega) (by omega) (k 2) (v 2) (v' 2)
  stepP M l2e u 1 0 (by omega) (by omega) (k 3) (v 3) (v' 3)

/-- The last block added and the accumulator copied out. -/
def tailP (M : Refs sig) (v v' : VO) : Prog (TpuEff nD τ sig (Elt F) Λ .tc) PUnit := do
  flushP M ch0 v
  flushP M ch1 v
  flushP M ch2 v'
  flushP M ch3 v'
  let o : Vec F S128x512 .f32 ← Prog.lift (.load M.acc (Rect.unit (s := S128x512) ![0, 0] S128x512.size inb_S128x512_S128x512_0_0).toLoadRect (View.loadsAt_vmem h_S128x512))
  let _ : Vec F S128x512 .f32 ← Prog.lift (.load M.out (Rect.unit (s := S128x512) ![0, 0] S128x512.size inb_S128x512_S128x512_0_0).toLoadRect (View.loadsAt_vmem h_S128x512))
  Prog.lift (.store M.out (Rect.unit (s := S128x512) ![0, 0] S128x512.size inb_S128x512_S128x512_0_0) o Finset.univ
    (View.stores_vmem_bits_univ h_S128x512 rfl) (.inl rfl))

end Programs

end Cert.Sb

end
-- ==== Proof.Body.lean ====
/-
  The printed attention kernel (`KernelIdeal`) is the tiles' program text, piece by piece.
-/
module

public import proofs.«01_k».proof.Proof.Tile
public import proofs.«01_k».proof.Proof.Gen.KernelIdeal.Skeleton

@[expose] public section

noncomputable section

namespace Cert.KernelIdeal.Sb

open Idealize.ShloMosaic Idealize.SL.Sem
open Cert.Sb Cert.KernelIdeal Cert.KernelIdeal.Gen

variable {F : FTy → Type} [FloatOps F] [Named F]

/-- The constant that takes a natural logarithm to base two. -/
abbrev l2e : F .f32 := Named.named κ "log2e" 0x3FB8AA3B#32

/-- The scale of the logits, to base two. -/
abbrev sl2e : F .f32 := Named.named κ "scale_log2e" 0x3E38AA3B#32

/-- The offsets of the loop's trip `t`: its four blocks of keys and of each head's values. -/
def qk (i : grid0.Coords) (t : Fin (k0_t1_loop i).trips) (r : Fin 4) : KO := ⟨k0_off9 i t (BitVec.ofNat 32 r.val), Gen.k0_off9_inb i t r⟩
@[inherit_doc qk] def qv (i : grid0.Coords) (t : Fin (k0_t1_loop i).trips) (r : Fin 4) : VO := ⟨k0_off10 i t (BitVec.ofNat 32 r.val), Gen.k0_off10_inb i t r⟩
@[inherit_doc qk] def qw (i : grid0.Coords) (t : Fin (k0_t1_loop i).trips) (r : Fin 4) : VO := ⟨k0_off11 i t (BitVec.ofNat 32 r.val), Gen.k0_off11_inb i t r⟩

set_option maxRecDepth 65536 in
set_option maxHeartbeats 4000000 in
theorem t1_body_eq (i : grid0.Coords) (M : Refs sig) (h2 : M.bias.IsWhole) (h3 : M.qt.IsWhole) (h4 : M.ky.IsWhole) (h5 : M.vt.IsWhole)
    (h6 : M.ut.IsWhole) (h7 : M.out.IsWhole) (h9 : M.acc.IsWhole) (h10 : M.cy.IsWhole) (h11 : M.sc.IsWhole) (h13 : M.z.IsWhole)
    (x : BitVec 32) (u : FVec F S264x256 .bf16) (y1 y2 y3 y4 : BitVec 32) (t : Fin (k0_t1_loop i).trips) (w : BitVec 32) :
    k0_t1_body (F := F) i M.bias h2 M.qt h3 M.ky h4 M.vt h5 M.ut h6 M.out h7 M.qa M.hqa M.acc h9 M.cy h10 M.sc h11 M.a M.ha M.z h13 x u y1 y2 y3 y4 t w
      = (quadP M l2e u (qk i t) (qv i t) (qw i t) >>= fun _ => pure 0#32) := rfl

/-- The heads' biases' places, -/
def qb0 (i : grid0.Coords) : { f : Fin 1 → ℕ // ∀ a, f a + S1.size a ≤ S16.size a } := ⟨k0_off1 i 0#32, Gen.k0_off1_inb i 0⟩
@[inherit_doc qb0] def qb1 (i : grid0.Coords) : { f : Fin 1 → ℕ // ∀ a, f a + S1.size a ≤ S16.size a } := ⟨k0_off1 i 1#32, Gen.k0_off1_inb i 1⟩
/-- the blocks of keys and of values that the diagonal reads, -/
def qk2 (i : grid0.Coords) : KO := ⟨k0_off2 i, Gen.k0_off2_inb i⟩
@[inherit_doc qk2] def qk31 (i : grid0.Coords) : KO := ⟨k0_off3 i 1#32, Gen.k0_off3_inb i 1⟩
@[inherit_doc qk2] def qk30 (i : grid0.Coords) : KO := ⟨k0_off3 i 0#32, Gen.k0_off3_inb i 0⟩
@[inherit_doc qk2] def qv4 (i : grid0.Coords) : VO := ⟨k0_off4 i, Gen.k0_off4_inb i⟩
@[inherit_doc qk2] def qv5 (i : grid0.Coords) : VO := ⟨k0_off5 i, Gen.k0_off5_inb i⟩
/-- those of the two blocks of an odd tile, -/
def qk6 (i : grid0.Coords) (h : k0_cond1 i = 1#1) (r : Fin 2) : KO := ⟨k0_off6 i (BitVec.ofNat 32 (1 + r.val)), Gen.k0_off6_inb i h r⟩
@[inherit_doc qk6] def qv7 (i : grid0.Coords) (h : k0_cond1 i = 1#1) (r : Fin 2) : VO := ⟨k0_off7 i (BitVec.ofNat 32 (1 + r.val)), Gen.k0_off7_inb i h r⟩
@[inherit_doc qk6] def qv8 (i : grid0.Coords) (h : k0_cond1 i = 1#1) (r : Fin 2) : VO := ⟨k0_off8 i (BitVec.ofNat 32 (1 + r.val)), Gen.k0_off8_inb i h r⟩
/-- and the first blocks of values. -/
def qz0 : VO := ⟨![0, 0, 0, 0], inb_S2x64x64x256_S1x1x64x256_0_0_0_0⟩
@[inherit_doc qz0] def qz1 : VO := ⟨![1, 0, 0, 0], inb_S2x64x64x256_S1x1x64x256_1_0_0_0⟩

/-- How much further on the keys of the diagonal's block `n` are than the queries of half `h`. -/
def qm (i : grid0.Coords) (n h : BitVec 32) : BitVec 32 :=
  Scalar.subi (Scalar.subi (Scalar.muli (Scalar.addi (Scalar.muli (BitVec.ofNat 32 (i 1).val) 2#32) n) 256#32)
    (Scalar.muli (BitVec.ofNat 32 (i 1).val) 512#32)) h

/-- The same of the loop that never runs. -/
def rk (i : grid0.Coords) (t : Fin (k0_t2_loop i).trips) (r : Fin 4) : KO := ⟨k0_off12 i t (BitVec.ofNat 32 r.val), Gen.k0_off12_inb i t r⟩
@[inherit_doc rk] def rv (i : grid0.Coords) (t : Fin (k0_t2_loop i).trips) (r : Fin 4) : VO := ⟨k0_off13 i t (BitVec.ofNat 32 r.val), Gen.k0_off13_inb i t r⟩
@[inherit_doc rk] def rw' (i : grid0.Coords) (t : Fin (k0_t2_loop i).trips) (r : Fin 4) : VO := ⟨k0_off14 i t (BitVec.ofNat 32 r.val), Gen.k0_off14_inb i t r⟩

/-- The loop, four blocks a trip. -/
def loop1P (i : grid0.Coords) (M : Refs sig) (u : FVec F S264x256 .bf16) : Prog (TpuEff nD τ sig (Elt F) Λ₀ .tc) (BitVec 32) :=
  Scf.Loop.for (k0_t1_loop i) (Gen.k0_t1_ok i) 0#32 (fun t _ => quadP M l2e u (qk i t) (qv i t) (qw i t) >>= fun _ => pure 0#32)

/-- The loop of what four do not divide: nothing is left. -/
def loop2P (i : grid0.Coords) (M : Refs sig) (u : FVec F S264x256 .bf16) (w : BitVec 32) : Prog (TpuEff nD τ sig (Elt F) Λ₀ .tc) (BitVec 32) :=
  Scf.Loop.for (k0_t2_loop i) (Gen.k0_t2_ok i) w (fun t _ => quadP M l2e u (rk i t) (rv i t) (rw' i t) >>= fun _ => pure 0#32)

/-- The printed body with its conditional decided: `odd` is what runs there. -/
def mainP (i : grid0.Coords) (M : Refs sig) (odd : FVec F S264x256 .bf16 → Prog (TpuEff nD τ sig (Elt F) Λ₀ .tc) PUnit) :
    Prog (TpuEff nD τ sig (Elt F) Λ₀ .tc) PUnit :=
  headP M l2e sl2e (qb0 i) (qb1 i) (qk2 i) (qk31 i) (qk30 i) (qv4 i) (qv5 i) (qm i 1#32 256#32) (qm i 0#32 0#32) (qm i 0#32 256#32) >>= fun u =>
  odd u >>= fun _ => loop1P i M u >>= fun w => loop2P i M u w >>= fun _ => tailP M qz0 qz1

section
variable (i : grid0.Coords) (M : Refs sig) (h2 : M.bias.IsWhole) (h3 : M.qt.IsWhole) (h4 : M.ky.IsWhole) (h5 : M.vt.IsWhole)
    (h6 : M.ut.IsWhole) (h7 : M.out.IsWhole) (h9 : M.acc.IsWhole) (h10 : M.cy.IsWhole) (h11 : M.sc.IsWhole) (h13 : M.z.IsWhole)

/-- The part that holds the conditional and the loops, with what follows it: on an odd tile, -/
theorem part78_pos {β : Type} (h : k0_cond1 i = 1#1) (x : BitVec 32) (u : FVec F S264x256 .bf16) (y1 y2 y3 : BitVec 32)
    (f : FVec F S64x256 .f32 → Prog (TpuEff nD τ sig (Elt F) Λ₀ .tc) β) :
    (k0_part78 (F := F) i M.bias h2 M.qt h3 M.ky h4 M.vt h5 M.ut h6 M.out h7 M.qa M.hqa M.acc h9 M.cy h10 M.sc h11 M.a M.ha M.z h13 x u y1 y2 y3 >>= f)
      = (oddP M l2e u (qk6 i h 0) (qk6 i h 1) (qv7 i h 0) (qv8 i h 0) (qv7 i h 1) (qv8 i h 1) >>= fun _ =>
        loop1P i M u >>= fun w => loop2P i M u w >>= fun _ =>
        ldAcc M ch0 >>= fun c => ldV M qz0 >>= fun v => ldA M ch0 >>= fun a => ldSc M ch0 >>= fun s => f (k0_pay439 c v a s)) := by
  rw [k0_part78_eq_skeleton]
  unfold k0_part78_skel
  simp only [dif_pos h, bind_assoc]
  rfl

/-- and on an even one. -/
theorem part78_neg {β : Type} (h : ¬ k0_cond1 i = 1#1) (x : BitVec 32) (u : FVec F S264x256 .bf16) (y1 y2 y3 : BitVec 32)
    (f : FVec F S64x256 .f32 → Prog (TpuEff nD τ sig (Elt F) Λ₀ .tc) β) :
    (k0_part78 (F := F) i M.bias h2 M.qt h3 M.ky h4 M.vt h5 M.ut h6 M.out h7 M.qa M.hqa M.acc h9 M.cy h10 M.sc h11 M.a M.ha M.z h13 x u y1 y2 y3 >>= f)
      = (loop1P i M u >>= fun w => loop2P i M u w >>= fun _ =>
        ldAcc M ch0 >>= fun c => ldV M qz0 >>= fun v => ldA M ch0 >>= fun a => ldSc M ch0 >>= fun s => f (k0_pay439 c v a s)) := by
  rw [k0_part78_eq_skeleton]
  unfold k0_part78_skel
  simp only [dif_neg h, bind_assoc]
  rfl

set_option maxRecDepth 65536 in
/-- The whole body on an odd tile, -/
theorem body_pos (h : k0_cond1 i = 1#1) :
    cc0_sb_attn_prompt (F := F) i M.bias h2 M.qt h3 M.ky h4 M.vt h5 M.ut h6 M.out h7 M.qa M.hqa M.acc h9 M.cy h10 M.sc h11 M.a M.ha M.z h13
      = mainP i M (fun u => oddP M l2e u (qk6 i h 0) (qk6 i h 1) (qv7 i h 0) (qv8 i h 0) (qv7 i h 1) (qv8 i h 1)) := by
  rw [cc0_sb_attn_prompt_eq_skeleton]
  unfold cc0_sb_attn_prompt_skel
  simp only [part78_pos i M h2 h3 h4 h5 h6 h7 h9 h10 h11 h13 h]
  rfl

set_option maxRecDepth 65536 in
/-- and on an even one. -/
theorem body_neg (h : ¬ k0_cond1 i = 1#1) :
    cc0_sb_attn_prompt (F := F) i M.bias h2 M.qt h3 M.ky h4 M.vt h5 M.ut h6 M.out h7 M.qa M.hqa M.acc h9 M.cy h10 M.sc h11 M.a M.ha M.z h13
      = mainP i M (fun _ => pure ⟨⟩) := by
  rw [cc0_sb_attn_prompt_eq_skeleton]
  unfold cc0_sb_attn_prompt_skel
  simp only [part78_neg i M h2 h3 h4 h5 h6 h7 h9 h10 h11 h13 h]
  rfl

end

end Cert.KernelIdeal.Sb

end
-- ==== Proof.Step.lean ====
/-
  How a program of loads and stores runs on the kernel's twelve buffers: each is owned whole at its contents, and a
  straight-line program takes these contents to others and yields a value (`Runs`). A load reads the contents through
  its rectangle; a store overlays them.
-/
module

public import proofs.«01_k».proof.Proof.Tile
public import Idealize.ShloMosaic.Lib.Pipeline.FrameBody
public import Idealize.ShloMosaic.Lib.Tactic
public import Idealize.ShloMosaic.Lib.Pipeline.Kit

@[expose] public section

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]
variable {nD : ℕ} {τ : Topo} {sig : RefSig} {Λ : Labels} {U : Type} [URA U] (defs : Defs nD τ sig (Elt F) Λ) (𝒱 : Variants)
  (E : Set ℕ) (c : Dev nD)

local notation "𝕄" => MT nD τ sig Unit (Elt F) ℕ U ℕ

/-! ## One buffer -/

section One

variable {cs : CoreSpace} {sh : Shape} {e : EltTy} (m : Memref sig .tc cs sh e)

/-- A load reads the contents through its rectangle, -/
theorem wp_ld {r : Rect sh} {hl : m.view.LoadsAt r.toLoadRect} (X : sh.Idx → Elt F e) (Q : (r.shape.Idx → Elt F e) → sProp 𝕄) :
    (owns (c : Thread nD τ) m fullShare X : sProp 𝕄)
      ⊢ iprop((owns (c : Thread nD τ) m fullShare X -∗ Q (fun x => X (r.emb x)))
        -∗ wp frame (wpE defs 𝒱 (c : Thread nD τ) none) E (Prog.lift (.load m r.toLoadRect hl)) Q) := by
  unfold owns
  iintro ⟨%f, %hf, H⟩
  iintro HK
  subst hf
  have h := wp_load_rect (defs := defs) (Γ := PendingWaitsCtx.empty) 𝒱 (c : Thread nD τ) none E (m := m) (hl := hl) (q := fullShare) (f := f) (Q := Q) (k := .ret)
    (View.set_slice_subset m.view r)
  rw [show (m.access r).read (Elt F) f = fun x => m.view.read (Elt F) f (r.emb x) from rfl] at h
  iapply h $$ H
  iintro H
  iapply le_wp_ret
  iapply HK
  iexists f
  isplitr
  · ipureintro; rfl
  · iexact H

/-- and a store overlays them. -/
theorem wp_st {r : Rect sh} {w : r.shape.Idx → Elt F e} {hx : (m.access r).Stores Finset.univ} {hm : Finset.univ = Finset.univ ∨ ∀ a, r.stride a = 1}
    (X : sh.Idx → Elt F e) (Q : PUnit → sProp 𝕄) :
    (owns (c : Thread nD τ) m fullShare X : sProp 𝕄)
      ⊢ iprop((owns (c : Thread nD τ) m fullShare (r.overlay X w) -∗ Q ⟨⟩)
        -∗ wp frame (wpE defs 𝒱 (c : Thread nD τ) none) E (Prog.lift (.store m r w Finset.univ hx hm)) Q) := by
  unfold owns
  iintro ⟨%f, %hf, H⟩
  iintro HK
  subst hf
  have h := wp_store (defs := defs) (Γ := PendingWaitsCtx.empty) 𝒱 (c : Thread nD τ) none E (m := m) (w := w) (hx := hx) (hm := hm) (f := f) (Q := Q) (k := .ret)
    ((View.setOn_subset_set (m.access r) Finset.univ).trans (View.set_slice_subset m.view r))
  iapply h $$ H
  iintro H
  iapply le_wp_ret
  iapply HK
  iexists _
  isplitr
  · ipureintro
    show m.view.read (Elt F) ((m.view.slice r).write (Elt F) f w Finset.univ) = _
    funext y
    by_cases hy : y ∈ r.set
    · obtain ⟨x, rfl⟩ := r.exists_idx_of_mem hy
      exact (View.read_slice_write_emb r f w (Finset.mem_univ x)).trans (Rect.overlay_emb r _ w x).symm
    · rw [Rect.overlay_of_not_mem r _ _ hy]
      exact View.read_slice_write_of_not_mem r f w _ (by rw [Rect.map_emb_univ]; exact hy)
  · iexact H

end One

/-- A scalar load reads one element. -/
theorem wp_lds {sh : Shape} {e : EltTy} (m : Memref sig .tc .smem sh e) {r : Rect sh} {h1 : r.shape.numel = 1} {hp : e.packing = 1}
    (X : sh.Idx → Elt F e) (Q : Elt F e → sProp 𝕄) :
    (owns (c : Thread nD τ) m fullShare X : sProp 𝕄)
      ⊢ iprop((owns (c : Thread nD τ) m fullShare X -∗ Q (X (r.emb (Shape.Idx.first (h1.symm ▸ Nat.one_pos)))))
        -∗ wp frame (wpE defs 𝒱 (c : Thread nD τ) none) E (smemLoad m r h1 hp) Q) := by
  unfold owns
  iintro ⟨%f, %hf, H⟩
  iintro HK
  subst hf
  have h := wp_smemLoadElt (defs := defs) (Γ := PendingWaitsCtx.empty) 𝒱 (c : Thread nD τ) none E (m := m) (r := r) (hw := View.loads_smem_one hp h1)
    (q := fullShare) (f := f) (Q := Q) (k := .ret) (x := Shape.Idx.first (h1.symm ▸ Nat.one_pos))
    (View.set_slice_subset m.view r)
  rw [show (m.access r).read (Elt F) f = fun x => m.view.read (Elt F) f (r.emb x) from rfl] at h
  iapply h $$ H
  iintro H
  iapply le_wp_ret
  iapply HK
  iexists f
  isplitr
  · ipureintro; rfl
  · iexact H

/-! ## The twelve buffers -/

variable (M : Refs sig)

/-- The kernel's buffers, each at its contents. -/
def own (s : St F) : sProp 𝕄 :=
  iprop(owns (c : Thread nD τ) M.bias fullShare s.bias ∗ owns (c : Thread nD τ) M.qt fullShare s.qt ∗ owns (c : Thread nD τ) M.ky fullShare s.ky ∗
    owns (c : Thread nD τ) M.vt fullShare s.vt ∗ owns (c : Thread nD τ) M.ut fullShare s.ut ∗ owns (c : Thread nD τ) M.out fullShare s.out ∗
    owns (c : Thread nD τ) M.qa fullShare s.qa ∗ owns (c : Thread nD τ) M.acc fullShare s.acc ∗ owns (c : Thread nD τ) M.cy fullShare s.cy ∗
    owns (c : Thread nD τ) M.sc fullShare s.sc ∗ owns (c : Thread nD τ) M.a fullShare s.a ∗ owns (c : Thread nD τ) M.z fullShare s.z)

/-- The program `p` takes the contents `s` to `s'` and yields `v`. -/
def Runs {α : Type} (p : Prog (TpuEff nD τ sig (Elt F) Λ .tc) α) (s s' : St F) (v : α) : Prop :=
  ∀ Q : α → sProp 𝕄, (own (U := U) c M s : sProp 𝕄) ⊢ iprop((own (U := U) c M s' -∗ Q v) -∗ wp frame (wpE defs 𝒱 (c : Thread nD τ) none) E p Q)

variable {defs 𝒱 E c M}

local notation "ℝ" => Runs (U := U) defs 𝒱 E c M

theorem Runs.pure {α : Type} (s : St F) (v : α) : ℝ (Pure.pure v) s s v := by
  intro Q
  iintro H HK
  iapply le_wp_ret
  iapply HK $$ H

theorem Runs.bind {α β : Type} {p : Prog (TpuEff nD τ sig (Elt F) Λ .tc) α} {k : α → Prog (TpuEff nD τ sig (Elt F) Λ .tc) β}
    {s s' s'' : St F} {v : α} {w : β} (h : ℝ p s s' v) (hk : ℝ (k v) s' s'' w) : ℝ (p >>= k) s s'' w := by
  intro Q
  rw [wp_bind]
  iintro H HK
  iapply (h _) $$ H
  iintro H
  iapply (hk _) $$ H
  iexact HK

/-- A buffer among the twelve: how its contents are read and replaced. -/
def At {cs : CoreSpace} {sh : Shape} {e : EltTy} (c : Dev nD) (M : Refs sig) (m : Memref sig .tc cs sh e) (get : St F → (sh.Idx → Elt F e)) (set : St F → (sh.Idx → Elt F e) → St F) : Prop :=
  ∀ s, (own (U := U) c M s : sProp 𝕄) ⊢ iprop(owns (c : Thread nD τ) m fullShare (get s) ∗ ∀ X, owns (c : Thread nD τ) m fullShare X -∗ own (U := U) c M (set s X))

section Buf

variable {cs : CoreSpace} {sh : Shape} {e : EltTy} {m : Memref sig .tc cs sh e} {get : St F → (sh.Idx → Elt F e)} {set : St F → (sh.Idx → Elt F e) → St F}

theorem At.load (h : At (τ := τ) (U := U) c M m get set) (hs : ∀ s, set s (get s) = s) {r : Rect sh} {hl : m.view.LoadsAt r.toLoadRect} (s : St F) :
    ℝ (Prog.lift (.load m r.toLoadRect hl)) s s (fun x => get s (r.emb x)) := by
  intro Q
  iintro H HK
  icases (h s) $$ H with ⟨H, HR⟩
  iapply (wp_ld defs 𝒱 E c m (get s) Q) $$ H
  iintro H
  iapply HK
  ispecialize HR $$ %(get s)
  rw [hs s]
  iapply HR $$ H

theorem At.store (h : At (τ := τ) (U := U) c M m get set) {r : Rect sh} {w : r.shape.Idx → Elt F e} {hx : (m.access r).Stores Finset.univ}
    {hm : Finset.univ = Finset.univ ∨ ∀ a, r.stride a = 1} (s : St F) :
    ℝ (Prog.lift (.store m r w Finset.univ hx hm)) s (set s (r.overlay (get s) w)) ⟨⟩ := by
  intro Q
  iintro H HK
  icases (h s) $$ H with ⟨H, HR⟩
  iapply (wp_st defs 𝒱 E c m (get s) Q) $$ H
  iintro H
  iapply HK
  iapply HR $$ H

end Buf

theorem At.loads {sh : Shape} {e : EltTy} {m : Memref sig .tc .smem sh e} {get : St F → (sh.Idx → Elt F e)} {set : St F → (sh.Idx → Elt F e) → St F}
    (h : At (τ := τ) (U := U) c M m get set) (hs : ∀ s, set s (get s) = s) {r : Rect sh} {h1 : r.shape.numel = 1} {hp : e.packing = 1} (s : St F) :
    ℝ (smemLoad m r h1 hp) s s (get s (r.emb (Shape.Idx.first (h1.symm ▸ Nat.one_pos)))) := by
  intro Q
  iintro H HK
  icases (h s) $$ H with ⟨H, HR⟩
  iapply (wp_lds defs 𝒱 E c m (get s) Q) $$ H
  iintro H
  iapply HK
  ispecialize HR $$ %(get s)
  rw [hs s]
  iapply HR $$ H

variable (c M)

theorem at_bias : At (τ := τ) (U := U) (F := F) c M M.bias St.bias (fun s X => { s with bias := X }) := by
  intro s; simp only [own]
  iintro ⟨H1, H2, H3, H4, H5, H6, H7, H8, H9, H10, H11, H12⟩
  isplitl [H1]; · iexact H1
  iintro %X H1; iframe

theorem at_qt : At (τ := τ) (U := U) (F := F) c M M.qt St.qt (fun s X => { s with qt := X }) := by
  intro s; simp only [own]
  iintro ⟨H1, H2, H3, H4, H5, H6, H7, H8, H9, H10, H11, H12⟩
  isplitl [H2]; · iexact H2
  iintro %X H2; iframe

theorem at_ky : At (τ := τ) (U := U) (F := F) c M M.ky St.ky (fun s X => { s with ky := X }) := by
  intro s; simp only [own]
  iintro ⟨H1, H2, H3, H4, H5, H6, H7, H8, H9, H10, H11, H12⟩
  isplitl [H3]; · iexact H3
  iintro %X H3; iframe

theorem at_vt : At (τ := τ) (U := U) (F := F) c M M.vt St.vt (fun s X => { s with vt := X }) := by
  intro s; simp only [own]
  iintro ⟨H1, H2, H3, H4, H5, H6, H7, H8, H9, H10, H11, H12⟩
  isplitl [H4]; · iexact H4
  iintro %X H4; iframe

theorem at_ut : At (τ := τ) (U := U) (F := F) c M M.ut St.ut (fun s X => { s with ut := X }) := by
  intro s; simp only [own]
  iintro ⟨H1, H2, H3, H4, H5, H6, H7, H8, H9, H10, H11, H12⟩
  isplitl [H5]; · iexact H5
  iintro %X H5; iframe

theorem at_out : At (τ := τ) (U := U) (F := F) c M M.out St.out (fun s X => { s with out := X }) := by
  intro s; simp only [own]
  iintro ⟨H1, H2, H3, H4, H5, H6, H7, H8, H9, H10, H11, H12⟩
  isplitl [H6]; · iexact H6
  iintro %X H6; iframe

theorem at_qa : At (τ := τ) (U := U) (F := F) c M M.qa St.qa (fun s X => { s with qa := X }) := by
  intro s; simp only [own]
  iintro ⟨H1, H2, H3, H4, H5, H6, H7, H8, H9, H10, H11, H12⟩
  isplitl [H7]; · iexact H7
  iintro %X H7; iframe

theorem at_acc : At (τ := τ) (U := U) (F := F) c M M.acc St.acc (fun s X => { s with acc := X }) := by
  intro s; simp only [own]
  iintro ⟨H1, H2, H3, H4, H5, H6, H7, H8, H9, H10, H11, H12⟩
  isplitl [H8]; · iexact H8
  iintro %X H8; iframe

theorem at_cy : At (τ := τ) (U := U) (F := F) c M M.cy St.cy (fun s X => { s with cy := X }) := by
  intro s; simp only [own]
  iintro ⟨H1, H2, H3, H4, H5, H6, H7, H8, H9, H10, H11, H12⟩
  isplitl [H9]; · iexact H9
  iintro %X H9; iframe

theorem at_sc : At (τ := τ) (U := U) (F := F) c M M.sc St.sc (fun s X => { s with sc := X }) := by
  intro s; simp only [own]
  iintro ⟨H1, H2, H3, H4, H5, H6, H7, H8, H9, H10, H11, H12⟩
  isplitl [H10]; · iexact H10
  iintro %X H10; iframe

theorem at_a : At (τ := τ) (U := U) (F := F) c M M.a St.a (fun s X => { s with a := X }) := by
  intro s; simp only [own]
  iintro ⟨H1, H2, H3, H4, H5, H6, H7, H8, H9, H10, H11, H12⟩
  isplitl [H11]; · iexact H11
  iintro %X H11; iframe

theorem at_z : At (τ := τ) (U := U) (F := F) c M M.z St.z (fun s X => { s with z := X }) := by
  intro s; simp only [own]
  iintro ⟨H1, H2, H3, H4, H5, H6, H7, H8, H9, H10, H11, H12⟩
  isplitl [H12]; · iexact H12
  iintro %X H12; iframe

end Cert.Sb

end
-- ==== Proof.Flow.lean ====
/-
  What the kernel's straight-line programs do to the contents of its buffers: per program the function of the
  contents, and that the program runs to it.
-/
module

public import proofs.«01_k».proof.Proof.Step

@[expose] public section

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F]

/-! ## The rectangles -/

abbrev rZ (sl : ℕ) (hs : sl < 2) (c : Ch) : Rect S2x256x1024 := Rect.unit (s := S2x256x1024) ![sl, 0, c.o] S1x256x256.size (c.hz sl hs)
abbrev rQ (c : Ch) : Rect S128x1024 := Rect.unit (s := S128x1024) ![0, c.o] S128x256.size c.hq
abbrev rK (k : KO) : Rect S16384x256 := Rect.unit (s := S16384x256) k.1 S256x256.size k.2
abbrev rV (v : VO) : Rect S2x64x64x256 := Rect.unit (s := S2x64x64x256) v.1 S1x1x64x256.size v.2
abbrev rAcc (c : Ch) : Rect S128x512 := Rect.unit (s := S128x512) ![c.r, c.co] S64x256.size c.hacc
abbrev rA (c : Ch) : Rect S256x1024 := Rect.unit (s := S256x1024) ![0, c.o] S256x256.size c.ha
abbrev rC (c : Ch) : Rect S8x1024 := Rect.unit (s := S8x1024) ![0, c.o] S1x256.size c.hc
abbrev rUt : Rect S264x256 := Rect.unit (s := S264x256) ![0, 0] S264x256.size inb_S264x256_S264x256_0_0
abbrev rO : Rect S128x512 := Rect.unit (s := S128x512) ![0, 0] S128x512.size inb_S128x512_S128x512_0_0
abbrev rCy : Rect S8x1024 := Rect.unit (s := S8x1024) ![0, 0] S8x1024.size inb_S8x1024_S8x1024_0_0
abbrev rB (b : Fin 1 → ℕ) (hb : ∀ a, b a + S1.size a ≤ S16.size a) : Rect S16 := Rect.unit (s := S16) b S1.size hb
abbrev rQt (r : ℕ) (hr : ∀ a, (![r, 0] : Fin 2 → ℕ) a + S64x512.size a ≤ S128x512.size a) : Rect S128x512 := Rect.unit (s := S128x512) ![r, 0] S64x512.size hr
abbrev rQa (r o : ℕ) (h : ∀ a, (![r, o] : Fin 2 → ℕ) a + S64x512.size a ≤ S128x1024.size a) : Rect S128x1024 := Rect.unit (s := S128x1024) ![r, o] S64x512.size h

/-! ## What is read -/

def gZ (s : St F) (sl : ℕ) (hs : sl < 2) (c : Ch) : Vec F S1x256x256 .f32 := fun x => s.z ((rZ sl hs c).emb x)
def gQ (s : St F) (c : Ch) : Vec F S128x256 .bf16 := fun x => s.qa ((rQ c).emb x)
def gK (s : St F) (k : KO) : Vec F S256x256 .bf16 := fun x => s.ky ((rK k).emb x)
def gV (s : St F) (v : VO) : Vec F S1x1x64x256 .bf16 := fun x => s.vt ((rV v).emb x)
def gAcc (s : St F) (c : Ch) : Vec F S64x256 .f32 := fun x => s.acc ((rAcc c).emb x)
def gA (s : St F) (c : Ch) : Vec F S256x256 .bf16 := fun x => s.a ((rA c).emb x)
def gSc (s : St F) (c : Ch) : Vec F S1x256 .f32 := fun x => s.sc ((rC c).emb x)
def gCy (s : St F) (c : Ch) : Vec F S1x256 .f32 := fun x => s.cy ((rC c).emb x)
def gUt (s : St F) : Vec F S264x256 .bf16 := fun x => s.ut (rUt.emb x)
def gO (s : St F) : Vec F S128x512 .f32 := fun x => s.acc (rO.emb x)
def gB (s : St F) (b : { f : Fin 1 → ℕ // ∀ a, f a + S1.size a ≤ S16.size a }) : Elt F .f32 :=
  s.bias ((rB b.1 b.2).emb (Shape.Idx.first (s := (rB b.1 b.2).shape) (numel1_S1.symm ▸ Nat.one_pos)))
def gQt (s : St F) (r : ℕ) (hr : ∀ a, (![r, 0] : Fin 2 → ℕ) a + S64x512.size a ≤ S128x512.size a) : Vec F S64x512 .f32 := fun x => s.qt ((rQt r hr).emb x)

/-! ## What is written -/

/-- One chunk's logits into a slot. -/
def sZ (s : St F) (sl : ℕ) (hs : sl < 2) (c : Ch) (w : FVec F S256x256 .f32) : St F :=
  { s with z := (rZ sl hs c).overlay s.z (shapeCast S1x256x256 w shapeCasts_S256x256_S1x256x256) }

/-- The logits of a block, all four chunks, into a slot. -/
def stashS (s : St F) (sl : ℕ) (hs : sl < 2) (k : KO) : St F :=
  sZ (sZ (sZ (sZ s sl hs ch0 (qkv ch0.ko ch0.hsl (gK s k) (gQ s ch0)))
    sl hs ch1 (qkv ch1.ko ch1.hsl (gK s k) (gQ s ch1)))
    sl hs ch2 (qkv ch2.ko ch2.hsl (gK s k) (gQ s ch2)))
    sl hs ch3 (qkv ch3.ko ch3.hsl (gK s k) (gQ s ch3))

/-- One chunk's weighted values added. -/
def flushS (s : St F) (c : Ch) (v : VO) : St F :=
  { s with acc := (rAcc c).overlay s.acc (flv (gAcc s c) (gV s v) (gA s c) (gSc s c)) }

/-- One chunk's weights, factor and total. -/
def putS (s : St F) (c : Ch) (a : FVec F S256x256 .bf16) (cum : FVec F S264x256 .f32) : St F :=
  { s with a := (rA c).overlay s.a (shapeCast S256x256 a shapeCasts_S256x256_S256x256)
           sc := (rC c).overlay s.sc (scv (gCy s c))
           cy := (rC c).overlay s.cy (cyv (gCy s c) cum) }

def wtS (s : St F) (l2e : F .f32) (u : FVec F S264x256 .bf16) (c : Ch) (z : FVec F S256x256 .f32) : St F :=
  putS s c (av z (cumv u (spb l2e z))) (cumv u (spb l2e z))

def wmS (s : St F) (l2e : F .f32) (u : FVec F S264x256 .bf16) (c : Ch) (mk : IVec S256x256 1) (z : FVec F S256x256 .f32) : St F :=
  putS s c (am mk z (cumv u (spm l2e mk z))) (cumv u (spm l2e mk z))

/-- All four chunks' weighted values added. -/
def flush4S (s : St F) (v v' : VO) : St F := flushS (flushS (flushS (flushS s ch0 v) ch1 v) ch2 v') ch3 v'

/-- All four chunks' weights. -/
def wt4S (s : St F) (l2e : F .f32) (u : FVec F S264x256 .bf16) (z : Ch → FVec F S256x256 .f32) : St F :=
  wtS (wtS (wtS (wtS s l2e u ch0 (z ch0)) l2e u ch1 (z ch1)) l2e u ch2 (z ch2)) l2e u ch3 (z ch3)

/-- One block. -/
def stepS (s : St F) (l2e : F .f32) (u : FVec F S264x256 .bf16) (sl sl' : ℕ) (hs : sl < 2) (hs' : sl' < 2) (k : KO) (v v' : VO) : St F :=
  wt4S (flush4S (stashS s sl' hs' k) v v') l2e u (fun c => shapeCast S256x256 (gZ s sl hs c) shapeCasts_S1x256x256_S256x256)

def diag1S (s : St F) (l2e : F .f32) (u : FVec F S264x256 .bf16) (b : BitVec 32) (k : KO) : St F :=
  wmS (wmS s l2e u ch1 (maskv b) (qkv ch1.ko ch1.hsl (gK s k) (gQ s ch1))) l2e u ch3 (maskv b) (qkv ch3.ko ch3.hsl (gK s k) (gQ s ch3))

def diag0S (s : St F) (l2e : F .f32) (u : FVec F S264x256 .bf16) (b b' : BitVec 32) (k : KO) : St F :=
  wmS (wmS (wmS (wmS s l2e u ch0 (maskv b) (qkv ch0.ko ch0.hsl (gK s k) (gQ s ch0)))
    l2e u ch1 (maskv b') (qkv ch1.ko ch1.hsl (gK s k) (gQ s ch1)))
    l2e u ch2 (maskv b) (qkv ch2.ko ch2.hsl (gK s k) (gQ s ch2)))
    l2e u ch3 (maskv b') (qkv ch3.ko ch3.hsl (gK s k) (gQ s ch3))

def qaugS (l2e sl : F .f32) (s : St F) (o r : ℕ) (bo : { f : Fin 1 → ℕ // ∀ a, f a + S1.size a ≤ S16.size a })
    (hr : ∀ a, (![r, 0] : Fin 2 → ℕ) a + S64x512.size a ≤ S128x512.size a)
    (h0 : ∀ a, (![0, o] : Fin 2 → ℕ) a + S64x512.size a ≤ S128x1024.size a)
    (h1 : ∀ a, (![64, o] : Fin 2 → ℕ) a + S64x512.size a ≤ S128x1024.size a) : St F :=
  { s with qa := (rQa 64 o h1).overlay ((rQa 0 o h0).overlay s.qa
      (qsv sl (gQt s r hr))) (augv l2e (gB s bo)) }

def initS (l2e sl : F .f32) (s : St F) (b0 b1 : { f : Fin 1 → ℕ // ∀ a, f a + S1.size a ≤ S16.size a }) : St F :=
  let s1 := qaugS l2e sl (qaugS l2e sl s 0 0 b0 inb_S128x512_S64x512_0_0 inb_S128x1024_S64x512_0_0 inb_S128x1024_S64x512_64_0)
    512 64 b1 inb_S128x512_S64x512_64_0 inb_S128x1024_S64x512_0_512 inb_S128x1024_S64x512_64_512
  { s1 with acc := rO.overlay s1.acc (shapeCast S128x512 (broadcast S128x512 (Scalar.ofBits .f32 0x00000000#32)) shapeCasts_S128x512_S128x512)
            cy := rCy.overlay s1.cy (shapeCast S8x1024 (broadcast S8x1024 (Scalar.ofBits .f32 0x00000000#32)) shapeCasts_S8x1024_S8x1024) }

/-- The matrix of the suffix sums, as the products read it. -/
def uv (s : St F) : FVec F S264x256 .bf16 := shapeCast S264x256 (gUt s) shapeCasts_S264x256_S264x256

/-- All that comes before the loop on an even tile. -/
def headS (s : St F) (l2e sl : F .f32) (b0 b1 : { f : Fin 1 → ℕ // ∀ a, f a + S1.size a ≤ S16.size a }) (k2 k31 k30 : KO) (v4 v5 : VO)
    (m1 m0 m0' : BitVec 32) : St F :=
  diag0S (flushS (flushS (diag1S (stashS (initS l2e sl s b0 b1) 0 (by omega) k2) l2e (uv s) m1 k31) ch1 v4) ch3 v5) l2e (uv s) m0 m0' k30

def oddS (s : St F) (l2e : F .f32) (u : FVec F S264x256 .bf16) (k1 k2 : KO) (v1 v1' v2 v2' : VO) : St F :=
  stepS (stepS s l2e u 0 1 (by omega) (by omega) k1 v1 v1') l2e u 1 0 (by omega) (by omega) k2 v2 v2'

def quadS (s : St F) (l2e : F .f32) (u : FVec F S264x256 .bf16) (k : Fin 4 → KO) (v v' : Fin 4 → VO) : St F :=
  stepS (stepS (stepS (stepS s l2e u 0 1 (by omega) (by omega) (k 0) (v 0) (v' 0))
    l2e u 1 0 (by omega) (by omega) (k 1) (v 1) (v' 1))
    l2e u 0 1 (by omega) (by omega) (k 2) (v 2) (v' 2))
    l2e u 1 0 (by omega) (by omega) (k 3) (v 3) (v' 3)

/-- The contents before trip `n` of a loop of four blocks a trip. -/
def loopS {N : ℕ} (s : St F) (l2e : F .f32) (u : FVec F S264x256 .bf16) (k : Fin N → Fin 4 → KO) (v v' : Fin N → Fin 4 → VO) : ℕ → St F
  | 0 => s
  | n + 1 => if h : n < N then quadS (loopS s l2e u k v v' n) l2e u (k ⟨n, h⟩) (v ⟨n, h⟩) (v' ⟨n, h⟩) else loopS s l2e u k v v' n

def tailS (s : St F) (v v' : VO) : St F :=
  let s1 := flush4S s v v'
  { s1 with out := rO.overlay s1.out (gO s1) }

/-! ## The runs -/

section Runs

variable {nD : ℕ} {τ : Topo} {sig : RefSig} {Λ : Labels} {U : Type} [URA U] {defs : Defs nD τ sig (Elt F) Λ} {𝒱 : Variants}
  {E : Set ℕ} {c : Dev nD} {M : Refs sig}

local notation "ℝ" => Runs (U := U) defs 𝒱 E c M

theorem run_ldZ (s : St F) (sl : ℕ) (hs : sl < 2) (ch : Ch) : ℝ (ldZ M sl hs ch) s s (gZ s sl hs ch) :=
  At.load (r := rZ sl hs ch) (at_z c M) (fun _ => rfl) s
theorem run_stZ (s : St F) (sl : ℕ) (hs : sl < 2) (ch : Ch) (w : FVec F S256x256 .f32) :
    ℝ (stZ M sl hs ch (shapeCast S1x256x256 w shapeCasts_S256x256_S1x256x256)) s (sZ s sl hs ch w) ⟨⟩ :=
  At.store (r := rZ sl hs ch) (at_z c M) s
theorem run_ldQ (s : St F) (ch : Ch) : ℝ (ldQ M ch) s s (gQ s ch) := At.load (r := rQ ch) (at_qa c M) (fun _ => rfl) s
theorem run_ldK (s : St F) (k : KO) : ℝ (ldK M k) s s (gK s k) := At.load (r := rK k) (at_ky c M) (fun _ => rfl) s
theorem run_ldV (s : St F) (v : VO) : ℝ (ldV M v) s s (gV s v) := At.load (r := rV v) (at_vt c M) (fun _ => rfl) s
theorem run_ldAcc (s : St F) (ch : Ch) : ℝ (ldAcc M ch) s s (gAcc s ch) := At.load (r := rAcc ch) (at_acc c M) (fun _ => rfl) s
theorem run_stAcc (s : St F) (ch : Ch) (w : FVec F S64x256 .f32) :
    ℝ (stAcc M ch w) s { s with acc := (rAcc ch).overlay s.acc w } ⟨⟩ := At.store (r := rAcc ch) (at_acc c M) s
theorem run_ldA (s : St F) (ch : Ch) : ℝ (ldA M ch) s s (gA s ch) := At.load (r := rA ch) (at_a c M) (fun _ => rfl) s
theorem run_stA (s : St F) (ch : Ch) (w : FVec F S256x256 .bf16) :
    ℝ (stA M ch w) s { s with a := (rA ch).overlay s.a w } ⟨⟩ := At.store (r := rA ch) (at_a c M) s
theorem run_ldCy (s : St F) (ch : Ch) : ℝ (ldCy M ch) s s (gCy s ch) := At.load (r := rC ch) (at_cy c M) (fun _ => rfl) s
theorem run_stCy (s : St F) (ch : Ch) (w : FVec F S1x256 .f32) :
    ℝ (stCy M ch w) s { s with cy := (rC ch).overlay s.cy w } ⟨⟩ := At.store (r := rC ch) (at_cy c M) s
theorem run_ldSc (s : St F) (ch : Ch) : ℝ (ldSc M ch) s s (gSc s ch) := At.load (r := rC ch) (at_sc c M) (fun _ => rfl) s
theorem run_stSc (s : St F) (ch : Ch) (w : FVec F S1x256 .f32) :
    ℝ (stSc M ch w) s { s with sc := (rC ch).overlay s.sc w } ⟨⟩ := At.store (r := rC ch) (at_sc c M) s
theorem run_ldU (s : St F) : ℝ (ldU M) s s (gUt s) := At.load (r := rUt) (at_ut c M) (fun _ => rfl) s

theorem run_stash (s : St F) (sl : ℕ) (hs : sl < 2) (k : KO) : ℝ (stashP M sl hs k) s (stashS s sl hs k) ⟨⟩ :=
  (run_ldK s k).bind <| (run_ldQ s ch0).bind <| (run_ldQ s ch1).bind <| (run_ldQ s ch2).bind <| (run_ldQ s ch3).bind <|
  (run_ldZ s sl hs ch0).bind <| (run_stZ _ sl hs ch0 _).bind <|
  (run_ldZ _ sl hs ch1).bind <| (run_stZ _ sl hs ch1 _).bind <|
  (run_ldZ _ sl hs ch2).bind <| (run_stZ _ sl hs ch2 _).bind <|
  (run_ldZ _ sl hs ch3).bind <| run_stZ _ sl hs ch3 _

theorem run_flush (s : St F) (ch : Ch) (v : VO) : ℝ (flushP M ch v) s (flushS s ch v) ⟨⟩ :=
  (run_ldAcc s ch).bind <| (run_ldV s v).bind <| (run_ldA s ch).bind <| (run_ldSc s ch).bind <| (run_ldAcc s ch).bind <|
  run_stAcc s ch _

theorem run_put (s : St F) (ch : Ch) (a : FVec F S256x256 .bf16) (cum : FVec F S264x256 .f32) : ℝ (putP M ch a cum) s (putS s ch a cum) ⟨⟩ := by
  let s1 : St F := { s with a := (rA ch).overlay s.a (shapeCast S256x256 a shapeCasts_S256x256_S256x256) }
  let s2 : St F := { s1 with sc := (rC ch).overlay s.sc (scv (gCy s ch)) }
  have h1 : ℝ (stA M ch (shapeCast S256x256 a shapeCasts_S256x256_S256x256)) s s1 ⟨⟩ := run_stA s ch _
  have h2 : ℝ (ldCy M ch) s1 s1 (gCy s ch) := by
    have h := run_ldCy (U := U) (defs := defs) (𝒱 := 𝒱) (E := E) (c := c) (M := M) s1 ch
    rwa [show gCy s1 ch = gCy s ch from by unfold gCy; rfl] at h
  have h3 : ℝ (stSc M ch (scv (gCy s ch))) s1 s2 ⟨⟩ := run_stSc s1 ch _
  have h4 : ℝ (stCy M ch (cyv (gCy s ch) cum)) s2 (putS s ch a cum) ⟨⟩ := run_stCy s2 ch _
  exact (run_ldA s ch).bind <| h1.bind <| h2.bind <| (run_ldSc s1 ch).bind <| h3.bind <| (run_ldCy s2 ch).bind h4

theorem run_wt (s : St F) (l2e : F .f32) (u : FVec F S264x256 .bf16) (ch : Ch) (z : FVec F S256x256 .f32) : ℝ (wtP M l2e u ch z) s (wtS s l2e u ch z) ⟨⟩ :=
  run_put s ch _ _

theorem run_wm (s : St F) (l2e : F .f32) (u : FVec F S264x256 .bf16) (ch : Ch) (mk : IVec S256x256 1) (z : FVec F S256x256 .f32) :
    ℝ (wmP M l2e u ch mk z) s (wmS s l2e u ch mk z) ⟨⟩ :=
  run_put s ch _ _

theorem run_step (s : St F) (l2e : F .f32) (u : FVec F S264x256 .bf16) (sl sl' : ℕ) (hs : sl < 2) (hs' : sl' < 2) (k : KO) (v v' : VO) :
    ℝ (stepP M l2e u sl sl' hs hs' k v v') s (stepS s l2e u sl sl' hs hs' k v v') ⟨⟩ :=
  (run_ldZ s sl hs ch0).bind <| (run_ldZ s sl hs ch1).bind <| (run_ldZ s sl hs ch2).bind <| (run_ldZ s sl hs ch3).bind <|
  (run_stash s sl' hs' k).bind <|
  (run_flush _ ch0 v).bind <| (run_flush _ ch1 v).bind <| (run_flush _ ch2 v').bind <| (run_flush _ ch3 v').bind <|
  (run_wt _ l2e u ch0 _).bind <| (run_wt _ l2e u ch1 _).bind <| (run_wt _ l2e u ch2 _).bind <| run_wt _ l2e u ch3 _

theorem run_diag1 (s : St F) (l2e : F .f32) (u : FVec F S264x256 .bf16) (b : BitVec 32) (k : KO) : ℝ (diag1P M l2e u b k) s (diag1S s l2e u b k) ⟨⟩ :=
  (run_ldK s k).bind <| (run_ldQ s ch1).bind <| (run_ldQ s ch3).bind <| (run_wm s l2e u ch1 _ _).bind <| run_wm _ l2e u ch3 _ _

theorem run_diag0 (s : St F) (l2e : F .f32) (u : FVec F S264x256 .bf16) (b b' : BitVec 32) (k : KO) : ℝ (diag0P M l2e u b b' k) s (diag0S s l2e u b b' k) ⟨⟩ :=
  (run_ldK s k).bind <| (run_ldQ s ch0).bind <| (run_ldQ s ch1).bind <| (run_ldQ s ch2).bind <| (run_ldQ s ch3).bind <|
  (run_wm s l2e u ch0 _ _).bind <| (run_wm _ l2e u ch1 _ _).bind <| (run_wm _ l2e u ch2 _ _).bind <| run_wm _ l2e u ch3 _ _

theorem run_qaug (l2e sl : F .f32) (s : St F) (o r : ℕ) (bo : { f : Fin 1 → ℕ // ∀ a, f a + S1.size a ≤ S16.size a })
    (hr : ∀ a, (![r, 0] : Fin 2 → ℕ) a + S64x512.size a ≤ S128x512.size a)
    (h0 : ∀ a, (![0, o] : Fin 2 → ℕ) a + S64x512.size a ≤ S128x1024.size a)
    (h1 : ∀ a, (![64, o] : Fin 2 → ℕ) a + S64x512.size a ≤ S128x1024.size a)
    (p0 : (Rect.unit (s := S128x1024) ![0, o] S64x512.size h0).PackedRows (EltTy.packing .bf16))
    (p1 : (Rect.unit (s := S128x1024) ![64, o] S64x512.size h1).PackedRows (EltTy.packing .bf16)) :
    ℝ (qaugP M l2e sl o r bo.1 bo.2 hr h0 h1 p0 p1) s (qaugS l2e sl s o r bo hr h0 h1) ⟨⟩ := by
  let s1 : St F := { s with qa := (rQa 0 o h0).overlay s.qa (qsv sl (gQt s r hr)) }
  have e1 : ℝ (smemLoad M.bias (Rect.unit (s := S16) bo.1 S1.size bo.2) numel1_S1 rfl) s s (gB s bo) := At.loads (r := rB bo.1 bo.2) (at_bias c M) (fun _ => rfl) s
  have h2 : ℝ (Prog.lift (.load M.qt (Rect.unit (s := S128x512) ![r, 0] S64x512.size hr).toLoadRect (View.loadsAt_vmem h_S64x512))) s s (gQt s r hr) :=
    At.load (r := rQt r hr) (at_qt c M) (fun _ => rfl) s
  have h4 := At.store (U := U) (defs := defs) (𝒱 := 𝒱) (E := E) (r := rQa 0 o h0) (at_qa (U := U) c M) s
    (w := (qsv sl (gQt s r hr) : FVec F S64x512 .bf16))
    (hx := View.stores_vmem h_S64x512 (M.hqa.storeExact_slice rfl _ p0) (fun _ => rfl)) (hm := .inl rfl)
  have h6 := At.store (U := U) (defs := defs) (𝒱 := 𝒱) (E := E) (r := rQa 64 o h1) (at_qa (U := U) c M) s1 (w := (augv l2e (gB s bo) : FVec F S64x512 .bf16))
    (hx := View.stores_vmem h_S64x512 (M.hqa.storeExact_slice rfl _ p1) (fun _ => rfl)) (hm := .inl rfl)
  exact e1.bind <| h2.bind <| (At.load (r := rQa 0 o h0) (at_qa c M) (fun _ => rfl) s).bind <| h4.bind <|
    (At.load (r := rQa 64 o h1) (at_qa c M) (fun _ => rfl) s1).bind h6

theorem run_init (l2e sl : F .f32) (s : St F) (b0 b1 : { f : Fin 1 → ℕ // ∀ a, f a + S1.size a ≤ S16.size a }) : ℝ (initP M l2e sl b0 b1) s (initS l2e sl s b0 b1) ⟨⟩ :=
  (run_qaug l2e sl s 0 0 b0 _ _ _ _ _).bind <| (run_qaug _ _ _ 512 64 b1 _ _ _ _ _).bind <|
  (At.load (r := rO) (at_acc c M) (fun _ => rfl) _).bind <| (At.store (r := rO) (at_acc c M) _).bind <|
  (At.load (r := rCy) (at_cy c M) (fun _ => rfl) _).bind <| At.store (r := rCy) (at_cy c M) _

theorem run_head (s : St F) (l2e sl : F .f32) (b0 b1 : { f : Fin 1 → ℕ // ∀ a, f a + S1.size a ≤ S16.size a }) (k2 k31 k30 : KO) (v4 v5 : VO)
    (m1 m0 m0' : BitVec 32) :
    ℝ (headP M l2e sl b0 b1 k2 k31 k30 v4 v5 m1 m0 m0') s (headS s l2e sl b0 b1 k2 k31 k30 v4 v5 m1 m0 m0') (uv s) :=
  (run_init l2e sl s b0 b1).bind <| (run_ldU _).bind <| (run_stash _ 0 _ k2).bind <| (run_diag1 _ l2e (uv s) m1 k31).bind <|
  (run_flush _ ch1 v4).bind <| (run_flush _ ch3 v5).bind <| (run_diag0 _ l2e (uv s) m0 m0' k30).bind <| Runs.pure _ _

theorem run_odd (s : St F) (l2e : F .f32) (u : FVec F S264x256 .bf16) (k1 k2 : KO) (v1 v1' v2 v2' : VO) :
    ℝ (oddP M l2e u k1 k2 v1 v1' v2 v2') s (oddS s l2e u k1 k2 v1 v1' v2 v2') ⟨⟩ :=
  (run_step s l2e u 0 1 _ _ k1 v1 v1').bind <| run_step _ l2e u 1 0 _ _ k2 v2 v2'

theorem run_quad (s : St F) (l2e : F .f32) (u : FVec F S264x256 .bf16) (k : Fin 4 → KO) (v v' : Fin 4 → VO) :
    ℝ (quadP M l2e u k v v') s (quadS s l2e u k v v') ⟨⟩ :=
  (run_step s l2e u 0 1 _ _ (k 0) (v 0) (v' 0)).bind <| (run_step _ l2e u 1 0 _ _ (k 1) (v 1) (v' 1)).bind <|
  (run_step _ l2e u 0 1 _ _ (k 2) (v 2) (v' 2)).bind <| run_step _ l2e u 1 0 _ _ (k 3) (v 3) (v' 3)

theorem run_tail (s : St F) (v v' : VO) : ℝ (tailP M v v') s (tailS s v v') ⟨⟩ :=
  (run_flush s ch0 v).bind <| (run_flush _ ch1 v).bind <| (run_flush _ ch2 v').bind <| (run_flush _ ch3 v').bind <|
  (At.load (r := rO) (at_acc c M) (fun _ => rfl) _).bind <| (At.load (r := rO) (at_out c M) (fun _ => rfl) _).bind <|
  At.store (r := rO) (at_out c M) _

/-- A loop of four blocks a trip, with what follows it. -/
theorem run_loop {β : Type} {lb ub st : BitVec 32} (hok : Scf.OK lb ub st) (w : BitVec 32) (s s' : St F) (l2e : F .f32) (u : FVec F S264x256 .bf16)
    (k : Fin (Scf.trips lb ub st) → Fin 4 → KO) (v v' : Fin (Scf.trips lb ub st) → Fin 4 → VO)
    {f : BitVec 32 → Prog (TpuEff nD τ sig (Elt F) Λ .tc) β} {r : β}
    (hf : ∀ w, ℝ (f w) (loopS s l2e u k v v' (Scf.trips lb ub st)) s' r) :
    ℝ (Scf.for lb ub st hok w (fun t _ => quadP M l2e u (k t) (v t) (v' t) >>= fun _ => pure 0#32) >>= f) s s' r := by
  intro Q
  rw [wp_bind, Scf.for_eq]
  have h := Scf.wp_forFrom (Fr := frame) (wpE := wpE defs 𝒱 (c : Thread nD τ) none) (Es := E)
    (fun t _ => quadP M l2e u (k t) (v t) (v' t) >>= fun _ => pure 0#32)
    (fun n _ => own (U := U) c M (loopS s l2e u k v v' n))
    (fun t acc => by
      have hq := (run_quad (U := U) (defs := defs) (𝒱 := 𝒱) (E := E) (c := c) (M := M) (loopS s l2e u k v v' t.val) l2e u (k t) (v t) (v' t)).bind
        (k := fun _ => pure 0#32) (Runs.pure _ 0#32)
      have hs : loopS s l2e u k v v' (t.val + 1) = quadS (loopS s l2e u k v v' t.val) l2e u (k t) (v t) (v' t) := by
        rw [loopS, dif_pos t.isLt]
      rw [hs]
      iintro H
      iapply (hq _) $$ H
      iintro H
      iexact H)
    (Q := fun a => wp frame (wpE defs 𝒱 (c : Thread nD τ) none) E (f a) Q) 0 (Nat.zero_le _) w
  rw [List.drop_zero] at h
  iintro H HK
  iapply h
  isplitl [H]; · iexact H
  iintro %a H
  iapply (hf a Q) $$ H
  iexact HK

end Runs

end Cert.Sb

end
-- ==== Proof.Chunk.lean ====
/-
  The four chunks of queries are apart: what one chunk's cells of the accumulator, the totals, the factors, the
  weights and the logits hold after each of the kernel's programs. So the block written at the end does not read
  what the scratch buffers held before.
-/
module

public import proofs.«01_k».proof.Proof.Flow
public import Idealize.ShloMosaic.Lib.Pipeline.Value

@[expose] public section

noncomputable section

namespace Cert.Sb

open Idealize.ShloMosaic
open Cert.KernelIdeal Cert.KernelIdeal.Facts₀ Cert.KernelIdeal.Facts

variable {F : FTy → Type} [FloatOps F]

/-! ## Overlays read back -/

theorem emb_not_mem {s : Shape} {off size off' size' : Fin s.rank → ℕ} {inb : ∀ a, off a + size a ≤ s.size a} {inb' : ∀ a, off' a + size' a ≤ s.size a}
    (a : Fin s.rank) (h : off a + size a ≤ off' a ∨ off' a + size' a ≤ off a) (x : (Rect.unit off size inb).shape.Idx) :
    (Rect.unit off size inb).emb x ∉ (Rect.unit off' size' inb').set := by
  intro hm
  have h1 := (Rect.mem_set_unit.1 hm) a
  have h2 : ((Rect.unit off size inb).emb x a).val = off a + (x a).val := by
    rw [Rect.emb_apply]; simp
  have h3 : (x a).val < size a := (x a).isLt
  omega

theorem read_same {s : Shape} {α : Type} (r : Rect s) (X : s.Idx → α) (w : r.shape.Idx → α) : (fun x => r.overlay X w (r.emb x)) = w :=
  funext fun x => Rect.overlay_emb r X w x

theorem read_apart {s : Shape} {α : Type} {off size off' size' : Fin s.rank → ℕ} {inb : ∀ a, off a + size a ≤ s.size a}
    {inb' : ∀ a, off' a + size' a ≤ s.size a} (a : Fin s.rank) (h : off a + size a ≤ off' a ∨ off' a + size' a ≤ off a)
    (X : s.Idx → α) (w : (Rect.unit off' size' inb').shape.Idx → α) :
    (fun x => (Rect.unit off' size' inb').overlay X w ((Rect.unit off size inb).emb x)) = fun x => X ((Rect.unit off size inb).emb x) :=
  funext fun x => Rect.overlay_of_not_mem _ _ _ (emb_not_mem a h x)

theorem overlay_cover {s : Shape} {α : Type} (r : Rect s) (X X' : s.Idx → α) (w : r.shape.Idx → α) (j : s.Idx) (h : j ∈ r.set ∨ X j = X' j) :
    r.overlay X w j = r.overlay X' w j := by
  by_cases hj : j ∈ r.set
  · obtain ⟨x, rfl⟩ := r.exists_idx_of_mem hj
    exact (Rect.overlay_emb r X w x).trans (Rect.overlay_emb r X' w x).symm
  · rw [Rect.overlay_of_not_mem r _ _ hj, Rect.overlay_of_not_mem r _ _ hj]
    exact h.resolve_left hj

theorem overlay_const {s : Shape} {α : Type} (r : Rect s) (X : s.Idx → α) (c : α) (hr : ∀ j, j ∈ r.set) : r.overlay X (fun _ => c) = fun _ => c := by
  funext j
  obtain ⟨x, rfl⟩ := r.exists_idx_of_mem (hr j)
  exact Rect.overlay_emb r X _ x

theorem overlay_full {s : Shape} {α : Type} (X Y : s.Idx → α) {off : Fin s.rank → ℕ} {inb : ∀ a, off a + s.size a ≤ s.size a} :
    (Rect.unit off s.size inb).overlay X (fun x => Y ((Rect.unit off s.size inb).emb x)) = Y := by
  funext j
  have hj : j ∈ (Rect.unit off s.size inb).set := Rect.mem_set_unit.2 fun a => by have := inb a; have := (j a).isLt; omega
  obtain ⟨x, rfl⟩ := (Rect.unit off s.size inb).exists_idx_of_mem hj
  exact Rect.overlay_emb _ X _ x

/-! ## The chunks' cells -/

/-- The chunks by number. -/
def chs : Fin 4 → Ch := ![ch0, ch1, ch2, ch3]

theorem chs_o (i : Fin 4) : (chs i).o = 256 * i.val := by fin_cases i <;> rfl
theorem chs_r (i : Fin 4) : (chs i).r = 64 * (i.val / 2) := by fin_cases i <;> rfl
theorem chs_co (i : Fin 4) : (chs i).co = 256 * (i.val % 2) := by fin_cases i <;> rfl
theorem chs_ko (i : Fin 4) : (chs i).ko = 128 * (i.val / 2) := by fin_cases i <;> rfl

/-- What a chunk of queries has: its accumulator, its total, its factor, its weights. -/
structure Cell (F : FTy → Type) where
  acc : Vec F S64x256 .f32
  cy : Vec F S1x256 .f32
  sc : Vec F S1x256 .f32
  a : Vec F S256x256 .bf16

/-- Chunk `i`'s cell, -/
def cell (s : St F) (i : Fin 4) : Cell F := ⟨gAcc s (chs i), gCy s (chs i), gSc s (chs i), gA s (chs i)⟩

/-- and its logits in a slot. -/
def zc (s : St F) (sl : ℕ) (hs : sl < 2) (i : Fin 4) : FVec F S256x256 .f32 := shapeCast S256x256 (gZ s sl hs (chs i)) shapeCasts_S1x256x256_S256x256

theorem o_apart {i j : Fin 4} (h : i ≠ j) : (chs i).o + 256 ≤ (chs j).o ∨ (chs j).o + 256 ≤ (chs i).o := by
  rw [chs_o, chs_o]; have : i.val ≠ j.val := fun e => h (Fin.ext e); omega

/-- A chunk's weighted values added to its accumulator. -/
def flC (vt : Vec F S1x1x64x256 .bf16) (c : Cell F) : Cell F := { c with acc := flv c.acc vt c.a c.sc }

/-- A chunk's weights, factor and total. -/
def putC (a : FVec F S256x256 .bf16) (cum : FVec F S264x256 .f32) (c : Cell F) : Cell F := ⟨c.acc, cyv c.cy cum, scv c.cy, a⟩

def wtC (l2e : F .f32) (u : FVec F S264x256 .bf16) (z : FVec F S256x256 .f32) (c : Cell F) : Cell F := putC (av z (cumv u (spb l2e z))) (cumv u (spb l2e z)) c

def wmC (l2e : F .f32) (u : FVec F S264x256 .bf16) (mk : IVec S256x256 1) (z : FVec F S256x256 .f32) (c : Cell F) : Cell F :=
  putC (am mk z (cumv u (spm l2e mk z))) (cumv u (spm l2e mk z)) c

/-! What the programs leave as it was. -/

theorem gV_flush (s : St F) (c : Ch) (v v' : VO) : gV (flushS s c v) v' = gV s v' := by unfold gV flushS; dsimp only
theorem gV_sZ (s : St F) (sl : ℕ) (hs : sl < 2) (c : Ch) (w : FVec F S256x256 .f32) (v : VO) : gV (sZ s sl hs c w) v = gV s v := by unfold gV sZ; dsimp only
theorem gV_stash (s : St F) (sl : ℕ) (hs : sl < 2) (k : KO) (v : VO) : gV (stashS s sl hs k) v = gV s v := by unfold stashS; simp only [gV_sZ]
theorem cell_sZ (s : St F) (sl : ℕ) (hs : sl < 2) (c : Ch) (w : FVec F S256x256 .f32) (i : Fin 4) : cell (sZ s sl hs c w) i = cell s i := by
  unfold cell gAcc gCy gSc gA sZ; dsimp only
theorem zc_flush (s : St F) (c : Ch) (v : VO) (sl : ℕ) (hs : sl < 2) (i : Fin 4) : zc (flushS s c v) sl hs i = zc s sl hs i := by
  unfold zc gZ flushS; dsimp only
theorem zc_put (s : St F) (c : Ch) (a : FVec F S256x256 .bf16) (cum : FVec F S264x256 .f32) (sl : ℕ) (hs : sl < 2) (i : Fin 4) :
    zc (putS s c a cum) sl hs i = zc s sl hs i := by
  unfold zc gZ putS; dsimp only
theorem putS_a (s : St F) (c : Ch) (a : FVec F S256x256 .bf16) (cum : FVec F S264x256 .f32) :
    (putS s c a cum).a = (rA c).overlay s.a (shapeCast S256x256 a shapeCasts_S256x256_S256x256) := by unfold putS; dsimp only
theorem putS_sc (s : St F) (c : Ch) (a : FVec F S256x256 .bf16) (cum : FVec F S264x256 .f32) :
    (putS s c a cum).sc = (rC c).overlay s.sc (scv (gCy s c)) := by unfold putS; dsimp only
theorem putS_cy (s : St F) (c : Ch) (a : FVec F S256x256 .bf16) (cum : FVec F S264x256 .f32) :
    (putS s c a cum).cy = (rC c).overlay s.cy (cyv (gCy s c) cum) := by unfold putS; dsimp only
theorem gAcc_put (s : St F) (c : Ch) (a : FVec F S256x256 .bf16) (cum : FVec F S264x256 .f32) (d : Ch) : gAcc (putS s c a cum) d = gAcc s d := by
  unfold gAcc putS; dsimp only
theorem sZ_z (s : St F) (sl : ℕ) (hs : sl < 2) (c : Ch) (w : FVec F S256x256 .f32) :
    (sZ s sl hs c w).z = (rZ sl hs c).overlay s.z (shapeCast S1x256x256 w shapeCasts_S256x256_S1x256x256) := by unfold sZ; dsimp only

theorem fin4 (i : Fin 4) : i = 0 ∨ i = 1 ∨ i = 2 ∨ i = 3 := by omega

theorem gAcc_flush (s : St F) (j : Fin 4) (v : VO) : gAcc (flushS s (chs j) v) (chs j) = flv (gAcc s (chs j)) (gV s v) (gA s (chs j)) (gSc s (chs j)) := by
  unfold flushS
  show (fun x => (rAcc (chs j)).overlay s.acc _ ((rAcc (chs j)).emb x)) = _
  exact read_same (rAcc (chs j)) s.acc _

theorem gAcc_flush_ne (s : St F) (i j : Fin 4) (v : VO) (h : i ≠ j) : gAcc (flushS s (chs j) v) (chs i) = gAcc s (chs i) := by
  unfold flushS
  show (fun x => (rAcc (chs j)).overlay s.acc _ ((rAcc (chs i)).emb x)) = fun x => s.acc ((rAcc (chs i)).emb x)
  have hv : i.val ≠ j.val := fun e => h (Fin.ext e)
  by_cases hr : i.val / 2 = j.val / 2
  · exact read_apart (inb := (chs i).hacc) (inb' := (chs j).hacc) (1 : Fin 2)
      (by show (chs i).co + 256 ≤ (chs j).co ∨ (chs j).co + 256 ≤ (chs i).co; rw [chs_co, chs_co]; omega) _ _
  · exact read_apart (inb := (chs i).hacc) (inb' := (chs j).hacc) (0 : Fin 2)
      (by show (chs i).r + 64 ≤ (chs j).r ∨ (chs j).r + 64 ≤ (chs i).r; rw [chs_r, chs_r]; omega) _ _

theorem cell_flush (s : St F) (j : Fin 4) (v : VO) (i : Fin 4) :
    cell (flushS s (chs j) v) i = if i = j then flC (gV s v) (cell s i) else cell s i := by
  split_ifs with h
  · subst h
    unfold cell flC
    rw [gAcc_flush]
    rfl
  · unfold cell
    rw [gAcc_flush_ne s i j v h]
    rfl

theorem gC_same (X : Vec F S8x1024 .f32) (w : Vec F S1x256 .f32) (j : Fin 4) : (fun x => (rC (chs j)).overlay X w ((rC (chs j)).emb x)) = w :=
  read_same (rC (chs j)) X w

theorem gC_ne (X : Vec F S8x1024 .f32) (w : Vec F S1x256 .f32) (i j : Fin 4) (h : i ≠ j) :
    (fun x => (rC (chs j)).overlay X w ((rC (chs i)).emb x)) = fun x => X ((rC (chs i)).emb x) :=
  read_apart (inb := (chs i).hc) (inb' := (chs j).hc) (1 : Fin 2) (o_apart h) X w

theorem gA_same (X : Vec F S256x1024 .bf16) (w : Vec F S256x256 .bf16) (j : Fin 4) : (fun x => (rA (chs j)).overlay X w ((rA (chs j)).emb x)) = w :=
  read_same (rA (chs j)) X w

theorem gA_ne (X : Vec F S256x1024 .bf16) (w : Vec F S256x256 .bf16) (i j : Fin 4) (h : i ≠ j) :
    (fun x => (rA (chs j)).overlay X w ((rA (chs i)).emb x)) = fun x => X ((rA (chs i)).emb x) :=
  read_apart (inb := (chs i).ha) (inb' := (chs j).ha) (1 : Fin 2) (o_apart h) X w

theorem cell_put (s : St F) (j : Fin 4) (a : FVec F S256x256 .bf16) (cum : FVec F S264x256 .f32) (i : Fin 4) :
    cell (putS s (chs j) a cum) i = if i = j then putC a cum (cell s i) else cell s i := by
  unfold cell
  rw [gAcc_put]
  split_ifs with h
  · subst h
    have h1 : gCy (putS s (chs i) a cum) (chs i) = cyv (gCy s (chs i)) cum := by
      show (fun x => (putS s (chs i) a cum).cy ((rC (chs i)).emb x)) = _
      rw [putS_cy]; exact gC_same _ _ _
    have h2 : gSc (putS s (chs i) a cum) (chs i) = scv (gCy s (chs i)) := by
      show (fun x => (putS s (chs i) a cum).sc ((rC (chs i)).emb x)) = _
      rw [putS_sc]; exact gC_same _ _ _
    have h3 : gA (putS s (chs i) a cum) (chs i) = a := by
      show (fun x => (putS s (chs i) a cum).a ((rA (chs i)).emb x)) = _
      rw [putS_a, shapeCast_self]; exact gA_same _ _ _
    rw [h1, h2, h3, putC]
  · have h1 : gCy (putS s (chs j) a cum) (chs i) = gCy s (chs i) := by
      show (fun x => (putS s (chs j) a cum).cy ((rC (chs i)).emb x)) = _
      rw [putS_cy]; exact gC_ne _ _ i j h
    have h2 : gSc (putS s (chs j) a cum) (chs i) = gSc s (chs i) := by
      show (fun x => (putS s (chs j) a cum).sc ((rC (chs i)).emb x)) = _
      rw [putS_sc]; exact gC_ne _ _ i j h
    have h3 : gA (putS s (chs j) a cum) (chs i) = gA s (chs i) := by
      show (fun x => (putS s (chs j) a cum).a ((rA (chs i)).emb x)) = _
      rw [putS_a]; exact gA_ne _ _ i j h
    rw [h1, h2, h3]

theorem cell_wt (s : St F) (l2e : F .f32) (u : FVec F S264x256 .bf16) (j : Fin 4) (z : FVec F S256x256 .f32) (i : Fin 4) :
    cell (wtS s l2e u (chs j) z) i = if i = j then wtC l2e u z (cell s i) else cell s i := cell_put _ _ _ _ _

theorem cell_wm (s : St F) (l2e : F .f32) (u : FVec F S264x256 .bf16) (j : Fin 4) (mk : IVec S256x256 1) (z : FVec F S256x256 .f32) (i : Fin 4) :
    cell (wmS s l2e u (chs j) mk z) i = if i = j then wmC l2e u mk z (cell s i) else cell s i := cell_put _ _ _ _ _

theorem gZ_same (X : Vec F S2x256x1024 .f32) (sl : ℕ) (hs : sl < 2) (w : Vec F S1x256x256 .f32) (j : Fin 4) :
    (fun x => (rZ sl hs (chs j)).overlay X w ((rZ sl hs (chs j)).emb x)) = w :=
  read_same (rZ sl hs (chs j)) X w

theorem gZ_ne (X : Vec F S2x256x1024 .f32) (sl : ℕ) (hs : sl < 2) (w : Vec F S1x256x256 .f32) (i j : Fin 4) (h : i ≠ j) :
    (fun x => (rZ sl hs (chs j)).overlay X w ((rZ sl hs (chs i)).emb x)) = fun x => X ((rZ sl hs (chs i)).emb x) :=
  read_apart (inb := (chs i).hz sl hs) (inb' := (chs j).hz sl hs) (2 : Fin 3) (o_apart h) X w

theorem zc_sZ (s : St F) (sl : ℕ) (hs : sl < 2) (j : Fin 4) (w : FVec F S256x256 .f32) (i : Fin 4) :
    zc (sZ s sl hs (chs j) w) sl hs i = if i = j then w else zc s sl hs i := by
  unfold zc
  split_ifs with h
  · subst h
    have h1 : gZ (sZ s sl hs (chs i) w) sl hs (chs i) = shapeCast S1x256x256 w shapeCasts_S256x256_S1x256x256 := by
      show (fun x => (sZ s sl hs (chs i) w).z ((rZ sl hs (chs i)).emb x)) = _
      rw [sZ_z]; exact gZ_same _ _ _ _ _
    rw [h1, shapeCast_shapeCast]
  · have h1 : gZ (sZ s sl hs (chs j) w) sl hs (chs i) = gZ s sl hs (chs i) := by
      show (fun x => (sZ s sl hs (chs j) w).z ((rZ sl hs (chs i)).emb x)) = _
      rw [sZ_z]; exact gZ_ne _ _ _ _ i j h
    rw [h1]

/-! ## The programs' effect on a chunk -/

/-- The logits of a block for chunk `i`. -/
def zq (s : St F) (k : KO) (i : Fin 4) : FVec F S256x256 .f32 := qkv (chs i).ko (chs i).hsl (gK s k) (gQ s (chs i))

theorem zc_stash (s : St F) (sl : ℕ) (hs : sl < 2) (k : KO) (i : Fin 4) : zc (stashS s sl hs k) sl hs i = zq s k i := by
  have h : stashS s sl hs k = sZ (sZ (sZ (sZ s sl hs (chs 0) (zq s k 0)) sl hs (chs 1) (zq s k 1)) sl hs (chs 2) (zq s k 2)) sl hs (chs 3) (zq s k 3) := rfl
  rw [h]
  simp only [zc_sZ]
  rcases fin4 i with h | h | h | h <;> subst h <;> simp only [Fin.isValue, Fin.reduceEq, ↓reduceIte]

theorem cell_stash (s : St F) (sl : ℕ) (hs : sl < 2) (k : KO) (i : Fin 4) : cell (stashS s sl hs k) i = cell s i := by
  unfold stashS; simp only [cell_sZ]

/-- Which head's values a chunk takes. -/
def vsel (v v' : VO) (i : Fin 4) : VO := if i.val < 2 then v else v'

theorem cell_flush4 (s : St F) (v v' : VO) (i : Fin 4) : cell (flush4S s v v') i = flC (gV s (vsel v v' i)) (cell s i) := by
  have h : flush4S s v v' = flushS (flushS (flushS (flushS s (chs 0) v) (chs 1) v) (chs 2) v') (chs 3) v' := rfl
  rw [h]
  simp only [cell_flush, gV_flush]
  rcases fin4 i with h | h | h | h <;> subst h <;> simp [vsel]

theorem cell_wt4 (s : St F) (l2e : F .f32) (u : FVec F S264x256 .bf16) (z : Ch → FVec F S256x256 .f32) (i : Fin 4) :
    cell (wt4S s l2e u z) i = wtC l2e u (z (chs i)) (cell s i) := by
  have h : wt4S s l2e u z = wtS (wtS (wtS (wtS s l2e u (chs 0) (z (chs 0))) l2e u (chs 1) (z (chs 1))) l2e u (chs 2) (z (chs 2))) l2e u (chs 3) (z (chs 3)) := rfl
  rw [h]
  simp only [cell_wt]
  rcases fin4 i with h | h | h | h <;> subst h <;> simp

/-- One block: the block before it added, its own weights stored. -/
theorem cell_step (s : St F) (l2e : F .f32) (u : FVec F S264x256 .bf16) (sl sl' : ℕ) (hs : sl < 2) (hs' : sl' < 2) (k : KO) (v v' : VO) (i : Fin 4) :
    cell (stepS s l2e u sl sl' hs hs' k v v') i = wtC l2e u (zc s sl hs i) (flC (gV s (vsel v v' i)) (cell s i)) := by
  unfold stepS
  rw [cell_wt4, cell_flush4, cell_stash, gV_stash, zc]

theorem zc_step (s : St F) (l2e : F .f32) (u : FVec F S264x256 .bf16) (sl sl' : ℕ) (hs : sl < 2) (hs' : sl' < 2) (k : KO) (v v' : VO) (i : Fin 4) :
    zc (stepS s l2e u sl sl' hs hs' k v v') sl' hs' i = zq s k i := by
  unfold stepS wt4S wtS flush4S
  rw [zc_put, zc_put, zc_put, zc_put, zc_flush, zc_flush, zc_flush, zc_flush, zc_stash]

theorem cell_diag1 (s : St F) (l2e : F .f32) (u : FVec F S264x256 .bf16) (b : BitVec 32) (k : KO) (i : Fin 4) :
    cell (diag1S s l2e u b k) i = if i.val % 2 = 1 then wmC l2e u (maskv b) (zq s k i) (cell s i) else cell s i := by
  have h : diag1S s l2e u b k = wmS (wmS s l2e u (chs 1) (maskv b) (zq s k 1)) l2e u (chs 3) (maskv b) (zq s k 3) := rfl
  rw [h]
  simp only [cell_wm]
  rcases fin4 i with h | h | h | h <;> subst h <;> simp

theorem cell_diag0 (s : St F) (l2e : F .f32) (u : FVec F S264x256 .bf16) (b b' : BitVec 32) (k : KO) (i : Fin 4) :
    cell (diag0S s l2e u b b' k) i = wmC l2e u (maskv (if i.val % 2 = 1 then b' else b)) (zq s k i) (cell s i) := by
  have h : diag0S s l2e u b b' k = wmS (wmS (wmS (wmS s l2e u (chs 0) (maskv b) (zq s k 0)) l2e u (chs 1) (maskv b') (zq s k 1))
    l2e u (chs 2) (maskv b) (zq s k 2)) l2e u (chs 3) (maskv b') (zq s k 3) := rfl
  rw [h]
  simp only [cell_wm]
  rcases fin4 i with h | h | h | h <;> subst h <;> simp

/-- The two flushes between the diagonal's blocks. -/
theorem cell_flush2 (s : St F) (v v' : VO) (i : Fin 4) :
    cell (flushS (flushS s ch1 v) ch3 v') i = if i.val % 2 = 1 then flC (gV s (vsel v v' i)) (cell s i) else cell s i := by
  have h : flushS (flushS s ch1 v) ch3 v' = flushS (flushS s (chs 1) v) (chs 3) v' := rfl
  rw [h]
  simp only [cell_flush, gV_flush]
  rcases fin4 i with h | h | h | h <;> subst h <;> simp [vsel]

/-! ## The first contents -/

/-- The augmented queries over whatever the buffer held. -/
def qaF (l2e sl : F .f32) (s : St F) (b0 b1 : { f : Fin 1 → ℕ // ∀ a, f a + S1.size a ≤ S16.size a }) : Vec F S128x1024 .bf16 := (initS l2e sl s b0 b1).qa

/-- The contents with nought in every buffer but the inputs. -/
def clean (s : St F) : St F :=
  { s with out := fun _ => Scalar.ofBits .f32 0x00000000#32, qa := fun _ => Scalar.ofBits .bf16 0x0000#16, acc := fun _ => Scalar.ofBits .f32 0x00000000#32
           cy := fun _ => Scalar.ofBits .f32 0x00000000#32, sc := fun _ => Scalar.ofBits .f32 0x00000000#32, a := fun _ => Scalar.ofBits .bf16 0x0000#16
           z := fun _ => Scalar.ofBits .f32 0x00000000#32 }

theorem init_qa (l2e sl : F .f32) (s s' : St F) (b0 b1 : { f : Fin 1 → ℕ // ∀ a, f a + S1.size a ≤ S16.size a }) (hb : s.bias = s'.bias) (hq : s.qt = s'.qt) :
    (initS l2e sl s b0 b1).qa = (initS l2e sl s' b0 b1).qa := by
  have hg0 : gB s b0 = gB s' b0 := by unfold gB; rw [hb]
  have hg1 : gB s b1 = gB s' b1 := by unfold gB; rw [hb]
  have h0 : gQt s 0 inb_S128x512_S64x512_0_0 = gQt s' 0 inb_S128x512_S64x512_0_0 := by unfold gQt; rw [hq]
  have h1 : gQt s 64 inb_S128x512_S64x512_64_0 = gQt s' 64 inb_S128x512_S64x512_64_0 := by unfold gQt; rw [hq]
  have e (s : St F) : (initS l2e sl s b0 b1).qa = (rQa 64 512 inb_S128x1024_S64x512_64_512).overlay ((rQa 0 512 inb_S128x1024_S64x512_0_512).overlay
      ((rQa 64 0 inb_S128x1024_S64x512_64_0).overlay ((rQa 0 0 inb_S128x1024_S64x512_0_0).overlay s.qa
      (qsv sl (gQt s 0 inb_S128x512_S64x512_0_0))) (augv l2e (gB s b0)))
      (qsv sl (gQt s 64 inb_S128x512_S64x512_64_0))) (augv l2e (gB s b1)) := rfl
  rw [e s, e s', hg0, hg1, h0, h1]
  funext j
  have j0 : (j 0).val < 128 := (j 0).isLt
  have j1 : (j 1).val < 1024 := (j 1).isLt
  have mem (r o : ℕ) (h : ∀ a, (![r, o] : Fin 2 → ℕ) a + S64x512.size a ≤ S128x1024.size a) (hr : r ≤ (j 0).val ∧ (j 0).val < r + 64) (ho : o ≤ (j 1).val ∧ (j 1).val < o + 512) :
      j ∈ (rQa r o h).set := Rect.mem_set_unit.2 fun a => by
    fin_cases a
    · exact hr
    · exact ho
  by_cases c0 : (j 0).val < 64
  · by_cases c1 : (j 1).val < 512
    · exact overlay_cover _ _ _ _ _ <| .inr <| overlay_cover _ _ _ _ _ <| .inr <| overlay_cover _ _ _ _ _ <| .inr <| overlay_cover _ _ _ _ _ <| .inl <|
        mem 0 0 _ (by omega) (by omega)
    · exact overlay_cover _ _ _ _ _ <| .inr <| overlay_cover _ _ _ _ _ <| .inl <| mem 0 512 _ (by omega) (by omega)
  · by_cases c1 : (j 1).val < 512
    · exact overlay_cover _ _ _ _ _ <| .inr <| overlay_cover _ _ _ _ _ <| .inr <| overlay_cover _ _ _ _ _ <| .inl <| mem 64 0 _ (by omega) (by omega)
    · exact overlay_cover _ _ _ _ _ <| .inl <| mem 64 512 _ (by omega) (by omega)

theorem init_acc (l2e sl : F .f32) (s : St F) (b0 b1 : { f : Fin 1 → ℕ // ∀ a, f a + S1.size a ≤ S16.size a }) :
    (initS l2e sl s b0 b1).acc = fun _ => Scalar.ofBits .f32 0x00000000#32 :=
  overlay_const _ _ _ fun j => Rect.mem_set_unit.2 fun a => by have := inb_S128x512_S128x512_0_0 a; have := (j a).isLt; omega

theorem init_cy (l2e sl : F .f32) (s : St F) (b0 b1 : { f : Fin 1 → ℕ // ∀ a, f a + S1.size a ≤ S16.size a }) :
    (initS l2e sl s b0 b1).cy = fun _ => Scalar.ofBits .f32 0x00000000#32 :=
  overlay_const _ _ _ fun j => Rect.mem_set_unit.2 fun a => by have := inb_S8x1024_S8x1024_0_0 a; have := (j a).isLt; omega

/-! ## The last contents -/

/-- The accumulator from its four chunks. -/
theorem acc_ext (s s' : St F) (h : ∀ i, gAcc s (chs i) = gAcc s' (chs i)) : s.acc = s'.acc := by
  funext j
  have j0 : (j 0).val < 128 := (j 0).isLt
  have j1 : (j 1).val < 512 := (j 1).isLt
  have hi : 2 * ((j 0).val / 64) + (j 1).val / 256 < 4 := by omega
  have hm : j ∈ (rAcc (chs ⟨2 * ((j 0).val / 64) + (j 1).val / 256, hi⟩)).set := Rect.mem_set_unit.2 fun a => by
    fin_cases a
    · show (chs _).r ≤ (j 0).val ∧ (j 0).val < (chs _).r + 64
      rw [chs_r]; show 64 * ((2 * ((j 0).val / 64) + (j 1).val / 256) / 2) ≤ _ ∧ _ < 64 * ((2 * ((j 0).val / 64) + (j 1).val / 256) / 2) + 64; omega
    · show (chs _).co ≤ (j 1).val ∧ (j 1).val < (chs _).co + 256
      rw [chs_co]; show 256 * ((2 * ((j 0).val / 64) + (j 1).val / 256) % 2) ≤ _ ∧ _ < 256 * ((2 * ((j 0).val / 64) + (j 1).val / 256) % 2) + 256; omega
  obtain ⟨x, hx⟩ := (rAcc (chs ⟨2 * ((j 0).val / 64) + (j 1).val / 256, hi⟩)).exists_idx_of_mem hm
  rw [← hx]
  exact congrFun (h _) x

theorem tail_out (s : St F) (v v' : VO) : (tailS s v v').out = (flush4S s v v').acc := overlay_full _ _

end Cert.Sb

end
-- ==== Proof.Sweep.lean ====
/-
  The whole body on the contents: per chunk of queries a sequence of blocks, each block's weights kept one block long
  before they meet the values. The block written at the end depends on the inputs alone.
-/
module

public import proofs.«01_k».proof.Proof.Chunk

@[expose] public section

noncomputable section

namespace Cert.Sb

open Idealize.ShloMosaic
open Cert.KernelIdeal Cert.KernelIdeal.Facts₀ Cert.KernelIdeal.Facts

variable {F : FTy → Type} [FloatOps F]

/-- The place of a head's bias. -/
abbrev BO : Type := { f : Fin 1 → ℕ // ∀ a, f a + S1.size a ≤ S16.size a }

/-- The offsets and masks of one grid point. -/
structure Tab where
  b0 : BO
  b1 : BO
  k2 : KO
  k31 : KO
  k30 : KO
  v4 : VO
  v5 : VO
  m1 : BitVec 32
  m0 : BitVec 32
  m0' : BitVec 32
  odd : Option ((Fin 2 → KO) × (Fin 2 → VO) × (Fin 2 → VO))
  n1 : ℕ
  k1 : Fin n1 → Fin 4 → KO
  v1 : Fin n1 → Fin 4 → VO
  w1 : Fin n1 → Fin 4 → VO
  n2 : ℕ
  kk : Fin n2 → Fin 4 → KO
  vv : Fin n2 → Fin 4 → VO
  ww : Fin n2 → Fin 4 → VO
  z0 : VO
  z1 : VO

variable (T : Tab) (l2e sl : F .f32)

/-- The two blocks of an odd tile, none on an even one. -/
def oddS? (s : St F) (u : FVec F S264x256 .bf16) : Option ((Fin 2 → KO) × (Fin 2 → VO) × (Fin 2 → VO)) → St F
  | none => s
  | some (k, v, v') => oddS s l2e u (k 0) (k 1) (v 0) (v' 0) (v 1) (v' 1)

/-- What the body leaves. -/
def bodyS (s : St F) : St F :=
  tailS (loopS (loopS (oddS? l2e (headS s l2e sl T.b0 T.b1 T.k2 T.k31 T.k30 T.v4 T.v5 T.m1 T.m0 T.m0') (uv s) T.odd)
    l2e (uv s) T.k1 T.v1 T.w1 T.n1) l2e (uv s) T.kk T.vv T.ww T.n2) T.z0 T.z1

/-! ## What stays -/

/-- The inputs and the augmented queries stay as they were. -/
structure Keeps (s s' : St F) : Prop where
  ky : s'.ky = s.ky
  vt : s'.vt = s.vt
  qa : s'.qa = s.qa
  bias : s'.bias = s.bias
  qt : s'.qt = s.qt
  ut : s'.ut = s.ut

namespace Keeps

theorem refl (s : St F) : Keeps s s := ⟨rfl, rfl, rfl, rfl, rfl, rfl⟩
theorem trans {s s' s'' : St F} (h : Keeps s s') (h' : Keeps s' s'') : Keeps s s'' :=
  ⟨h'.ky.trans h.ky, h'.vt.trans h.vt, h'.qa.trans h.qa, h'.bias.trans h.bias, h'.qt.trans h.qt, h'.ut.trans h.ut⟩

theorem zq {s s' : St F} (h : Keeps s s') (k : KO) (i : Fin 4) : zq s' k i = Cert.Sb.zq s k i := by
  unfold Cert.Sb.zq gK gQ; rw [h.ky, h.qa]
theorem gV {s s' : St F} (h : Keeps s s') (v : VO) : gV s' v = Cert.Sb.gV s v := by
  unfold Cert.Sb.gV; rw [h.vt]

theorem flush (s : St F) (c : Ch) (v : VO) : Keeps s (flushS s c v) := by constructor <;> (unfold flushS; dsimp only)
theorem put (s : St F) (c : Ch) (a : FVec F S256x256 .bf16) (cum : FVec F S264x256 .f32) : Keeps s (putS s c a cum) := by
  constructor <;> (unfold putS; dsimp only)
theorem sZ (s : St F) (sl : ℕ) (hs : sl < 2) (c : Ch) (w : FVec F S256x256 .f32) : Keeps s (sZ s sl hs c w) := by
  constructor <;> (unfold Cert.Sb.sZ; dsimp only)
theorem stash (s : St F) (sl : ℕ) (hs : sl < 2) (k : KO) : Keeps s (stashS s sl hs k) := by
  unfold stashS
  exact (((sZ s _ _ _ _).trans (sZ _ _ _ _ _)).trans (sZ _ _ _ _ _)).trans (sZ _ _ _ _ _)
theorem flush4 (s : St F) (v v' : VO) : Keeps s (flush4S s v v') := by
  unfold flush4S
  exact (((flush s _ _).trans (flush _ _ _)).trans (flush _ _ _)).trans (flush _ _ _)
theorem step (s : St F) (u : FVec F S264x256 .bf16) (sl sl' : ℕ) (hs : sl < 2) (hs' : sl' < 2) (k : KO) (v v' : VO) :
    Keeps s (stepS s l2e u sl sl' hs hs' k v v') := by
  unfold stepS wt4S wtS
  exact (((((stash s _ _ _).trans (flush4 _ _ _)).trans (put _ _ _ _)).trans (put _ _ _ _)).trans (put _ _ _ _)).trans (put _ _ _ _)
theorem diag1 (s : St F) (u : FVec F S264x256 .bf16) (b : BitVec 32) (k : KO) : Keeps s (diag1S s l2e u b k) := by
  unfold diag1S wmS
  exact (put s _ _ _).trans (put _ _ _ _)
theorem diag0 (s : St F) (u : FVec F S264x256 .bf16) (b b' : BitVec 32) (k : KO) : Keeps s (diag0S s l2e u b b' k) := by
  unfold diag0S wmS
  exact (((put s _ _ _).trans (put _ _ _ _)).trans (put _ _ _ _)).trans (put _ _ _ _)
theorem quad (s : St F) (u : FVec F S264x256 .bf16) (k : Fin 4 → KO) (v v' : Fin 4 → VO) : Keeps s (quadS s l2e u k v v') := by
  unfold quadS
  exact (((step l2e s _ _ _ _ _ _ _ _).trans (step l2e _ _ _ _ _ _ _ _ _)).trans (step l2e _ _ _ _ _ _ _ _ _)).trans (step l2e _ _ _ _ _ _ _ _ _)
theorem odd? (s : St F) (u : FVec F S264x256 .bf16) (o : Option ((Fin 2 → KO) × (Fin 2 → VO) × (Fin 2 → VO))) : Keeps s (oddS? l2e s u o) := by
  cases o with
  | none => exact refl s
  | some p => unfold oddS? oddS; exact (step l2e s _ _ _ _ _ _ _ _).trans (step l2e _ _ _ _ _ _ _ _ _)
theorem loop {N : ℕ} (s : St F) (u : FVec F S264x256 .bf16) (k : Fin N → Fin 4 → KO) (v v' : Fin N → Fin 4 → VO) (n : ℕ) :
    Keeps s (loopS s l2e u k v v' n) := by
  induction n with
  | zero => exact refl s
  | succ n ih =>
    rw [loopS]
    split
    · exact ih.trans (quad l2e _ _ _ _ _)
    · exact ih

end Keeps

/-! ## One chunk's sequence of blocks -/

/-- A chunk between two blocks: its cell and the logits of the block to come. -/
abbrev Pc (F : FTy → Type) : Type := Cell F × FVec F S256x256 .f32

/-- One block: the one before it meets its values, it leaves its weights, the next one's logits are had. -/
def stepC (u : FVec F S264x256 .bf16) (vt : Vec F S1x1x64x256 .bf16) (z : FVec F S256x256 .f32) (p : Pc F) : Pc F := (wtC l2e u p.2 (flC vt p.1), z)

def pc (s : St F) (sl : ℕ) (hs : sl < 2) (i : Fin 4) : Pc F := (cell s i, zc s sl hs i)

variable (u : FVec F S264x256 .bf16) (zf : KO → FVec F S256x256 .f32) (vf : VO → Vec F S1x1x64x256 .bf16)

def quadC (k : Fin 4 → KO) (v : Fin 4 → VO) (p : Pc F) : Pc F :=
  stepC l2e u (vf (v 3)) (zf (k 3)) (stepC l2e u (vf (v 2)) (zf (k 2)) (stepC l2e u (vf (v 1)) (zf (k 1)) (stepC l2e u (vf (v 0)) (zf (k 0)) p)))

def loopC {N : ℕ} (k : Fin N → Fin 4 → KO) (v : Fin N → Fin 4 → VO) (p : Pc F) : ℕ → Pc F
  | 0 => p
  | n + 1 => if h : n < N then quadC l2e u zf vf (k ⟨n, h⟩) (v ⟨n, h⟩) (loopC k v p n) else loopC k v p n

def oddC (p : Pc F) (i : Fin 4) : Option ((Fin 2 → KO) × (Fin 2 → VO) × (Fin 2 → VO)) → Pc F
  | none => p
  | some (k, v, v') => stepC l2e u (vf (vsel (v 1) (v' 1) i)) (zf (k 1)) (stepC l2e u (vf (vsel (v 0) (v' 0) i)) (zf (k 0)) p)

/-- The chunk's cell at the start. -/
def zeroC : Cell F where
  acc := fun _ => Scalar.ofBits .f32 0x00000000#32
  cy := fun _ => Scalar.ofBits .f32 0x00000000#32
  sc := fun _ => Scalar.ofBits .f32 0x00000000#32
  a := fun _ => Scalar.ofBits .bf16 0x0000#16

/-- After the blocks on the diagonal. -/
def headC (i : Fin 4) : Cell F :=
  if i.val % 2 = 1 then wmC l2e u (maskv T.m0') (zf T.k30) (flC (vf (vsel T.v4 T.v5 i)) (wmC l2e u (maskv T.m1) (zf T.k31) zeroC))
  else wmC l2e u (maskv T.m0) (zf T.k30) zeroC

/-- The chunk's result. -/
def resC (i : Fin 4) : Vec F S64x256 .f32 :=
  (flC (vf (vsel T.z0 T.z1 i)) (loopC l2e u zf vf T.kk (fun n r => vsel (T.vv n r) (T.ww n r) i)
    (loopC l2e u zf vf T.k1 (fun n r => vsel (T.v1 n r) (T.w1 n r) i) (oddC l2e u zf vf (headC T l2e u zf vf i, zf T.k2) i T.odd) T.n1) T.n2).1).acc

theorem putC_congr (a : FVec F S256x256 .bf16) (cum : FVec F S264x256 .f32) {c c' : Cell F} (ha : c.acc = c'.acc) (hc : c.cy = c'.cy) :
    putC a cum c = putC a cum c' := by
  unfold putC; rw [ha, hc]

theorem wmC_congr (mk : IVec S256x256 1) (z : FVec F S256x256 .f32) {c c' : Cell F} (ha : c.acc = c'.acc) (hc : c.cy = c'.cy) :
    wmC l2e u mk z c = wmC l2e u mk z c' := putC_congr _ _ ha hc

variable {zf vf}

theorem pc_step (s : St F) (i : Fin 4) (hz : ∀ k, zq s k i = zf k) (hv : ∀ v, gV s v = vf v) (sl sl' : ℕ) (hs : sl < 2) (hs' : sl' < 2) (k : KO) (v v' : VO) :
    pc (stepS s l2e u sl sl' hs hs' k v v') sl' hs' i = stepC l2e u (vf (vsel v v' i)) (zf k) (pc s sl hs i) := by
  unfold pc stepC
  rw [cell_step, zc_step, hz, hv]

theorem pc_quad (s : St F) (i : Fin 4) (hz : ∀ k, zq s k i = zf k) (hv : ∀ v, gV s v = vf v) (k : Fin 4 → KO) (v v' : Fin 4 → VO) :
    pc (quadS s l2e u k v v') 0 (by omega) i = quadC l2e u zf vf k (fun r => vsel (v r) (v' r) i) (pc s 0 (by omega) i) := by
  unfold quadS quadC
  have k1 := Keeps.step l2e s u 0 1 (by omega) (by omega) (k 0) (v 0) (v' 0)
  have k2 := k1.trans (Keeps.step l2e _ u 1 0 (by omega) (by omega) (k 1) (v 1) (v' 1))
  have k3 := k2.trans (Keeps.step l2e _ u 0 1 (by omega) (by omega) (k 2) (v 2) (v' 2))
  rw [pc_step l2e u _ i (fun k => (k3.zq k i).trans (hz k)) (fun v => (k3.gV v).trans (hv v)),
    pc_step l2e u _ i (fun k => (k2.zq k i).trans (hz k)) (fun v => (k2.gV v).trans (hv v)),
    pc_step l2e u _ i (fun k => (k1.zq k i).trans (hz k)) (fun v => (k1.gV v).trans (hv v)),
    pc_step l2e u _ i hz hv]

theorem pc_loop {N : ℕ} (s : St F) (i : Fin 4) (hz : ∀ k, zq s k i = zf k) (hv : ∀ v, gV s v = vf v) (k : Fin N → Fin 4 → KO) (v v' : Fin N → Fin 4 → VO) (n : ℕ) :
    pc (loopS s l2e u k v v' n) 0 (by omega) i = loopC l2e u zf vf k (fun n r => vsel (v n r) (v' n r) i) (pc s 0 (by omega) i) n := by
  induction n with
  | zero => rfl
  | succ n ih =>
    have hk := Keeps.loop l2e s u k v v' n
    rw [loopS, loopC]
    split
    · rw [pc_quad l2e u _ i (fun k => (hk.zq k i).trans (hz k)) (fun v => (hk.gV v).trans (hv v)), ih]
    · exact ih

theorem pc_odd (s : St F) (i : Fin 4) (hz : ∀ k, zq s k i = zf k) (hv : ∀ v, gV s v = vf v) (o : Option ((Fin 2 → KO) × (Fin 2 → VO) × (Fin 2 → VO))) :
    pc (oddS? l2e s u o) 0 (by omega) i = oddC l2e u zf vf (pc s 0 (by omega) i) i o := by
  cases o with
  | none => rfl
  | some p =>
    obtain ⟨k, v, v'⟩ := p
    unfold oddS? oddS oddC
    have k1 := Keeps.step l2e s u 0 1 (by omega) (by omega) (k 0) (v 0) (v' 0)
    rw [pc_step l2e u _ i (fun k => (k1.zq k i).trans (hz k)) (fun v => (k1.gV v).trans (hv v)), pc_step l2e u _ i hz hv]

theorem zc_diag (s : St F) (b b' b1 : BitVec 32) (k k' : KO) (v v' : VO) (i : Fin 4) :
    zc (diag0S (flushS (flushS (diag1S s l2e u b1 k') ch1 v) ch3 v') l2e u b b' k) 0 (by omega) i = zc s 0 (by omega) i := by
  unfold diag0S diag1S wmS
  simp only [zc_put, zc_flush]

theorem pc_head (s : St F) (i : Fin 4) (hz : ∀ k, zq (initS l2e sl s T.b0 T.b1) k i = zf k) (hv : ∀ v, gV (initS l2e sl s T.b0 T.b1) v = vf v) :
    pc (headS s l2e sl T.b0 T.b1 T.k2 T.k31 T.k30 T.v4 T.v5 T.m1 T.m0 T.m0') 0 (by omega) i = (headC T l2e (uv s) zf vf i, zf T.k2) := by
  unfold pc headS
  have c0 : (cell (initS l2e sl s T.b0 T.b1) i).acc = (zeroC (F := F)).acc := by
    show (fun x => (initS l2e sl s T.b0 T.b1).acc ((rAcc (chs i)).emb x)) = _
    rw [init_acc]; rfl
  have c1 : (cell (initS l2e sl s T.b0 T.b1) i).cy = (zeroC (F := F)).cy := by
    show (fun x => (initS l2e sl s T.b0 T.b1).cy ((rC (chs i)).emb x)) = _
    rw [init_cy]; rfl
  have k1 := Keeps.stash (initS l2e sl s T.b0 T.b1) 0 (by omega) T.k2
  have k2 := k1.trans (Keeps.diag1 l2e _ (uv s) T.m1 T.k31)
  have k3 := (k2.trans (Keeps.flush _ ch1 T.v4)).trans (Keeps.flush _ ch3 T.v5)
  refine Prod.ext ?_ ?_
  · show cell _ i = headC T l2e (uv s) zf vf i
    rw [cell_diag0, cell_flush2, cell_diag1, cell_stash, k1.zq, k2.gV, k3.zq, hz, hz, hv]
    unfold headC
    by_cases h : i.val % 2 = 1
    · simp only [if_pos h]
      rw [wmC_congr l2e (uv s) (maskv T.m1) (zf T.k31) c0 c1]
    · simp only [if_neg h]
      exact wmC_congr l2e (uv s) (maskv T.m0) (zf T.k30) c0 c1
  · dsimp only
    rw [zc_diag, zc_stash, hz]

/-- The result block, chunk by chunk. -/
theorem body_res (s : St F) (i : Fin 4) :
    (fun x => (bodyS T l2e sl s).out ((rAcc (chs i)).emb x)) = resC T l2e (uv s) (fun k => zq (initS l2e sl s T.b0 T.b1) k i) (gV s) i := by
  have hv0 : ∀ v, gV (initS l2e sl s T.b0 T.b1) v = gV s v := fun v => by unfold gV initS qaugS; dsimp only
  have kh : Keeps (initS l2e sl s T.b0 T.b1) (headS s l2e sl T.b0 T.b1 T.k2 T.k31 T.k30 T.v4 T.v5 T.m1 T.m0 T.m0') := by
    unfold headS
    exact ((((Keeps.stash _ _ _ _).trans (Keeps.diag1 _ _ _ _ _)).trans (Keeps.flush _ _ _)).trans (Keeps.flush _ _ _)).trans (Keeps.diag0 _ _ _ _ _ _)
  have ko := kh.trans (Keeps.odd? l2e _ (uv s) T.odd)
  have kl := ko.trans (Keeps.loop l2e _ (uv s) T.k1 T.v1 T.w1 T.n1)
  have km := kl.trans (Keeps.loop l2e _ (uv s) T.kk T.vv T.ww T.n2)
  unfold bodyS
  rw [tail_out]
  show (cell (flush4S _ T.z0 T.z1) i).acc = _
  rw [cell_flush4, km.gV, hv0]
  unfold resC
  have e1 := pc_head T l2e sl (zf := fun k => zq (initS l2e sl s T.b0 T.b1) k i) (vf := gV s) s i (fun _ => rfl) hv0
  have e2 := pc_odd l2e (uv s) (zf := fun k => zq (initS l2e sl s T.b0 T.b1) k i) (vf := gV s) _ i (fun k => kh.zq k i) (fun v => (kh.gV v).trans (hv0 v)) T.odd
  have e3 := pc_loop l2e (uv s) (zf := fun k => zq (initS l2e sl s T.b0 T.b1) k i) (vf := gV s) _ i (fun k => ko.zq k i) (fun v => (ko.gV v).trans (hv0 v)) T.k1 T.v1 T.w1 T.n1
  have e4 := pc_loop l2e (uv s) (zf := fun k => zq (initS l2e sl s T.b0 T.b1) k i) (vf := gV s) _ i (fun k => kl.zq k i) (fun v => (kl.gV v).trans (hv0 v)) T.kk T.vv T.ww T.n2
  rw [e3, e2, e1] at e4
  rw [← e4]
  rfl

/-- The inputs stay as they were. -/
theorem bodyS_ins (s : St F) :
    (bodyS T l2e sl s).bias = s.bias ∧ (bodyS T l2e sl s).qt = s.qt ∧ (bodyS T l2e sl s).ky = s.ky ∧ (bodyS T l2e sl s).vt = s.vt
      ∧ (bodyS T l2e sl s).ut = s.ut := by
  have kh : Keeps (initS l2e sl s T.b0 T.b1) (headS s l2e sl T.b0 T.b1 T.k2 T.k31 T.k30 T.v4 T.v5 T.m1 T.m0 T.m0') := by
    unfold headS
    exact ((((Keeps.stash _ _ _ _).trans (Keeps.diag1 _ _ _ _ _)).trans (Keeps.flush _ _ _)).trans (Keeps.flush _ _ _)).trans (Keeps.diag0 _ _ _ _ _ _)
  have k := (((kh.trans (Keeps.odd? l2e _ (uv s) T.odd)).trans (Keeps.loop l2e _ (uv s) T.k1 T.v1 T.w1 T.n1)).trans
    (Keeps.loop l2e _ (uv s) T.kk T.vv T.ww T.n2)).trans (Keeps.flush4 _ T.z0 T.z1)
  exact ⟨k.bias, k.qt, k.ky, k.vt, k.ut⟩

/-- What is written does not depend on what the scratch buffers and the result's block held. -/
theorem body_indep (s s' : St F) (hb : s.bias = s'.bias) (hq : s.qt = s'.qt) (hk : s.ky = s'.ky) (hv : s.vt = s'.vt) (hu : s.ut = s'.ut) :
    (bodyS T l2e sl s).out = (bodyS T l2e sl s').out := by
  have hi : ∀ i, (fun x => (bodyS T l2e sl s).out ((rAcc (chs i)).emb x)) = fun x => (bodyS T l2e sl s').out ((rAcc (chs i)).emb x) := by
    intro i
    rw [body_res, body_res]
    have e1 : uv s = uv s' := by unfold uv gUt; rw [hu]
    have e2 : gV s = gV s' := by unfold gV; rw [hv]
    have e3 : ∀ k, zq (initS l2e sl s T.b0 T.b1) k i = zq (initS l2e sl s' T.b0 T.b1) k i := fun k => by
      have h1 : (initS l2e sl s T.b0 T.b1).ky = (initS l2e sl s' T.b0 T.b1).ky := by unfold initS qaugS; dsimp only; exact hk
      unfold zq gK gQ; rw [h1, init_qa l2e sl s s' _ _ hb hq]
    rw [e1, e2]
    simp only [e3]
  exact acc_ext { s with acc := (bodyS T l2e sl s).out } { s with acc := (bodyS T l2e sl s').out } hi

end Cert.Sb

end
-- ==== Proof.Region.lean ====
/-
  The printed attention kernel's body runs the tiles' state functions (`run_body`), hence its one pipeline region keeps
  every input block and leaves `bodyS` of the inputs in the output block, at any contents of the scratch buffers; the
  frame claim follows.
-/
module

public import proofs.«01_k».proof.Proof.Body
public import proofs.«01_k».proof.Proof.Sweep
public import proofs.«01_k».proof.Proof.Gen.KernelIdeal.Frame
public import Idealize.ShloMosaic.Lib.Claim

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Sb Cert.KernelIdeal Cert.KernelIdeal.Gen

variable {F : FTy → Type} [FloatOps F] [Named F]

/-! ## The body -/

/-- The offsets and masks of the grid point `i`. -/
def tab (i : grid0.Coords) : Tab where
  b0 := qb0 i
  b1 := qb1 i
  k2 := qk2 i
  k31 := qk31 i
  k30 := qk30 i
  v4 := qv4 i
  v5 := qv5 i
  m1 := qm i 1#32 256#32
  m0 := qm i 0#32 0#32
  m0' := qm i 0#32 256#32
  odd := if h : k0_cond1 i = 1#1 then some (qk6 i h, qv7 i h, qv8 i h) else none
  n1 := (k0_t1_loop i).trips
  k1 := qk i
  v1 := qv i
  w1 := qw i
  n2 := (k0_t2_loop i).trips
  kk := rk i
  vv := rv i
  ww := rw' i
  z0 := qz0
  z1 := qz1

section

variable {U : Type} [URA U] {defs : Defs nD τ sig (Elt F) Λ₀} {𝒱 : Variants} {E : Set ℕ} {c : Dev nD} {M : Refs sig}

local notation "ℝ" => Runs (U := U) defs 𝒱 E c M

/-- The body but for its conditional. -/
theorem run_main (i : grid0.Coords) (s : St F) {odd : FVec F S264x256 .bf16 → Prog (TpuEff nD τ sig (Elt F) Λ₀ .tc) PUnit}
    (ho : ∀ s' u, ℝ (odd u) s' (oddS? l2e s' u (tab i).odd) ⟨⟩) :
    ℝ (mainP i M odd) s (bodyS (tab i) l2e sl2e s) ⟨⟩ := by
  refine (run_head s l2e sl2e _ _ _ _ _ _ _ _ _ _).bind ?_
  refine (ho _ _).bind ?_
  refine run_loop (Gen.k0_t1_ok i) 0#32 _ _ l2e _ (qk i) (qv i) (qw i) fun w => ?_
  refine run_loop (Gen.k0_t2_ok i) w _ _ l2e _ (rk i) (rv i) (rw' i) fun _ => ?_
  exact run_tail _ _ _

/-- The whole body. -/
theorem run_body (i : grid0.Coords) (h2 : M.bias.IsWhole) (h3 : M.qt.IsWhole) (h4 : M.ky.IsWhole) (h5 : M.vt.IsWhole)
    (h6 : M.ut.IsWhole) (h7 : M.out.IsWhole) (h9 : M.acc.IsWhole) (h10 : M.cy.IsWhole) (h11 : M.sc.IsWhole) (h13 : M.z.IsWhole) (s : St F) :
    ℝ (cc0_sb_attn_prompt (F := F) i M.bias h2 M.qt h3 M.ky h4 M.vt h5 M.ut h6 M.out h7 M.qa M.hqa M.acc h9 M.cy h10 M.sc h11 M.a M.ha M.z h13)
      s (bodyS (tab i) l2e sl2e s) ⟨⟩ := by
  by_cases h : k0_cond1 i = 1#1
  · rw [body_pos i M h2 h3 h4 h5 h6 h7 h9 h10 h11 h13 h]
    refine run_main i s fun s' u => ?_
    have e : (tab i).odd = some (qk6 i h, qv7 i h, qv8 i h) := dif_pos h
    rw [e]
    exact run_odd s' l2e u _ _ _ _ _ _
  · rw [body_neg i M h2 h3 h4 h5 h6 h7 h9 h10 h11 h13 h]
    refine run_main i s fun s' u => ?_
    have e : (tab i).odd = none := dif_neg h
    rw [e]
    exact Runs.pure s' _

end

/-! ## The region -/

local notation "𝕄" => MT nD τ sig Unit (Elt F) ℕ (UR sig nD τ) ℕ

variable (m : (ℓ : Loc nD τ sig) → Buf (Elt F) ℓ) (ρ : Dev nD → PrngReg)

/-- The scratch buffers, whole. -/
abbrev scQa : Memref sig .tc .vmem S128x1024 .bf16 := .whole cc0_scratch0
@[inherit_doc scQa] abbrev scAcc : Memref sig .tc .vmem S128x512 .f32 := .whole cc0_scratch1
@[inherit_doc scQa] abbrev scCy : Memref sig .tc .vmem S8x1024 .f32 := .whole cc0_scratch2
@[inherit_doc scQa] abbrev scSc : Memref sig .tc .vmem S8x1024 .f32 := .whole cc0_scratch3
@[inherit_doc scQa] abbrev scA : Memref sig .tc .vmem S256x1024 .bf16 := .whole cc0_scratch4
@[inherit_doc scQa] abbrev scZ : Memref sig .tc .vmem S2x256x1024 .f32 := .whole cc0_scratch5

/-- The kernel's buffers at the grid point `t`. -/
def refs (t : Fin cfg0.N) : Refs sig where
  bias := st0_0 t
  qt := st0_1 t
  ky := st0_2 t
  vt := st0_3 t
  ut := st0_4 t
  out := st0_5 t
  qa := scQa
  acc := scAcc
  cy := scCy
  sc := scSc
  a := scA
  z := scZ
  hqa := Memref.isWhole_whole _
  ha := Memref.isWhole_whole _

/-- The buffers with the inputs' blocks in place. -/
def stAt (c : Dev nD) (t : Fin cfg0.N) (out acc : Vec F S128x512 .f32) (qa : Vec F S128x1024 .bf16) (cy sc : Vec F S8x1024 .f32)
    (a : Vec F S256x1024 .bf16) (z : Vec F S2x256x1024 .f32) : St F where
  bias := iblk m c 0 t
  qt := iblk m c 1 t
  ky := iblk m c 2 t
  vt := iblk m c 3 t
  ut := iblk m c 4 t
  out := out
  qa := qa
  acc := acc
  cy := cy
  sc := sc
  a := a
  z := z

/-- The same with nought elsewhere. -/
def st₀ (c : Dev nD) (t : Fin cfg0.N) : St F :=
  stAt m c t (fun _ => Scalar.ofBits .f32 0x00000000#32) (fun _ => Scalar.ofBits .f32 0x00000000#32) (fun _ => Scalar.ofBits .bf16 0x0000#16)
    (fun _ => Scalar.ofBits .f32 0x00000000#32) (fun _ => Scalar.ofBits .f32 0x00000000#32) (fun _ => Scalar.ofBits .bf16 0x0000#16)
    (fun _ => Scalar.ofBits .f32 0x00000000#32)

/-- What the body leaves in the output block at the grid point `t`. -/
def outAt (c : Dev nD) (t : Fin cfg0.N) : Vec F S128x512 .f32 := (bodyS (tab (grid0.coords t)) l2e sl2e (st₀ m c t)).out

/-- The region's proof data: each input keeps its block, the output block gets `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The region's invariant: the scratch buffers at anything, the generator register at some state. -/
theorem PhiA0_eq (c : Dev nD) :
    (Pipeline.ΦA spec0 c : sProp 𝕄)
      = iprop(iprop((∃ d, owns (c : Thread nD τ) scQa fullShare d) ∗ (∃ d, owns (c : Thread nD τ) scAcc fullShare d)
        ∗ (∃ d, owns (c : Thread nD τ) scCy fullShare d) ∗ (∃ d, owns (c : Thread nD τ) scSc fullShare d)
        ∗ (∃ d, owns (c : Thread nD τ) scA fullShare d) ∗ (∃ d, owns (c : Thread nD τ) scZ fullShare d)) ∗ (∃ r, prngReg c r)) := by
  unfold Pipeline.ΦA; rw [scopedRest0_eq]; simp only [scQa, scAcc, scCy, scSc, scA, scZ, owns_whole]; try rfl

/-- What the body is given at the grid point `t`, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- No window is ever idle: each buffer ends at what the proof data say. -/
theorem leaves (c : Dev nD) (t : Fin cfg0.N) :
    (dats m 0 c).leavesExact 0 t = owns (c : Thread nD τ) (st0_0 t) fullShare (iblk m c 0 t)
    ∧ (dats m 0 c).leavesExact 1 t = owns (c : Thread nD τ) (st0_1 t) fullShare (iblk m c 1 t)
    ∧ (dats m 0 c).leavesExact 2 t = owns (c : Thread nD τ) (st0_2 t) fullShare (iblk m c 2 t)
    ∧ (dats m 0 c).leavesExact 3 t = owns (c : Thread nD τ) (st0_3 t) fullShare (iblk m c 3 t)
    ∧ (dats m 0 c).leavesExact 4 t = owns (c : Thread nD τ) (st0_4 t) fullShare (iblk m c 4 t)
    ∧ (dats m 0 c).leavesExact 5 t = owns (c : Thread nD τ) (st0_5 t) fullShare (outAt m c t) := by
  rw [← after0_0, ← after0_1, ← after0_2, ← after0_3, ← after0_4, ← after0_5]
  exact ⟨rfl, rfl, rfl, rfl, rfl, rfl⟩

/-- The body at a grid point. -/
theorem sound_body (c : Dev nD) (t : Fin cfg0.N) :
    pre m c t ⊢ wp frame (wpE (defs₀ (F := F)) Variants.none c none) Set.univ (bodyAt0 t) (fun _ => post m c t) := by
  unfold pre post
  simp only [before0_0, before0_1, before0_2, before0_3, before0_4, leaves]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA0_eq]
  iintro ⟨⟨⟨⟨%qa, S0⟩, ⟨%acc, S1⟩, ⟨%cy, S2⟩, ⟨%sc, S3⟩, ⟨%a, S4⟩, ⟨%z, S5⟩⟩, Hg⟩, Ho, ⟨%d0, H0⟩, ⟨%d1, H1⟩, ⟨%d2, H2⟩, ⟨%d3, H3⟩, ⟨%d4, H4⟩, ⟨%d5, H5⟩⟩
  have h := run_body (U := UR sig nD τ) (defs := defs₀ (F := F)) (𝒱 := Variants.none) (E := Set.univ) (c := c) (M := refs t) (grid0.coords t)
    (hstage0_0 ((cfg0.slots t 0).cast nbuf0_0)) (hstage0_1 ((cfg0.slots t 1).cast nbuf0_1)) (hstage0_2 ((cfg0.slots t 2).cast nbuf0_2))
    (hstage0_3 ((cfg0.slots t 3).cast nbuf0_3)) (hstage0_4 ((cfg0.slots t 4).cast nbuf0_4)) (hstage0_5 ((cfg0.slots t 5).cast nbuf0_5))
    (Memref.isWhole_whole _) (Memref.isWhole_whole _) (Memref.isWhole_whole _) (Memref.isWhole_whole _)
    (stAt m c t ((dats m 0 c).before 5 t d5) acc qa cy sc a z)
  have ho : (bodyS (tab (grid0.coords t)) l2e sl2e (stAt m c t ((dats m 0 c).before 5 t d5) acc qa cy sc a z)).out = outAt m c t :=
    body_indep _ _ _ _ _ rfl rfl rfl rfl rfl
  obtain ⟨i0, i1, i2, i3, i4⟩ := bodyS_ins (tab (grid0.coords t)) l2e sl2e (stAt m c t ((dats m 0 c).before 5 t d5) acc qa cy sc a z)
  iapply (h _) $$ [H0 H1 H2 H3 H4 H5 S0 S1 S2 S3 S4 S5]
  · simp only [Cert.Sb.own, refs, stAt]
    iframe
  · generalize bodyS (tab (grid0.coords t)) l2e sl2e (stAt m c t ((dats m 0 c).before 5 t d5) acc qa cy sc a z) = s' at ho i0 i1 i2 i3 i4 ⊢
    simp only [Cert.Sb.own, refs, ho, i0, i1, i2, i3, i4, stAt]
    iintro ⟨H0, H1, H2, H3, H4, H5, S0, S1, S2, S3, S4, S5⟩
    iframe
    isplitl [S0]; · iexists _; iexact S0
    isplitl [S1]; · iexists _; iexact S1
    isplitl [S2]; · iexists _; iexact S2
    isplitl [S3]; · iexists _; iexact S3
    isplitl [S4]; · iexists _; iexact S4
    iexists _; iexact S5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends with the arrays as the region leaves them and every semaphore at nought. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ _ => ite_self _)
    (howed := fun _ _ => rfl) (V := V m) (hmain := hmain m Variants.none) (hA := A_eq m) (hin := fun _ => .rfl) (hout := fun _ => .rfl)

theorem run_arrays : θ_run defs (onTc (τ := τ) (main (F := F))) (s₀ m ρ) (Pipeline.FramePost cfgs (dats m) 0 (V m)) :=
  (θ_run defs _ _).mono (fun _ h => h.1) (run_quiescent m ρ)

/-- THE FRAME: the arguments end as they began, and every semaphore at nought. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_arrays m ρ)) ((θ_run defs _ _).mono (fun _ h => h.2) (run_quiescent m ρ))

end Cert.KernelIdeal.Sb

end
-- ==== Proof.RegionBits.lean ====
/-
  The frame of the attention kernel as printed without named constants: its body is the printed body of `KernelIdeal`
  with every named constant read as its float word (`run_body`), so what that body runs, for any values and any reading
  of the names, this one runs; the region's proof data are stated over this program's own buffers.
-/
module

public import proofs.«01_k».proof.Proof.Region
public import proofs.«01_k».proof.Proof.Gen.Kernel.Frame

@[expose] public section

set_option maxRecDepth 65536

noncomputable section

namespace Cert.Kernel.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Sb Cert.Kernel Cert.Kernel.Gen

variable {F : FTy → Type} [FloatOps F]

/-- Every name read as its float word. -/
abbrev words : Named F := ⟨fun _ _ {φ} bits => Scalar.ofBits φ bits⟩

/-- The constants, and the offsets and masks of a grid point. -/
abbrev l2e : F .f32 := Scalar.ofBits .f32 0x3FB8AA3B#32
@[inherit_doc l2e] abbrev sl2e : F .f32 := Scalar.ofBits .f32 0x3E38AA3B#32
@[inherit_doc l2e] def tabAt (i : grid0.Coords) : Tab := Cert.KernelIdeal.Sb.tab i

theorem run_body {U : Type} [URA U] {defs : Defs nD τ sig (Elt F) Λ₀} {𝒱 : Variants} {E : Set ℕ} {c : Dev nD} {M : Refs sig}
    (i : grid0.Coords) (h2 : M.bias.IsWhole) (h3 : M.qt.IsWhole) (h4 : M.ky.IsWhole) (h5 : M.vt.IsWhole)
    (h6 : M.ut.IsWhole) (h7 : M.out.IsWhole) (h9 : M.acc.IsWhole) (h10 : M.cy.IsWhole) (h11 : M.sc.IsWhole) (h13 : M.z.IsWhole) (s : St F) :
    Runs (U := U) defs 𝒱 E c M
      (cc0_sb_attn_prompt (F := F) i M.bias h2 M.qt h3 M.ky h4 M.vt h5 M.ut h6 M.out h7 M.qa M.hqa M.acc h9 M.cy h10 M.sc h11 M.a M.ha M.z h13)
      s (bodyS (tabAt i) l2e sl2e s) ⟨⟩ :=
  @Cert.KernelIdeal.Sb.run_body F _ words U _ defs 𝒱 E c M i h2 h3 h4 h5 h6 h7 h9 h10 h11 h13 s

/-! ## The region -/

local notation "𝕄" => MT nD τ sig Unit (Elt F) ℕ (UR sig nD τ) ℕ

variable (m : (ℓ : Loc nD τ sig) → Buf (Elt F) ℓ) (ρ : Dev nD → PrngReg)

/-- The scratch buffers, whole. -/
abbrev scQa : Memref sig .tc .vmem S128x1024 .bf16 := .whole cc0_scratch0
@[inherit_doc scQa] abbrev scAcc : Memref sig .tc .vmem S128x512 .f32 := .whole cc0_scratch1
@[inherit_doc scQa] abbrev scCy : Memref sig .tc .vmem S8x1024 .f32 := .whole cc0_scratch2
@[inherit_doc scQa] abbrev scSc : Memref sig .tc .vmem S8x1024 .f32 := .whole cc0_scratch3
@[inherit_doc scQa] abbrev scA : Memref sig .tc .vmem S256x1024 .bf16 := .whole cc0_scratch4
@[inherit_doc scQa] abbrev scZ : Memref sig .tc .vmem S2x256x1024 .f32 := .whole cc0_scratch5

/-- The kernel's buffers at the grid point `t`. -/
def refs (t : Fin cfg0.N) : Refs sig where
  bias := st0_0 t
  qt := st0_1 t
  ky := st0_2 t
  vt := st0_3 t
  ut := st0_4 t
  out := st0_5 t
  qa := scQa
  acc := scAcc
  cy := scCy
  sc := scSc
  a := scA
  z := scZ
  hqa := Memref.isWhole_whole _
  ha := Memref.isWhole_whole _

/-- The buffers with the inputs' blocks in place. -/
def stAt (c : Dev nD) (t : Fin cfg0.N) (out acc : Vec F S128x512 .f32) (qa : Vec F S128x1024 .bf16) (cy sc : Vec F S8x1024 .f32)
    (a : Vec F S256x1024 .bf16) (z : Vec F S2x256x1024 .f32) : St F where
  bias := iblk m c 0 t
  qt := iblk m c 1 t
  ky := iblk m c 2 t
  vt := iblk m c 3 t
  ut := iblk m c 4 t
  out := out
  qa := qa
  acc := acc
  cy := cy
  sc := sc
  a := a
  z := z

/-- The same with nought elsewhere. -/
def st₀ (c : Dev nD) (t : Fin cfg0.N) : St F :=
  stAt m c t (fun _ => Scalar.ofBits .f32 0x00000000#32) (fun _ => Scalar.ofBits .f32 0x00000000#32) (fun _ => Scalar.ofBits .bf16 0x0000#16)
    (fun _ => Scalar.ofBits .f32 0x00000000#32) (fun _ => Scalar.ofBits .f32 0x00000000#32) (fun _ => Scalar.ofBits .bf16 0x0000#16)
    (fun _ => Scalar.ofBits .f32 0x00000000#32)

/-- What the body leaves in the output block at the grid point `t`. -/
def outAt (c : Dev nD) (t : Fin cfg0.N) : Vec F S128x512 .f32 := (bodyS (tabAt (grid0.coords t)) (l2e : F .f32) sl2e (st₀ m c t)).out

/-- The region's proof data: each input keeps its block, the output block gets `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The region's invariant: the scratch buffers at anything, the generator register at some state. -/
theorem PhiA0_eq (c : Dev nD) :
    (Pipeline.ΦA spec0 c : sProp 𝕄)
      = iprop(iprop((∃ d, owns (c : Thread nD τ) scQa fullShare d) ∗ (∃ d, owns (c : Thread nD τ) scAcc fullShare d)
        ∗ (∃ d, owns (c : Thread nD τ) scCy fullShare d) ∗ (∃ d, owns (c : Thread nD τ) scSc fullShare d)
        ∗ (∃ d, owns (c : Thread nD τ) scA fullShare d) ∗ (∃ d, owns (c : Thread nD τ) scZ fullShare d)) ∗ (∃ r, prngReg c r)) := by
  unfold Pipeline.ΦA; rw [scopedRest0_eq]; simp only [scQa, scAcc, scCy, scSc, scA, scZ, owns_whole]; try rfl

/-- What the body is given at the grid point `t`, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- No window is ever idle: each buffer ends at what the proof data say. -/
theorem leaves (c : Dev nD) (t : Fin cfg0.N) :
    (dats m 0 c).leavesExact 0 t = owns (c : Thread nD τ) (st0_0 t) fullShare (iblk m c 0 t)
    ∧ (dats m 0 c).leavesExact 1 t = owns (c : Thread nD τ) (st0_1 t) fullShare (iblk m c 1 t)
    ∧ (dats m 0 c).leavesExact 2 t = owns (c : Thread nD τ) (st0_2 t) fullShare (iblk m c 2 t)
    ∧ (dats m 0 c).leavesExact 3 t = owns (c : Thread nD τ) (st0_3 t) fullShare (iblk m c 3 t)
    ∧ (dats m 0 c).leavesExact 4 t = owns (c : Thread nD τ) (st0_4 t) fullShare (iblk m c 4 t)
    ∧ (dats m 0 c).leavesExact 5 t = owns (c : Thread nD τ) (st0_5 t) fullShare (outAt m c t) := by
  rw [← after0_0, ← after0_1, ← after0_2, ← after0_3, ← after0_4, ← after0_5]
  exact ⟨rfl, rfl, rfl, rfl, rfl, rfl⟩

/-- The body at a grid point. -/
theorem sound_body (c : Dev nD) (t : Fin cfg0.N) :
    pre m c t ⊢ wp frame (wpE (defs₀ (F := F)) Variants.none c none) Set.univ (bodyAt0 t) (fun _ => post m c t) := by
  unfold pre post
  simp only [before0_0, before0_1, before0_2, before0_3, before0_4, leaves]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA0_eq]
  iintro ⟨⟨⟨⟨%qa, S0⟩, ⟨%acc, S1⟩, ⟨%cy, S2⟩, ⟨%sc, S3⟩, ⟨%a, S4⟩, ⟨%z, S5⟩⟩, Hg⟩, Ho, ⟨%d0, H0⟩, ⟨%d1, H1⟩, ⟨%d2, H2⟩, ⟨%d3, H3⟩, ⟨%d4, H4⟩, ⟨%d5, H5⟩⟩
  have h := run_body (U := UR sig nD τ) (defs := defs₀ (F := F)) (𝒱 := Variants.none) (E := Set.univ) (c := c) (M := refs t) (grid0.coords t)
    (hstage0_0 ((cfg0.slots t 0).cast nbuf0_0)) (hstage0_1 ((cfg0.slots t 1).cast nbuf0_1)) (hstage0_2 ((cfg0.slots t 2).cast nbuf0_2))
    (hstage0_3 ((cfg0.slots t 3).cast nbuf0_3)) (hstage0_4 ((cfg0.slots t 4).cast nbuf0_4)) (hstage0_5 ((cfg0.slots t 5).cast nbuf0_5))
    (Memref.isWhole_whole _) (Memref.isWhole_whole _) (Memref.isWhole_whole _) (Memref.isWhole_whole _)
    (stAt m c t ((dats m 0 c).before 5 t d5) acc qa cy sc a z)
  have ho : (bodyS (tabAt (grid0.coords t)) (l2e : F .f32) sl2e (stAt m c t ((dats m 0 c).before 5 t d5) acc qa cy sc a z)).out = outAt m c t :=
    body_indep _ _ _ _ _ rfl rfl rfl rfl rfl
  obtain ⟨i0, i1, i2, i3, i4⟩ := bodyS_ins (tabAt (grid0.coords t)) (l2e : F .f32) sl2e (stAt m c t ((dats m 0 c).before 5 t d5) acc qa cy sc a z)
  iapply (h _) $$ [H0 H1 H2 H3 H4 H5 S0 S1 S2 S3 S4 S5]
  · simp only [Cert.Sb.own, refs, stAt]
    iframe
  · generalize bodyS (tabAt (grid0.coords t)) (l2e : F .f32) sl2e (stAt m c t ((dats m 0 c).before 5 t d5) acc qa cy sc a z) = s' at ho i0 i1 i2 i3 i4 ⊢
    simp only [Cert.Sb.own, refs, ho, i0, i1, i2, i3, i4, stAt]
    iintro ⟨H0, H1, H2, H3, H4, H5, S0, S1, S2, S3, S4, S5⟩
    iframe
    isplitl [S0]; · iexists _; iexact S0
    isplitl [S1]; · iexists _; iexact S1
    isplitl [S2]; · iexists _; iexact S2
    isplitl [S3]; · iexists _; iexact S3
    isplitl [S4]; · iexists _; iexact S4
    iexists _; iexact S5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends with the arrays as the region leaves them and every semaphore at nought. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ _ => ite_self _)
    (howed := fun _ _ => rfl) (V := V m) (hmain := hmain m Variants.none) (hA := A_eq m) (hin := fun _ => .rfl) (hout := fun _ => .rfl)

theorem run_arrays : θ_run defs (onTc (τ := τ) (main (F := F))) (s₀ m ρ) (Pipeline.FramePost cfgs (dats m) 0 (V m)) :=
  (θ_run defs _ _).mono (fun _ h => h.1) (run_quiescent m ρ)

/-- THE FRAME: the arguments end as they began, and every semaphore at nought. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_arrays m ρ)) ((θ_run defs _ _).mono (fun _ h => h.2) (run_quiescent m ρ))

end Cert.Kernel.Sb

end
-- ==== Proof.AttnFrames.lean ====
/-
  The attention's frames, as the certificate states them, and its two named constants.
-/
module

public import proofs.«01_k».proof.Defs
public import proofs.«01_k».proof.Proof.Region
public import proofs.«01_k».proof.Proof.RegionBits
public import proofs.«01_k».proof.Proof.Gen.ReferenceIdeal.Run
public import Idealize.ShloMosaic.Lib.Quiescent

@[expose] public section

noncomputable section

namespace Cert.AttnFrames

open Idealize.ShloMosaic Idealize.ShloMosaic.TcCoe Idealize.SL.Sem

/-- The printed kernel ends, keeps its arguments and leaves every counter at zero. -/
theorem frame_p : Cert.quiescent_Kernel := fun m g _ => Cert.Kernel.Sb.frame m g

/-- So does its idealization. -/
theorem frame_pi : Cert.quiescent_KernelIdeal := fun m g _ => Cert.KernelIdeal.Sb.frame m g

/-- So does the reference. -/
theorem frame_ri : Cert.quiescent_ReferenceIdeal := fun m g _ =>
  (θ_run Cert.ReferenceIdeal.defs _ _).mono (fun r h => ⟨fun c => (h c).2, sem_eq_zero_of_no_sems rfl r.2⟩)
    (Cert.ReferenceIdeal.Value.run m g)

/-- The two named constants stand for the reals their names say. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale_log2e" .f32 0x3E38AA3B#32 (((1 / 8) * (Real.log 2)⁻¹ : ℝ) : EReal) rfl⟩

end Cert.AttnFrames

end
-- ==== Proof.FfnTile.lean ====
/-
  What one grid point of the feed-forward kernel leaves behind, as plain tiles.

  The grid runs over 32 row blocks and the two halves of the hidden width. The first half stores the modulated rows and
  starts the sum; the second adds its product and writes the rows out. Read over the launch's fold, the result at a row
  block is the second half's output over what the first half left.
-/
module

public import proofs.«01_k».proof.Proof.Gen.KernelFfnIdeal.Value
public import Idealize.ShloMosaic.Lib.Tactic

@[expose] public section

noncomputable section

namespace Cert.KernelFfnIdeal.Ffn

open Cert.KernelFfnIdeal Cert.KernelFfnIdeal.Gen Cert.KernelFfnIdeal.Value
open Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl

/-- The second half's output: rows plus gate times the finished sum. -/
theorem out_B {c : Dev nD} {i : grid0.Coords} {a2 h2 a3 h3 a4 h4 a5 h5 a6 h6 a7 h7 a8 h8 a9 h9 a10 h10 a11 h11 a12 h12 c0 c1}
    (x0 : Vec F S512x1024 .f32) (x1 x2 x3 x4 : Vec F S1x1024 .f32) (x5 x6 : Vec F S1024x1408 .bf16)
    (x7 : Vec F S1408x1024 .bf16) (hb : Vec F S512x1024 .bf16) (acc : Vec F S512x1024 .f32) :
    out0_B_8 c i a2 h2 a3 h3 a4 h4 a5 h5 a6 h6 a7 h7 a8 h8 a9 h9 a10 h10 a11 h11 a12 h12 c0 c1 x0 x1 x2 x3 x4 x5 x6 x7 hb acc
      = k0_pay4 x0 x3 (k0_pay3 hb x5 x6 acc x7) := by
  unfold out0_B_8
  rw [View.read_writes_eq_canon _ _ _ (cover0_B_8 c i a2 h2 a3 h3 a4 h4 a5 h5 a6 h6 a7 h7 a8 h8 a9 h9 a10 h10 a11 h11 a12 h12 c0 c1 x0 x1 x2 x3 x4 x5 x6 x7 hb acc)]
  unfold kernelRun0_B
  dsimp only
  sl_unfold_words
  rw [View.canon_unit_zero hz]
  simp only [View.readAt_eq_ld, View.readCov_unit_zero (S := S512x1024) _ hz, h2.read_unread, h5.read_unread, h7.read_unread, h8.read_unread,
    h9.read_unread, h11.read_unread, h12.read_unread, View.ld_unit_zero (S := S512x1024) hz, View.ld_unit_zero (S := S1x1024) hz,
    View.ld_unit_zero (S := S1024x1408) hz, View.ld_unit_zero (S := S1408x1024) hz]

/-- The first half stores the modulated rows. -/
theorem sout_A_0 {c : Dev nD} {i : grid0.Coords} {a2 h2 a3 h3 a4 h4 a5 h5 a6 h6 a7 h7 a8 h8 a9 h9 a10 h10 a11 h11 a12 h12 c0 c1}
    (x0 : Vec F S512x1024 .f32) (x1 x2 x3 x4 : Vec F S1x1024 .f32) (x5 x6 : Vec F S1024x1408 .bf16)
    (x7 : Vec F S1408x1024 .bf16) :
    sout0_A_0 c i a2 h2 a3 h3 a4 h4 a5 h5 a6 h6 a7 h7 a8 h8 a9 h9 a10 h10 a11 h11 a12 h12 c0 c1 x0 x1 x2 x3 x4 x5 x6 x7
      = k0_pay1 x0 x4 x1 x2 := by
  unfold sout0_A_0
  rw [View.read_writes_eq_canon _ _ _ (scover0_A_0 c i a2 h2 a3 h3 a4 h4 a5 h5 a6 h6 a7 h7 a8 h8 a9 h9 a10 h10 a11 h11 a12 h12 c0 c1 x0 x1 x2 x3 x4 x5 x6 x7)]
  unfold kernelRun0_A
  dsimp only
  sl_unfold_words
  rw [View.canon_unit_zero hz]
  simp only [View.readAt_eq_ld, h2.read_unread, h3.read_unread, h4.read_unread, h6.read_unread, View.ld_unit_zero (S := S512x1024) hz, View.ld_unit_zero (S := S1x1024) hz,
    View.ld_unit_zero (S := S1024x1408) hz, View.ld_unit_zero (S := S1408x1024) hz]

/-- The first half starts the sum from zero with its own product. -/
theorem sout_A_1 {c : Dev nD} {i : grid0.Coords} {a2 h2 a3 h3 a4 h4 a5 h5 a6 h6 a7 h7 a8 h8 a9 h9 a10 h10 a11 h11 a12 h12 c0 c1}
    (x0 : Vec F S512x1024 .f32) (x1 x2 x3 x4 : Vec F S1x1024 .f32) (x5 x6 : Vec F S1024x1408 .bf16)
    (x7 : Vec F S1408x1024 .bf16) :
    sout0_A_1 c i a2 h2 a3 h3 a4 h4 a5 h5 a6 h6 a7 h7 a8 h8 a9 h9 a10 h10 a11 h11 a12 h12 c0 c1 x0 x1 x2 x3 x4 x5 x6 x7
      = k0_pay3 (k0_pay1 x0 x4 x1 x2) x5 x6 k0_pay2 x7 := by
  unfold sout0_A_1
  rw [View.read_writes_eq_canon _ _ _ (scover0_A_1 c i a2 h2 a3 h3 a4 h4 a5 h5 a6 h6 a7 h7 a8 h8 a9 h9 a10 h10 a11 h11 a12 h12 c0 c1 x0 x1 x2 x3 x4 x5 x6 x7)]
  unfold kernelRun0_A
  dsimp only
  sl_unfold_words
  rw [View.canon_cons_unit_zero hz]
  simp only [View.readAt_eq_ld, View.readCov_unit_zero (S := S512x1024) _ hz, h2.read_unread, h3.read_unread, h4.read_unread, h6.read_unread,
    h7.read_unread, h8.read_unread, h9.read_unread, View.ld_unit_zero (S := S512x1024) hz, View.ld_unit_zero (S := S1x1024) hz,
    View.ld_unit_zero (S := S1024x1408) hz, View.ld_unit_zero (S := S1408x1024) hz]

/-- At a second half's point the output block is this: the rows and gate of the point, over both halves' products. -/
theorem outs_odd (c : Dev nD) (tA tB : Fin cfg0.N) (he : tA.val % 2 = 0) (h : tB.val = tA.val + 1) :
    (outsAt0 m c tB.val tB.isLt).1
      = k0_pay4 (iblk m c 0 tB) (iblk m c 3 tB)
          (k0_pay3 (k0_pay1 (iblk m c 0 tA) (iblk m c 4 tA) (iblk m c 1 tA) (iblk m c 2 tA))
            (iblk m c 5 tB) (iblk m c 6 tB)
            (k0_pay3 (k0_pay1 (iblk m c 0 tA) (iblk m c 4 tA) (iblk m c 1 tA) (iblk m c 2 tA))
              (iblk m c 5 tA) (iblk m c 6 tA) k0_pay2 (iblk m c 7 tA))
            (iblk m c 7 tB)) := by
  have hB := outsAt0_B m c tB (by omega) (by omega)
  have hA := outsAt0_A m c tA he (by omega)
  have hP : ∀ hp, outsAt0 m c (tB.val - 1) hp = outsAt0 m c tA.val tA.isLt := by
    rw [h, Nat.add_sub_cancel]; exact fun _ => rfl
  rw [out_B, hP, hA, sout_A_0, sout_A_1] at hB
  rw [hB]

end Cert.KernelFfnIdeal.Ffn

end
-- ==== Proof.FfnValue.lean ====
/-
  The feed-forward kernel computes its reference, over the extended reals.

  Both sides are read at one row and column. The kernel's two halves of the hidden width add up to the reference's one
  contraction; every other operation is the same on both sides.
-/
module

public import proofs.«01_k».proof.Proof.FfnTile
public import proofs.«01_k».proof.Proof.Gen.ReferenceFfnIdeal.Run
public import Idealize.ShloMosaic.Lib.Pipeline.ValueKit
public import Idealize.ShloMosaic.Lib.Pointwise

@[expose] public section

set_option maxRecDepth 16384

noncomputable section

namespace Cert.Ffn

open Idealize.ShloMosaic

/-- A row scaled by the root of its mean square, then by the norm's weight, and modulated. -/
def modu (x : Fin 1024 → EReal) (g sh sc : Fin 1024 → EReal) (k : Fin 1024) : EReal :=
  x k * Ideal.rsqrt (Ideal.div (∑ j, x j * x j) (Ideal.ofBits FTy.f32 0x44800000#32) + Ideal.ofBits FTy.f32 0x358637BD#32)
    * g k * (1 + sc k) + sh k

/-- One hidden unit: the gated product of its two columns. -/
def unit (h : Fin 1024 → EReal) (a u : Fin 1024 → EReal) : EReal :=
  (∑ j, h j * a j) * Ideal.div 1 (1 + Ideal.exp (-∑ j, h j * a j)) * ∑ j, h j * u j

end Cert.Ffn

namespace Cert.KernelFfnIdeal.Ffn

open Cert.KernelFfnIdeal Cert.KernelFfnIdeal.Gen Cert.KernelFfnIdeal.Value Cert.Ffn
open Idealize.ShloMosaic Idealize.ShloMosaic.TcCoe Idealize.SL.Sem

theorem pay1_at (x : Vec Ideal S512x1024 .f32) (g sh sc : Vec Ideal S1x1024 .f32) (r : Fin 512) (k : Fin 1024) :
    k0_pay1 x g sh sc (ix2 r k)
      = modu (fun j => x (ix2 r j)) (fun j => g (ix2 0 j)) (fun j => sh (ix2 0 j)) (fun j => sc (ix2 0 j)) k := by
  pointwise [k0_pay1, modu]

theorem pay2_at (r : Fin 512) (k : Fin 1024) : k0_pay2 (F := Ideal) (ix2 r k) = 0 := by
  pointwise [k0_pay2]

theorem pay3_at (h : Vec Ideal S512x1024 .bf16) (wg wu : Vec Ideal S1024x1408 .bf16) (acc : Vec Ideal S512x1024 .f32)
    (wd : Vec Ideal S1408x1024 .bf16) (r : Fin 512) (k : Fin 1024) :
    k0_pay3 h wg wu acc wd (ix2 r k)
      = acc (ix2 r k) + ∑ f : Fin 1408, unit (fun j => h (ix2 r j)) (fun j => wg (ix2 j f)) (fun j => wu (ix2 j f)) * wd (ix2 f k) := by
  pointwise [k0_pay3, unit]
  rfl

theorem pay4_at (x : Vec Ideal S512x1024 .f32) (g : Vec Ideal S1x1024 .f32) (acc : Vec Ideal S512x1024 .f32)
    (r : Fin 512) (k : Fin 1024) : k0_pay4 x g acc (ix2 r k) = x (ix2 r k) + g (ix2 0 k) * acc (ix2 r k) := by
  pointwise [k0_pay4]

variable (m : (ℓ : Loc nD τ sig) → Buf (Elt Ideal) ℓ)

/-- Where each window stands at a grid point. -/
theorem idx : ∀ t : Fin cfg0.N, win0_0.index t = ![t.val / 2, 0] ∧ win0_1.index t = ![0, 0] ∧ win0_2.index t = ![0, 0]
    ∧ win0_3.index t = ![0, 0] ∧ win0_4.index t = ![0, 0] ∧ win0_5.index t = ![0, t.val % 2]
    ∧ win0_6.index t = ![0, 2 + t.val % 2] ∧ win0_7.index t = ![t.val % 2, 0] :=
  (by decide +kernel : ∀ t : Fin grid0.N, _)

theorem row_lt (t : Fin cfg0.N) (r : Fin 512) : 512 * (t.val / 2) + r.val < 16384 := by
  have := lt_of_lt_of_eq t.isLt N_0; omega

theorem blk0 (c : Dev nD) (t : Fin cfg0.N) (r : Fin 512) (k : Fin 1024) :
    iblk m c 0 t (ix2 r k) = m ((c : Thread nD τ).loc main_arg0) (ix2 ⟨512 * (t.val / 2) + r, row_lt t r⟩ k) := by
  blk_ext [iblk, V, idx t]

theorem blk1 (c : Dev nD) (t : Fin cfg0.N) (k : Fin 1024) :
    iblk m c 1 t (ix2 0 k) = m ((c : Thread nD τ).loc main_arg1) (ix2 0 k) := by
  blk_ext [iblk, V, idx t]

theorem blk2 (c : Dev nD) (t : Fin cfg0.N) (k : Fin 1024) :
    iblk m c 2 t (ix2 0 k) = m ((c : Thread nD τ).loc main_arg2) (ix2 0 k) := by
  blk_ext [iblk, V, idx t]

theorem blk3 (c : Dev nD) (t : Fin cfg0.N) (k : Fin 1024) :
    iblk m c 3 t (ix2 0 k) = m ((c : Thread nD τ).loc main_arg3) (ix2 0 k) := by
  blk_ext [iblk, V, idx t]

theorem blk4 (c : Dev nD) (t : Fin cfg0.N) (k : Fin 1024) :
    iblk m c 4 t (ix2 0 k) = m ((c : Thread nD τ).loc main_arg4) (ix2 0 k) := by
  blk_ext [iblk, V, idx t]

theorem blk5 (c : Dev nD) (t : Fin cfg0.N) (j : Fin 1024) (f : Fin 1408) :
    iblk m c 5 t (ix2 j f) = m ((c : Thread nD τ).loc main_arg5) (ix2 j ⟨1408 * (t.val % 2) + f, by omega⟩) := by
  blk_point [iblk, V, idx t]

theorem blk6 (c : Dev nD) (t : Fin cfg0.N) (j : Fin 1024) (f : Fin 1408) :
    iblk m c 6 t (ix2 j f) = m ((c : Thread nD τ).loc main_arg5) (ix2 j ⟨2816 + (1408 * (t.val % 2) + f), by omega⟩) := by
  blk_point [iblk, V, idx t]

theorem blk7 (c : Dev nD) (t : Fin cfg0.N) (f : Fin 1408) (k : Fin 1024) :
    iblk m c 7 t (ix2 f k) = m ((c : Thread nD τ).loc main_arg6) (ix2 ⟨1408 * (t.val % 2) + f, by omega⟩ k) := by
  blk_point [iblk, V, idx t]

end Cert.KernelFfnIdeal.Ffn

namespace Cert.ReferenceFfnIdeal.Ffn

open Cert.ReferenceFfnIdeal Cert.ReferenceFfnIdeal.Gen Cert.ReferenceFfnIdeal.Value Cert.Ffn
open Idealize.ShloMosaic Idealize.ShloMosaic.TcCoe Idealize.SL.Sem

/-- The modulated rows of the reference. -/
def hid (x : FVec Ideal S16384x1024 .f32) (sh sc g : FVec Ideal S1x1024 .f32) : FVec Ideal S16384x1024 .f32 :=
  addf (mulf (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)) (broadcastInDim S16384x1024 ![0, 1] bcast_S1x1024_S16384x1024_0_1 (addf (broadcastInDim S1x1024 ![] bcast_S_S1x1024 (constant S_ .f32 0x3F800000#32)) sc))) (broadcastInDim S16384x1024 ![0, 1] bcast_S1x1024_S16384x1024_0_1 sh)
/-- The rows through the three weight products, the gate and the residual. -/
def rest (x h : FVec Ideal S16384x1024 .f32) (gate : FVec Ideal S1x1024 .f32) (w : FVec Ideal S1024x5632 .f32) (wd : FVec Ideal S2816x1024 .f32) : FVec Ideal S16384x1024 .f32 :=
  addf x (mulf (broadcastInDim S16384x1024 ![0, 1] bcast_S1x1024_S16384x1024_0_1 gate) (Host.dotGeneral dot_S16384x2816_S2816x1024_S16384x1024_1_0_0_1_n_n none (mulf (mulf (extractStridedSlice S16384x2816 ![0, 0] (Host.dotGeneral dot_S16384x1024_S1024x5632_S16384x5632_1_0_0_1_n_n none h w) slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] (Host.dotGeneral dot_S16384x1024_S1024x5632_S16384x5632_1_0_0_1_n_n none h w) slices_S16384x5632_S16384x2816_0_0)))))) (extractStridedSlice S16384x2816 ![0, 2816] (Host.dotGeneral dot_S16384x1024_S1024x5632_S16384x5632_1_0_0_1_n_n none h w) slices_S16384x5632_S16384x2816_0_2816)) wd))
theorem hid_at (x : FVec Ideal S16384x1024 .f32) (sh sc g : FVec Ideal S1x1024 .f32) (r : Fin 16384) (k : Fin 1024) :
    hid x sh sc g (ix2 r k)
      = modu (fun j => x (ix2 r j)) (fun j => g (ix2 0 j)) (fun j => sh (ix2 0 j)) (fun j => sc (ix2 0 j)) k := by
  pointwise [hid, modu]

theorem rest_at (x h : FVec Ideal S16384x1024 .f32) (gate : FVec Ideal S1x1024 .f32) (w : FVec Ideal S1024x5632 .f32)
    (wd : FVec Ideal S2816x1024 .f32) (r : Fin 16384) (k : Fin 1024) :
    rest x h gate w wd (ix2 r k)
      = x (ix2 r k) + gate (ix2 0 k) * ∑ f : Fin 2816, unit (fun j => h (ix2 r j)) (fun j => w (ix2 j ⟨f, by omega⟩))
          (fun j => w (ix2 j ⟨2816 + f, by omega⟩)) * wd (ix2 f k) := by
  pointwise [rest, unit]

end Cert.ReferenceFfnIdeal.Ffn

namespace Cert.KernelFfnIdeal.Ffn

open Cert.KernelFfnIdeal Cert.KernelFfnIdeal.Gen Cert.KernelFfnIdeal.Value Cert.Ffn
open Idealize.ShloMosaic Idealize.ShloMosaic.TcCoe Idealize.SL.Sem

variable (m : (ℓ : Loc nD τ sig) → Buf (Elt Ideal) ℓ)

/-- The first half of a row block's points and the second. -/
abbrev ptA (n : Fin 32) : Fin cfg0.N := ⟨2 * n.val, lt_of_lt_of_eq (by omega) N_0.symm⟩
abbrev ptB (n : Fin 32) : Fin cfg0.N := ⟨2 * n.val + 1, lt_of_lt_of_eq (by omega) N_0.symm⟩

/-- A sum over the whole hidden width is the sum over its two halves. -/
theorem sum_halves (f : Fin 2816 → EReal) :
    ∑ i, f i = ∑ i : Fin 1408, f ⟨i, by omega⟩ + ∑ i : Fin 1408, f ⟨1408 + i, by omega⟩ :=
  Fin.sum_univ_add (a := 1408) (b := 1408) f

/-- One row block of the result is the reference's rows there. -/
theorem out_row (c : Dev nD) (n : Fin 32) (r : Fin 512) (k : Fin 1024) (hr : 512 * n.val + r.val < 16384) :
    (outsAt0 m c (2 * n.val + 1) (ptB n).isLt).1 (ix2 r k)
      = Cert.ReferenceFfnIdeal.Ffn.rest (m ((c : Thread nD τ).loc main_arg0))
          (Cert.ReferenceFfnIdeal.Ffn.hid (m ((c : Thread nD τ).loc main_arg0)) (m ((c : Thread nD τ).loc main_arg1))
            (m ((c : Thread nD τ).loc main_arg2)) (m ((c : Thread nD τ).loc main_arg4)))
          (m ((c : Thread nD τ).loc main_arg3)) (m ((c : Thread nD τ).loc main_arg5)) (m ((c : Thread nD τ).loc main_arg6))
          (ix2 ⟨512 * n.val + r.val, hr⟩ k) := by
  have dA : (ptA n).val / 2 = n.val := by dsimp only; omega
  have dB : (ptB n).val / 2 = n.val := by dsimp only; omega
  have mA : (ptA n).val % 2 = 0 := by dsimp only; omega
  have mB : (ptB n).val % 2 = 1 := by dsimp only; omega
  refine (congrFun (outs_odd m c (ptA n) (ptB n) (by dsimp only; omega) rfl) (ix2 r k)).trans ?_
  rw [pay4_at, pay3_at, pay3_at, pay2_at, zero_add, Cert.ReferenceFfnIdeal.Ffn.rest_at, sum_halves]
  simp only [pay1_at, Cert.ReferenceFfnIdeal.Ffn.hid_at, blk0, blk1, blk2, blk3, blk4, blk5, blk6, blk7, dA, dB, mA, mB,
    Nat.mul_zero, Nat.zero_add, Nat.mul_one]

/-- The result array, as the reference's composed term of the same arguments. -/
theorem result (c : Dev nD) :
    G8 m c = Cert.ReferenceFfnIdeal.Ffn.rest (m ((c : Thread nD τ).loc main_arg0))
          (Cert.ReferenceFfnIdeal.Ffn.hid (m ((c : Thread nD τ).loc main_arg0)) (m ((c : Thread nD τ).loc main_arg1))
            (m ((c : Thread nD τ).loc main_arg2)) (m ((c : Thread nD τ).loc main_arg4)))
          (m ((c : Thread nD τ).loc main_arg3)) (m ((c : Thread nD τ).loc main_arg5)) (m ((c : Thread nD τ).loc main_arg6)) := by
  funext i
  obtain ⟨R, k, rfl⟩ : ∃ (R : Fin 16384) (k : Fin 1024), i = ix2 R k := ⟨i 0, i 1, eq_ix2 i⟩
  have hn : R.val / 512 < 32 := by omega
  have hN : 2 * (R.val / 512) + 1 < cfg0.N := lt_of_lt_of_eq (by omega) N_0.symm
  have hp : pt8Of (ix2 R k : S16384x1024.Idx) = 2 * (R.val / 512) + 1 := by
    show 2 * (1 * (R.val / 512 - 0) + 1 * (k.val / 1024 - 0)) + 1 = _
    omega
  have hl : loc8Of (ix2 R k : S16384x1024.Idx) = ix2 (⟨R.val % 512, by omega⟩ : Fin 512) k := by
    funext a
    match a with
    | ⟨0, _⟩ => rfl
    | ⟨1, _⟩ => exact Fin.ext (Nat.mod_eq_of_lt k.isLt)
  have key := out_row m c ⟨R.val / 512, hn⟩ ⟨R.val % 512, by omega⟩ k (by dsimp only; omega)
  have hR : (⟨512 * (R.val / 512) + R.val % 512, by omega⟩ : Fin 16384) = R := Fin.ext (Nat.div_add_mod _ _)
  dsimp only at key
  rw [hR, outsAt0_sweep] at key
  unfold G8
  rw [dif_pos (by rw [hp]; exact hN), hl]
  simp only [hp]
  exact key

end Cert.KernelFfnIdeal.Ffn

end
-- ==== Proof.FfnClaims.lean ====
/-
  The feed-forward claims: the kernel against its reference over the extended reals, and the reference's own frame.
-/
module

public import proofs.«01_k».proof.Defs
public import proofs.«01_k».proof.Proof.FfnValue
public import Idealize.ShloMosaic.Lib.Quiescent

@[expose] public section

noncomputable section

namespace Cert.FfnClaims

open Idealize.ShloMosaic Idealize.ShloMosaic.TcCoe Idealize.SL.Sem

/-- The kernel and the reference end with the same rows. -/
theorem algebraic : Cert.algebraic_KernelFfnIdeal_ReferenceFfnIdeal := fun m g m' g' _ hagree =>
  ⟨fun c => Cert.KernelFfnIdeal.Value.G8 m c, Cert.KernelFfnIdeal.Value.run m g,
    (θ_run Cert.ReferenceFfnIdeal.defs _ _).mono
      (fun _ h c => ⟨(h c).1.trans (by
        obtain ⟨e0, e1, e2, e3, e4, e5, e6⟩ := hagree c
        rw [e0, e1, e2, e3, e4, e5, e6]
        exact (Cert.KernelFfnIdeal.Ffn.result m c).symm), (h c).2⟩)
      (Cert.ReferenceFfnIdeal.Value.run m' g')⟩

/-- The reference ends, keeps its arguments and leaves every counter at zero. -/
theorem frame_ref : Cert.quiescent_ReferenceFfnIdeal := fun m g _ =>
  (θ_run Cert.ReferenceFfnIdeal.defs _ _).mono (fun r h => ⟨fun c => (h c).2, sem_eq_zero_of_no_sems rfl r.2⟩)
    (Cert.ReferenceFfnIdeal.Value.run m g)

end Cert.FfnClaims

end
-- ==== Proof.AttnBlk.lean ====
/-
  The blocks the attention kernel reads, in terms of the layer's queries, keys, values and biases.
-/
module

public import proofs.«01_k».proof.Proof.Region
public import Idealize.ShloMosaic.Lib.Pipeline.ValueKit
public import Idealize.ShloMosaic.Lib.Pointwise

@[expose] public section

set_option maxRecDepth 16384

noncomputable section

namespace Cert.KernelIdeal.Sb

open Idealize.ShloMosaic Idealize.ShloMosaic.TcCoe
open Cert.KernelIdeal Cert.KernelIdeal.Gen

variable (m : (ℓ : Loc nD τ sig) → Buf (Elt Ideal) ℓ)

theorem idx : ∀ t : Fin cfg0.N, win0_0.index t = ![0] ∧ win0_1.index t = ![t.val / 32, t.val % 32] ∧ win0_2.index t = ![0, t.val / 32]
    ∧ win0_3.index t = ![t.val / 32, 0, 0, 0] ∧ win0_4.index t = ![0, 0] ∧ win0_5.index t = ![t.val / 32, t.val % 32] :=
  (by decide +kernel : ∀ t : Fin grid0.N, _)

theorem pt_lt (t : Fin cfg0.N) : t.val < 256 := lt_of_lt_of_eq t.isLt N_0

theorem blk0 (c : Dev nD) (t : Fin cfg0.N) (h : Fin 16) : iblk m c 0 t (ix1 h) = m ((c : Thread nD τ).loc main_arg3) (ix1 h) := by
  blk_ext [iblk, V, idx t]

theorem blk1 (c : Dev nD) (t : Fin cfg0.N) (r : Fin 128) (x : Fin 512) :
    iblk m c 1 t (ix2 r x) = m ((c : Thread nD τ).loc main_arg0) (ix3 ⟨512 * (t.val % 32) + x.val, by omega⟩ ⟨2 * (t.val / 32) + r.val / 64, by have := pt_lt t; omega⟩ ⟨r.val % 64, by omega⟩) := by
  blk_point [iblk, V, idx t]

theorem blk3 (c : Dev nD) (t : Fin cfg0.N) (h : Fin 2) (b d : Fin 64) (r : Fin 256) :
    iblk m c 3 t (ix4 h b d r) = m ((c : Thread nD τ).loc main_arg2) (ix3 ⟨256 * b.val + r.val, by omega⟩ ⟨2 * (t.val / 32) + h.val, by have := pt_lt t; omega⟩ d) := by
  blk_point [iblk, V, idx t]

theorem toInt_lt : ∀ r : Fin 264, (BitVec.ofNat 32 r.val).toInt = r.val := by decide +kernel

theorem u1 : FloatOps.uitofp (F := Ideal) FTy.bf16 1#1 = (1 : EReal) := by
  show (((1#1).toNat : ℝ) : EReal) = 1
  norm_num

theorem u0 : FloatOps.uitofp (F := Ideal) FTy.bf16 0#1 = (0 : EReal) := by
  show (((0#1).toNat : ℝ) : EReal) = 0
  norm_num

theorem ent6 (c : Dev nD) (r : Fin 264) (e : Fin 256) :
    V m c main_v6 (ix2 r e) = if r.val ≤ e.val ∨ 256 ≤ r.val then (1 : EReal) else 0 := by
  unfold V
  entry_read
  pointwise
  have e1 : IntOp.cmpi CmpIPredicate.sge (BitVec.ofNat 32 e.val) (BitVec.ofNat 32 r.val) = BitVec.ofBool (decide (r.val ≤ e.val)) := by
    show BitVec.ofBool (decide ((BitVec.ofNat 32 r.val).toInt ≤ (BitVec.ofNat 32 e.val).toInt)) = _
    rw [toInt_lt r, toInt_lt ⟨e.val, by omega⟩]
    simp only [Nat.cast_le]
  have e2 : IntOp.cmpi CmpIPredicate.sge (BitVec.ofNat 32 r.val) 256#32 = BitVec.ofBool (decide (256 ≤ r.val)) := by
    show BitVec.ofBool (decide ((256#32).toInt ≤ (BitVec.ofNat 32 r.val).toInt)) = _
    rw [toInt_lt r, show (256#32).toInt = ((256 : ℕ) : ℤ) from rfl]
    simp only [Nat.cast_le]
  rw [e1, e2]
  by_cases h1 : r.val ≤ e.val <;> by_cases h2 : 256 ≤ r.val <;> simp [h1, h2, IntOp.ori, u1, u0]

theorem blk4 (c : Dev nD) (t : Fin cfg0.N) (r : Fin 264) (e : Fin 256) :
    iblk m c 4 t (ix2 r e) = V m c main_v6 (ix2 r e) := by
  blk_ext [iblk, idx t]

/-- A three-operand operation's result, with each operand read at its own buffer. -/
theorem nary3 {x a b y : Ref sig .tc} {Val : EltTy → Type}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (no_index (Proc.devRef .tc y))
      = f (Fin.cons (G (Proc.devRef .tc x)) (Fin.cons (G (Proc.devRef .tc a))
          (Fin.cons (G (Proc.devRef .tc b)) (fun i => i.elim0)))) := by
  rw [StableHlo.nary_result]
  congr 1
  funext k
  fin_cases k <;> rfl

/-- The keys, each head's 64 rows followed by three rows of ones and 61 rows of zeros. -/
def kcat (x : FVec Ideal S16384x16x64 .f32) : FVec Ideal S16384x16x128 .f32 :=
  concatenate S16384x16x128 2
    [⟨S16384x16x64, x⟩,
     ⟨S16384x16x3, broadcastInDim S16384x16x3 ![] bcast_S_S16384x16x3 (constant (F := Ideal) S_ .f32 0x3F800000#32)⟩,
     ⟨S16384x16x61, broadcastInDim S16384x16x61 ![] bcast_S_S16384x16x61 (constant (F := Ideal) S_ .f32 0x00000000#32)⟩]
    concatenates_S16384x16x64_S16384x16x3_S16384x16x61_S16384x16x128_d2

/-- The keys as the kernel is handed them. -/
def kflat (x : FVec Ideal S16384x16x64 .f32) : FVec Ideal S16384x2048 .bf16 :=
  truncf .bf16 (shapeCast S16384x2048 (kcat x) shapeCasts_S16384x16x128_S16384x2048) bitsLt_bf16_f32

theorem ent13_eq (c : Dev nD) : V m c main_v13 = kflat (m ((c : Thread nD τ).loc main_arg1)) := by
  show StableHlo.after hostOps0 (fun b => m (c, b)) (Proc.devRef .tc main_v13) = _
  simp (disch := decide) only [StableHlo.after_cons, StableHlo.after_nil, StableHlo.nullary_result',
    StableHlo.unary_result', StableHlo.binary_result', StableHlo.reshape_result', nary3,
    StableHlo.nullary_result_ne', StableHlo.unary_result_ne', StableHlo.binary_result_ne',
    StableHlo.reshape_result_ne', StableHlo.nary_result_ne']
  rfl

theorem kflat_at (x : FVec Ideal S16384x16x64 .f32) (j : Fin 16384) (h : Fin 16) (e : Fin 128) :
    kflat x (ix2 j ⟨128 * h.val + e.val, by omega⟩) = kcat x (ix3 j h e) := by
  unfold kflat
  pointwise

theorem kcat_lo (x : FVec Ideal S16384x16x64 .f32) (j : Fin 16384) (h : Fin 16) (e : Fin 64) :
    kcat x (ix3 j h ⟨e.val, by omega⟩) = x (ix3 j h e) := by
  unfold kcat
  pointwise

theorem kcat_one (x : FVec Ideal S16384x16x64 .f32) (j : Fin 16384) (h : Fin 16) :
    kcat x (ix3 j h ⟨64, by omega⟩) = 1 := by
  unfold kcat
  pointwise

theorem kcat_two (x : FVec Ideal S16384x16x64 .f32) (j : Fin 16384) (h : Fin 16) :
    kcat x (ix3 j h ⟨65, by omega⟩) = 1 := by
  unfold kcat
  pointwise

theorem kcat_three (x : FVec Ideal S16384x16x64 .f32) (j : Fin 16384) (h : Fin 16) :
    kcat x (ix3 j h ⟨66, by omega⟩) = 1 := by
  unfold kcat
  pointwise

theorem blk2 (c : Dev nD) (t : Fin cfg0.N) (j : Fin 16384) (e : Fin 256) :
    iblk m c 2 t (ix2 j e) = V m c main_v13 (ix2 j ⟨256 * (t.val / 32) + e.val, by have := pt_lt t; omega⟩) := by
  blk_ext [iblk, idx t]

end Cert.KernelIdeal.Sb

end
-- ==== Proof.AttnReal.lean ====
/-
  The arithmetic of stick-breaking over the extended reals, for one query: the softplus by its two formulas, the sums over
  the keys still to come, and the weight of a key. Then the kernel's operations on one column of a block.
-/
module

public import proofs.«01_k».proof.Proof.Sweep
public import Idealize.ShloMosaic.Lib.Pipeline.ValueKit
public import Idealize.ShloMosaic.Lib.Pointwise

@[expose] public section

set_option maxRecDepth 16384

noncomputable section

namespace Cert.Sb

open Idealize.ShloMosaic
open Cert.KernelIdeal Cert.KernelIdeal.Facts₀ Cert.KernelIdeal.Facts

/-! ## The softplus -/

/-- `log (1 + exp y)`. -/
def spl (y : ℝ) : ℝ := Real.log (1 + Real.exp y)

theorem spl_nat (y : ℝ) : max y 0 + Real.log (1 + Real.exp (-|y|)) = spl y := by
  unfold spl
  rcases le_total 0 y with h | h
  · rw [max_eq_left h, abs_of_nonneg h]
    have e : 1 + Real.exp y = Real.exp y * (1 + Real.exp (-y)) := by
      rw [mul_add, mul_one, ← Real.exp_add, add_neg_cancel, Real.exp_zero, add_comm]
    rw [e, Real.log_mul (Real.exp_pos _).ne' (by positivity), Real.log_exp]
  · rw [max_eq_right h, abs_of_nonpos h, neg_neg, zero_add]

/-- The log of the complement is the log less the argument. -/
theorem spl_neg (y : ℝ) : spl (-y) = spl y - y := by
  unfold spl
  have e : 1 + Real.exp y = Real.exp y * (1 + Real.exp (-y)) := by
    rw [mul_add, mul_one, ← Real.exp_add, add_neg_cancel, Real.exp_zero, add_comm]
  rw [e, Real.log_mul (Real.exp_pos _).ne' (by positivity), Real.log_exp]
  ring

theorem log2_pos : 0 < Real.log 2 := Real.log_pos (by norm_num)

theorem rpow2 (y : ℝ) : Real.rpow 2 (y * (Real.log 2)⁻¹) = Real.exp y := by
  show (2 : ℝ) ^ (y * (Real.log 2)⁻¹) = _
  rw [Real.rpow_def_of_pos (by norm_num)]
  congr 1
  have := log2_pos.ne'
  field_simp

/-- The softplus to base two. -/
theorem spl_two (y : ℝ) :
    max (y * (Real.log 2)⁻¹) 0 + Real.log (1 + Real.rpow 2 (0 - |y * (Real.log 2)⁻¹|)) * (Real.log 2)⁻¹ = spl y * (Real.log 2)⁻¹ := by
  have hp : 0 < (Real.log 2)⁻¹ := inv_pos.2 log2_pos
  have ha : 0 - |y * (Real.log 2)⁻¹| = (-|y|) * (Real.log 2)⁻¹ := by
    rw [abs_mul, abs_of_pos hp]; ring
  have hm : max (y * (Real.log 2)⁻¹) 0 = max y 0 * (Real.log 2)⁻¹ := by
    rw [max_mul_of_nonneg _ _ hp.le, zero_mul]
  rw [ha, rpow2, hm, ← spl_nat]; ring

/-! ## The softplus of an extended real -/

/-- The factor that takes a natural logarithm to base two. -/
abbrev il2 : ℝ := (Real.log 2)⁻¹

theorem il2_pos : 0 < il2 := inv_pos.2 log2_pos

theorem il2_nonneg : (0 : EReal) ≤ ((il2 : ℝ) : EReal) := EReal.coe_nonneg.2 il2_pos.le

/-- `log (1 + exp y)`, also at the infinities. -/
def spe (y : EReal) : EReal := Ideal.log (1 + Ideal.exp y)

theorem spe_coe (y : ℝ) : spe (y : EReal) = ((spl y : ℝ) : EReal) := by
  unfold spe
  rw [Ideal.exp_coe, ← EReal.coe_one, ← EReal.coe_add, Ideal.log_coe, if_neg (not_le.2 (by positivity))]
  rfl

theorem spe_top : spe ⊤ = ⊤ := by
  unfold spe
  rw [Ideal.exp_top, ← EReal.coe_one, EReal.coe_add_top, Ideal.log_top]

theorem log_one : Ideal.log 1 = 0 := by
  rw [← EReal.coe_one, Ideal.log_coe, if_neg (not_le.2 one_pos), Real.log_one, EReal.coe_zero]

theorem spe_bot : spe ⊥ = 0 := by
  unfold spe
  rw [Ideal.exp_bot, add_zero, log_one]

theorem spe_nonneg (y : EReal) : 0 ≤ spe y := by
  induction y with
  | bot => rw [spe_bot]
  | top => rw [spe_top]; exact le_top
  | coe y =>
    rw [spe_coe]
    exact EReal.coe_nonneg.2 (Real.log_nonneg (by have := Real.exp_pos y; linarith))

theorem coe_max (a b : ℝ) : ((max a b : ℝ) : EReal) = max (a : EReal) b := EReal.coe_strictMono.monotone.map_max

/-- Its other formula. -/
theorem spe_nat (y : EReal) : max y 0 + Ideal.log (1 + Ideal.exp (-max y (-y))) = spe y := by
  induction y with
  | bot => simp [spe_bot, log_one]
  | top => simp [spe_top, log_one]
  | coe y =>
    rw [spe_coe, ← spl_nat, ← EReal.coe_neg, ← coe_max, ← EReal.coe_neg, Ideal.exp_coe, ← EReal.coe_one, ← EReal.coe_add, Ideal.log_coe,
      if_neg (not_le.2 (by positivity)), ← EReal.coe_zero, ← coe_max, ← EReal.coe_add]
    rfl

/-- The formula to base two. -/
theorem spe_two (y : EReal) :
    max (y * ((il2 : ℝ) : EReal)) 0 + Ideal.log (1 + Ideal.exp2 (0 - max (y * ((il2 : ℝ) : EReal)) (-(y * ((il2 : ℝ) : EReal))))) * ((il2 : ℝ) : EReal)
      = spe y * ((il2 : ℝ) : EReal) := by
  induction y with
  | bot => rw [EReal.bot_mul_coe_of_pos il2_pos]; simp [spe_bot, log_one]
  | top => rw [EReal.top_mul_coe_of_pos il2_pos]; simp [spe_top, log_one, EReal.top_mul_coe_of_pos il2_pos]
  | coe y =>
    have e0 : (0 : EReal) - max ((y * il2 : ℝ) : EReal) (-((y * il2 : ℝ) : EReal)) = ((0 - |y * il2| : ℝ) : EReal) := by
      rw [← EReal.coe_neg, ← coe_max, ← EReal.coe_zero, ← EReal.coe_sub]; rfl
    have e1 : (1 : EReal) + ((Real.rpow 2 (0 - |y * il2|) : ℝ) : EReal) = ((1 + Real.rpow 2 (0 - |y * il2|) : ℝ) : EReal) := by
      rw [EReal.coe_add, EReal.coe_one]
    have hp : 0 < 1 + Real.rpow 2 (0 - |y * il2|) := add_pos one_pos (Real.rpow_pos_of_pos two_pos _)
    rw [← EReal.coe_mul, e0, Ideal.exp2_coe, e1, Ideal.log_coe, if_neg (not_le.2 hp), ← EReal.coe_zero, ← coe_max, ← EReal.coe_mul, ← EReal.coe_add,
      spl_two, spe_coe, ← EReal.coe_mul]

/-- The power of two of a logarithm to base two. -/
theorem exp_two (y : EReal) : Ideal.exp2 (y * ((il2 : ℝ) : EReal)) = Ideal.exp y := by
  induction y with
  | bot => rw [EReal.bot_mul_coe_of_pos il2_pos]; rfl
  | top => rw [EReal.top_mul_coe_of_pos il2_pos]; rfl
  | coe y => rw [← EReal.coe_mul, Ideal.exp2_coe, rpow2]; rfl

theorem exp_nonneg (y : EReal) : 0 ≤ Ideal.exp y := by
  induction y with
  | bot => exact le_rfl
  | top => exact le_top
  | coe y => exact EReal.coe_nonneg.2 (Real.exp_pos y).le

theorem exp_ne_top {y : EReal} (h : y ≠ ⊤) : Ideal.exp y ≠ ⊤ := by
  induction y with
  | bot => exact EReal.zero_ne_top
  | top => exact absurd rfl h
  | coe y => exact EReal.coe_ne_top _

/-- The exponential of a sum, where the second term is not plus infinity. -/
theorem exp_add (a : EReal) {b : EReal} (hb : b ≠ ⊤) : Ideal.exp (a + b) = Ideal.exp a * Ideal.exp b := by
  induction b with
  | bot => rw [EReal.add_bot, Ideal.exp_bot, mul_zero]
  | top => exact absurd rfl hb
  | coe b =>
    induction a with
    | bot => rw [EReal.bot_add, Ideal.exp_bot, zero_mul]
    | top => rw [EReal.top_add_coe, Ideal.exp_top, Ideal.exp_coe, EReal.top_mul_coe_of_pos (Real.exp_pos b)]
    | coe a => rw [← EReal.coe_add, Ideal.exp_coe, Ideal.exp_coe, Ideal.exp_coe, Real.exp_add, EReal.coe_mul]

/-! ## The weights -/

/-- How many keys there are. -/
abbrev NK : ℕ := 16384

/-- What key `j` takes from the weight of an earlier key, at query `i`: nothing from the query on. -/
def msp (ζ : ℕ → EReal) (i j : ℕ) : EReal := if j < i then spe (ζ j) else 0

theorem msp_nonneg (ζ : ℕ → EReal) (i j : ℕ) : 0 ≤ msp ζ i j := by
  unfold msp; split_ifs
  · exact spe_nonneg _
  · exact le_rfl

/-- The sum of these from key `n` on. -/
def suf (ζ : ℕ → EReal) (i n : ℕ) : EReal := ∑ j ∈ Finset.Ico n NK, msp ζ i j

theorem nonneg_ne_bot {y : EReal} (h : 0 ≤ y) : y ≠ ⊥ := fun e => by simp [e] at h

theorem part_nonneg (ζ : ℕ → EReal) (i : ℕ) (s : Finset ℕ) : 0 ≤ ∑ j ∈ s, msp ζ i j := Finset.sum_nonneg fun _ _ => msp_nonneg _ _ _

theorem suf_nonneg (ζ : ℕ → EReal) (i n : ℕ) : 0 ≤ suf ζ i n := part_nonneg _ _ _

/-- The weight of key `j`. -/
def wgt (ζ : ℕ → EReal) (i j : ℕ) : EReal := if j < i then Ideal.exp (ζ j - suf ζ i j) else 0

theorem suf_late (ζ : ℕ → EReal) (i n : ℕ) (h : i ≤ n) : suf ζ i n = 0 :=
  Finset.sum_eq_zero fun j hj => if_neg (by have := (Finset.mem_Ico.1 hj).1; omega)

theorem suf_split (ζ : ℕ → EReal) (i : ℕ) {n m : ℕ} (h : n ≤ m) (hm : m ≤ NK) : suf ζ i n = ∑ j ∈ Finset.Ico n m, msp ζ i j + suf ζ i m :=
  (Finset.sum_Ico_consecutive _ h hm).symm

/-- Two totals are taken off a logit at once or one after the other. -/
theorem sub_sum (z : EReal) {a b : EReal} (ha : 0 ≤ a) (hb : 0 ≤ b) : z - (a + b) = z - a + -b := by
  rw [sub_eq_add_neg, EReal.neg_add (Or.inl (nonneg_ne_bot ha)) (Or.inr (nonneg_ne_bot hb)), sub_eq_add_neg, sub_eq_add_neg, add_assoc]

theorem neg_ne_top {y : EReal} (h : 0 ≤ y) : -y ≠ ⊤ := fun e => nonneg_ne_bot h (by rw [← neg_neg y, e]; rfl)

/-- The keys of a block from the `r`-th on. -/
theorem sum_block {M : Type} [AddCommMonoid M] (f : ℕ → M) (b r : ℕ) (hr : r ≤ 256) :
    ∑ t : Fin 256, (if r ≤ t.val then f (b + t.val) else 0) = ∑ j ∈ Finset.Ico (b + r) (b + 256), f j := by
  rw [Fin.sum_univ_eq_sum_range (fun t => if r ≤ t then f (b + t) else 0) 256, ← Finset.sum_filter]
  have e : (Finset.range 256).filter (fun t => r ≤ t) = Finset.Ico r 256 := by
    ext t; simp only [Finset.mem_filter, Finset.mem_range, Finset.mem_Ico]; omega
  rw [e, Finset.sum_Ico_add, add_comm r b, add_comm 256 b]

/-! ## Sums of extended reals -/

theorem coe_sum {ι : Type} (s : Finset ι) (f : ι → ℝ) : ((∑ t ∈ s, f t : ℝ) : EReal) = ∑ t ∈ s, ((f t : ℝ) : EReal) := by
  classical
  induction s using Finset.induction_on with
  | empty => simp
  | insert a s h ih => rw [Finset.sum_insert h, Finset.sum_insert h, EReal.coe_add, ih]

/-- A factor that is not negative and not infinite goes into a sum. -/
theorem sum_mul_ext {ι : Type} (s : Finset ι) (f : ι → EReal) {γ : EReal} (h : 0 ≤ γ) (ht : γ ≠ ⊤) : (∑ t ∈ s, f t) * γ = ∑ t ∈ s, f t * γ := by
  classical
  induction s using Finset.induction_on with
  | empty => simp
  | insert a s ha ih =>
    rw [Finset.sum_insert ha, Finset.sum_insert ha, ← ih]
    exact EReal.right_distrib_of_nonneg_of_ne_top h ht _ _

theorem sum_il2 {ι : Type} (s : Finset ι) (f : ι → EReal) : (∑ t ∈ s, f t) * ((il2 : ℝ) : EReal) = ∑ t ∈ s, f t * ((il2 : ℝ) : EReal) :=
  sum_mul_ext s f il2_nonneg (EReal.coe_ne_top _)

theorem add_il2 (a b : EReal) : (a + b) * ((il2 : ℝ) : EReal) = a * ((il2 : ℝ) : EReal) + b * ((il2 : ℝ) : EReal) :=
  EReal.right_distrib_of_nonneg_of_ne_top il2_nonneg (EReal.coe_ne_top _) _ _

theorem sub_il2 (a b : EReal) : (a - b) * ((il2 : ℝ) : EReal) = a * ((il2 : ℝ) : EReal) - b * ((il2 : ℝ) : EReal) := by
  rw [sub_eq_add_neg, add_il2, EReal.neg_mul, ← sub_eq_add_neg]

/-! ## The kernel's operations on one column -/

theorem spv_at (z : FVec Ideal S256x256 .f32) (r x : Fin 256) (y : EReal) (hz : z (ix2 r x) = y * ((il2 : ℝ) : EReal)) :
    spv (F := Ideal) ((il2 : ℝ) : EReal) z (ix2 r x) = spe y * ((il2 : ℝ) : EReal) := by
  pointwise [spv]
  rw [hz]
  exact spe_two y

theorem cumv_at (u : FVec Ideal S264x256 .bf16) (sp : FVec Ideal S256x256 .bf16) (r : Fin 264) (x : Fin 256) :
    cumv u sp (ix2 r x) = ∑ t : Fin 256, u (ix2 r t) * sp (ix2 t x) := by
  pointwise [cumv]

theorem av_at (z : FVec Ideal S256x256 .f32) (cum : FVec Ideal S264x256 .f32) (r x : Fin 256) :
    av z cum (ix2 r x) = Ideal.exp2 (z (ix2 r x) - cum (ix2 ⟨r.val, by omega⟩ x)) := by
  pointwise [av]
  rfl

theorem toInt_small : ∀ r : Fin 256, (BitVec.ofNat 32 r.val).toInt = r.val := by decide +kernel

theorem toInt_zero : ∀ r : Fin 256, (IntOp.addi (BitVec.ofNat 32 r.val) 0#32).toInt = r.val := by decide +kernel

theorem toInt_back : ∀ r : Fin 256, (IntOp.addi (BitVec.ofNat 32 r.val) (-256#32)).toInt = r.val - 256 := by decide +kernel

/-- A block that begins where the queries do: the keys before the query. -/
theorem maskv_zero (r x : Fin 256) (a b : EReal) : Scalar.select (maskv 0#32 (ix2 r x)) a b = if r.val < x.val then a else b := by
  pointwise [maskv]
  have e : IntOp.cmpi CmpIPredicate.slt (IntOp.addi (BitVec.ofNat 32 r.val) 0#32) (BitVec.ofNat 32 x.val) = BitVec.ofBool (decide (r.val < x.val)) := by
    show BitVec.ofBool (decide ((IntOp.addi (BitVec.ofNat 32 r.val) 0#32).toInt < (BitVec.ofNat 32 x.val).toInt)) = _
    rw [toInt_zero, toInt_small]
    simp only [Nat.cast_lt]
  rw [e]
  by_cases h : r.val < x.val <;> simp [h, Scalar.select]

/-- A block a whole block before the queries: all keys. -/
theorem maskv_all (r x : Fin 256) (a b : EReal) : Scalar.select (maskv (-256#32) (ix2 r x)) a b = a := by
  pointwise [maskv]
  have e : IntOp.cmpi CmpIPredicate.slt (IntOp.addi (BitVec.ofNat 32 r.val) (-256#32)) (BitVec.ofNat 32 x.val) = 1#1 := by
    show BitVec.ofBool (decide ((IntOp.addi (BitVec.ofNat 32 r.val) (-256#32)).toInt < (BitVec.ofNat 32 x.val).toInt)) = _
    rw [toInt_back, toInt_small, decide_eq_true (by omega)]
    rfl
  rw [e]
  simp [Scalar.select]

theorem am_at (mk : IVec S256x256 1) (z : FVec Ideal S256x256 .f32) (cum : FVec Ideal S264x256 .f32) (r x : Fin 256) :
    am mk z cum (ix2 r x) = Scalar.select (mk (ix2 r x)) (Ideal.exp2 (z (ix2 r x) - cum (ix2 ⟨r.val, by omega⟩ x))) 0 := by
  pointwise [am]
  rfl

theorem spm_at (l2e : EReal) (mk : IVec S256x256 1) (z : FVec Ideal S256x256 .f32) (r x : Fin 256) :
    spm (F := Ideal) l2e mk z (ix2 r x) = Scalar.select (mk (ix2 r x)) (spv (F := Ideal) l2e z (ix2 r x)) 0 := by
  pointwise [spm, spv]

theorem spb_at (l2e : EReal) (z : FVec Ideal S256x256 .f32) (r x : Fin 256) :
    spb (F := Ideal) l2e z (ix2 r x) = spv (F := Ideal) l2e z (ix2 r x) := by
  pointwise [spb, spv]

theorem scv_at (cy : Vec Ideal S1x256 .f32) (x : Fin 256) : scv cy (ix2 0 x) = Ideal.exp2 (0 - cy (ix2 0 x)) := by
  pointwise [scv]
  rfl

theorem cyv_at (cy : Vec Ideal S1x256 .f32) (cum : FVec Ideal S264x256 .f32) (x : Fin 256) :
    cyv cy cum (ix2 0 x) = cy (ix2 0 x) + cum (ix2 256 x) := by
  pointwise [cyv]

theorem flv_at (acc : Vec Ideal S64x256 .f32) (vt : Vec Ideal S1x1x64x256 .bf16) (a : Vec Ideal S256x256 .bf16) (sc : Vec Ideal S1x256 .f32) (d : Fin 64) (x : Fin 256) :
    flv acc vt a sc (ix2 d x) = acc (ix2 d x) + (∑ t : Fin 256, vt (ix4 0 0 d t) * a (ix2 t x)) * sc (ix2 0 x) := by
  pointwise [flv]

theorem qkv_at (ko : ℕ) (hsl : S256x256.Slices ![0, ko] S256x128) (hk : ko + 128 ≤ 256) (kt : Vec Ideal S256x256 .bf16) (q : Vec Ideal S128x256 .bf16) (r x : Fin 256) :
    qkv ko hsl kt q (ix2 r x) = ∑ e : Fin 128, kt (ix2 r ⟨ko + e.val, by omega⟩) * q (ix2 e x) := by
  pointwise [qkv]

/-- An extended real less itself is nought or minus infinity. -/
theorem rest_cases (y : EReal) : y - y = 0 ∨ y - y = ⊥ := by
  induction y with
  | bot => exact Or.inr rfl
  | top => exact Or.inr rfl
  | coe y => exact Or.inl (by rw [← EReal.coe_sub, sub_self, EReal.coe_zero])

theorem rest_rest (y : EReal) : y - y - (y - y) = y - y := by
  rcases rest_cases y with h | h <;> rw [h]
  · simp
  · rfl

/-- The bias in three pieces: the whole of it, and twice what is left. -/
theorem augv_at (l2e b : EReal) (e : Fin 64) (x : Fin 512) :
    augv (F := Ideal) l2e b (ix2 e x) = if e.val = 0 then b * l2e else if e.val = 1 ∨ e.val = 2 then b * l2e - b * l2e else 0 := by
  pointwise [augv]
  have c (n : ℕ) (hn : n < 64) : IntOp.cmpi CmpIPredicate.eq (BitVec.ofNat 32 e.val) (BitVec.ofNat 32 n) = BitVec.ofBool (decide (e.val = n)) := by
    have : ∀ (e n : Fin 64), IntOp.cmpi CmpIPredicate.eq (BitVec.ofNat 32 e.val) (BitVec.ofNat 32 n.val) = BitVec.ofBool (decide (e.val = n.val)) := by decide +kernel
    exact this e ⟨n, hn⟩
  rw [c 0 (by omega), c 1 (by omega), c 2 (by omega), rest_rest]
  by_cases h : e.val = 0
  · simp [h, Scalar.select]
  · by_cases h1 : e.val = 1 <;> by_cases h2 : e.val = 2 <;> simp [h, h1, h2, Scalar.select]

theorem qsv_at (sl : EReal) (q : Vec Ideal S64x512 .f32) (e : Fin 64) (x : Fin 512) : qsv (F := Ideal) sl q (ix2 e x) = q (ix2 e x) * sl := by
  pointwise [qsv]

end Cert.Sb

end
-- ==== Proof.AttnCell.lean ====
/-
  What a chunk's cell holds in one query's column between two blocks: the total of the keys met, the weights of the
  last block before the later keys' factor, and the values of the blocks before that one, weighted. Each program of a
  block keeps this.
-/
module

public import proofs.«01_k».proof.Proof.AttnReal

@[expose] public section

set_option maxRecDepth 16384

noncomputable section

namespace Cert.Sb

open Idealize.ShloMosaic
open Cert.KernelIdeal Cert.KernelIdeal.Facts₀ Cert.KernelIdeal.Facts

/-- The matrix of the suffix sums: row `r` takes the keys from `r` on, the rows from 256 take all. -/
def IsSuf (u : FVec Ideal S264x256 .bf16) : Prop :=
  ∀ (r : Fin 264) (t : Fin 256), u (ix2 r t) = if r.val ≤ t.val ∨ 256 ≤ r.val then (1 : EReal) else 0

variable (ζ : ℕ → EReal) (i : ℕ) (v : Fin 64 → ℕ → EReal) (x : Fin 256)

/-- The blocks from `n` on have met their values. -/
structure Met (n : ℕ) (c : Cell Ideal) : Prop where
  cy : c.cy (ix2 0 x) = suf ζ i (256 * n) * ((il2 : ℝ) : EReal)
  acc : ∀ d, c.acc (ix2 d x) = ∑ j ∈ Finset.Ico (256 * n) NK, v d j * wgt ζ i j

/-- The blocks after `n` have, and block `n`'s weights are held. -/
structure Held (n : ℕ) (c : Cell Ideal) : Prop where
  cy : c.cy (ix2 0 x) = suf ζ i (256 * n) * ((il2 : ℝ) : EReal)
  acc : ∀ d, c.acc (ix2 d x) = ∑ j ∈ Finset.Ico (256 * n + 256) NK, v d j * wgt ζ i j
  sc : 0 ≤ c.sc (ix2 0 x) ∧ c.sc (ix2 0 x) ≠ ⊤
  a : ∀ t : Fin 256, c.a (ix2 t x) * c.sc (ix2 0 x) = wgt ζ i (256 * n + t.val)

variable {ζ i v x}

/-- The held weights meet their values. -/
theorem Held.flush {n : ℕ} {c : Cell Ideal} (h : Held ζ i v x n c) (hn : n < 64) (vt : Vec Ideal S1x1x64x256 .bf16)
    (hv : ∀ d t, vt (ix4 0 0 d t) = v d (256 * n + t.val)) : Met ζ i v x n (flC vt c) := by
  refine ⟨h.cy, fun d => ?_⟩
  show flv c.acc vt c.a c.sc (ix2 d x) = _
  rw [flv_at, h.acc, sum_mul_ext _ _ h.sc.1 h.sc.2, ← Finset.sum_Ico_consecutive _ (show 256 * n ≤ 256 * n + 256 by omega) (show 256 * n + 256 ≤ NK by unfold NK; omega),
    add_comm]
  congr 1
  have hb := sum_block (fun j => v d j * wgt ζ i j) (256 * n) 0 (by omega)
  simp only [Nat.zero_le, if_true, Nat.add_zero] at hb
  rw [← hb]
  refine Finset.sum_congr rfl fun t _ => ?_
  rw [hv, mul_assoc, h.a t]

/-- The suffix sums of a block's entries. -/
theorem cum_sum (u : FVec Ideal S264x256 .bf16) (hu : IsSuf u) (sp : FVec Ideal S256x256 .bf16) (n : ℕ) (x : Fin 256)
    (hs : ∀ t : Fin 256, sp (ix2 t x) = msp ζ i (256 * n + t.val) * ((il2 : ℝ) : EReal)) (r : Fin 264) (s : ℕ) (hr : s ≤ 256)
    (h : ∀ t : Fin 256, (r.val ≤ t.val ∨ 256 ≤ r.val) ↔ s ≤ t.val) :
    cumv u sp (ix2 r x) = (∑ j ∈ Finset.Ico (256 * n + s) (256 * n + 256), msp ζ i j) * ((il2 : ℝ) : EReal) := by
  rw [cumv_at, ← sum_block _ _ _ hr, sum_il2]
  refine Finset.sum_congr rfl fun t _ => ?_
  rw [hu r t, hs t]
  by_cases c : s ≤ t.val
  · rw [if_pos ((h t).2 c), if_pos c, one_mul]
  · rw [if_neg (fun e => c ((h t).1 e)), if_neg c, zero_mul, zero_mul]

/-- A block's weights, factor and total. -/
theorem Met.put {n : ℕ} {c : Cell Ideal} (h : Met ζ i v x (n + 1) c) (hn : n < 64) (u : FVec Ideal S264x256 .bf16) (hu : IsSuf u)
    (sp : FVec Ideal S256x256 .bf16) (a : FVec Ideal S256x256 .bf16)
    (hs : ∀ t : Fin 256, sp (ix2 t x) = msp ζ i (256 * n + t.val) * ((il2 : ℝ) : EReal))
    (ha : ∀ t : Fin 256, a (ix2 t x) = if 256 * n + t.val < i then
      Ideal.exp2 (ζ (256 * n + t.val) * ((il2 : ℝ) : EReal) - cumv u sp (ix2 ⟨t.val, by omega⟩ x)) else 0) :
    Held ζ i v x n (putC a (cumv u sp) c) := by
  have hN : 256 * n + 256 ≤ NK := by unfold NK; omega
  have e : 256 * (n + 1) = 256 * n + 256 := by ring
  obtain ⟨hc, hacc⟩ := h
  rw [e] at hc
  rw [e] at hacc
  have hsc : (putC a (cumv u sp) c).sc (ix2 0 x) = Ideal.exp (-suf ζ i (256 * n + 256)) := by
    show scv c.cy (ix2 0 x) = _
    rw [scv_at, hc, zero_sub, ← EReal.neg_mul, exp_two]
  have hneg := suf_nonneg ζ i (256 * n + 256)
  refine ⟨?_, hacc, ?_, fun t => ?_⟩
  · show cyv c.cy (cumv u sp) (ix2 0 x) = _
    rw [cyv_at, hc, cum_sum u hu sp n x hs 256 0 (by omega) (fun t => by simp), suf_split ζ i (show 256 * n ≤ 256 * n + 256 by omega) hN, add_il2,
      add_comm]
    rfl
  · rw [hsc]
    exact ⟨exp_nonneg _, exp_ne_top (neg_ne_top hneg)⟩
  · rw [hsc]
    show a (ix2 t x) * _ = _
    rw [ha]
    unfold wgt
    split_ifs
    · rw [cum_sum u hu sp n x hs ⟨t.val, by omega⟩ t.val (by omega) (fun s => by dsimp only; omega), ← sub_il2, exp_two,
        ← exp_add _ (neg_ne_top hneg), suf_split ζ i (show 256 * n + t.val ≤ 256 * n + 256 by omega) hN, sub_sum _ (part_nonneg _ _ _) hneg]
    · rw [zero_mul]

/-- The logits of block `n` in the column. -/
def IsLogits (ζ : ℕ → EReal) (x : Fin 256) (n : ℕ) (z : FVec Ideal S256x256 .f32) : Prop :=
  ∀ t : Fin 256, z (ix2 t x) = ζ (256 * n + t.val) * ((il2 : ℝ) : EReal)

/-- A block on the diagonal, -/
theorem Met.wm {n : ℕ} {c : Cell Ideal} (h : Met ζ i v x (n + 1) c) (hn : n < 64) (u : FVec Ideal S264x256 .bf16) (hu : IsSuf u)
    (mk : IVec S256x256 1) (z : FVec Ideal S256x256 .f32) (hz : IsLogits ζ x n z)
    (hm : ∀ (t : Fin 256) (a b : EReal), Scalar.select (mk (ix2 t x)) a b = if 256 * n + t.val < i then a else b) :
    Held ζ i v x n (wmC (F := Ideal) ((il2 : ℝ) : EReal) u mk z c) := by
  refine h.put hn u hu _ _ (fun t => ?_) (fun t => ?_)
  · rw [spm_at, hm, spv_at z t x _ (hz t)]
    unfold msp
    split_ifs
    · rfl
    · rw [zero_mul]
  · rw [am_at, hm, hz t]

/-- and before it. -/
theorem Met.wt {n : ℕ} {c : Cell Ideal} (h : Met ζ i v x (n + 1) c) (hn : n < 64) (u : FVec Ideal S264x256 .bf16) (hu : IsSuf u)
    (z : FVec Ideal S256x256 .f32) (hz : IsLogits ζ x n z) (hi : 256 * n + 256 ≤ i) :
    Held ζ i v x n (wtC (F := Ideal) ((il2 : ℝ) : EReal) u z c) := by
  refine h.put hn u hu _ _ (fun t => ?_) (fun t => ?_)
  · rw [spb_at, spv_at z t x _ (hz t)]
    unfold msp
    rw [if_pos (by omega)]
  · rw [av_at, hz t, if_pos (by omega)]

/-- Nothing has been met yet. -/
theorem met_zero (n : ℕ) (h : i ≤ 256 * n) : Met ζ i v x n (zeroC (F := Ideal)) := by
  refine ⟨?_, fun d => ?_⟩
  · rw [suf_late ζ i _ h, zero_mul]
    show Ideal.ofBits .f32 0x00000000#32 = _
    rw [Ideal.ofBits_zero_f32]
  · rw [Finset.sum_eq_zero fun j hj => ?_]
    · show Ideal.ofBits .f32 0x00000000#32 = _
      rw [Ideal.ofBits_zero_f32]
    · have := (Finset.mem_Ico.1 hj).1
      unfold wgt
      rw [if_neg (by omega), mul_zero]

end Cert.Sb

end
-- ==== Proof.AttnSweep.lean ====
/-
  One chunk's sweep over the blocks of keys, in one query's column: the values of all keys, weighted.
-/
module

public import proofs.«01_k».proof.Proof.AttnCell

@[expose] public section

set_option maxRecDepth 16384

noncomputable section

namespace Cert.Sb

open Idealize.ShloMosaic
open Cert.KernelIdeal Cert.KernelIdeal.Facts₀ Cert.KernelIdeal.Facts

/-- The offset of block `b` of the keys, -/
abbrev kO (b : ℕ) : Fin 2 → ℕ := ![256 * b, 0]
/-- and of block `b` of a head's values. -/
abbrev vO (h b : ℕ) : Fin 4 → ℕ := ![h, b, 0, 0]

/-- The offsets and masks of query tile `q`. -/
structure Tab.Is (T : Tab) (q : ℕ) : Prop where
  k2 : T.k2.1 = kO (2 * q - 1)
  k31 : T.k31.1 = kO (2 * q + 1)
  k30 : T.k30.1 = kO (2 * q)
  v4 : T.v4.1 = vO 0 (2 * q + 1)
  v5 : T.v5.1 = vO 1 (2 * q + 1)
  m1 : T.m1 = 0#32
  m0 : T.m0 = 0#32
  m0' : T.m0' = -256#32
  odd : (q % 2 = 0 ∧ T.odd = none) ∨ (q % 2 = 1 ∧ ∃ k v v', T.odd = some (k, v, v')
    ∧ ∀ r : Fin 2, (k r).1 = kO (2 * q - 1 - r.val - 1) ∧ (v r).1 = vO 0 (2 * q - r.val) ∧ (v' r).1 = vO 1 (2 * q - r.val))
  n1 : T.n1 = q / 2
  k1 : ∀ n r, (T.k1 n r).1 = kO (4 * (q / 2 - n.val) - 1 - r.val - 1)
  v1 : ∀ n r, (T.v1 n r).1 = vO 0 (4 * (q / 2 - n.val) - r.val)
  w1 : ∀ n r, (T.w1 n r).1 = vO 1 (4 * (q / 2 - n.val) - r.val)
  n2 : T.n2 = 0
  z0 : T.z0.1 = vO 0 0
  z1 : T.z1.1 = vO 1 0

variable {ζ : ℕ → EReal} {i : ℕ} {v : Fin 64 → ℕ → EReal} {x : Fin 256}

/-- Between two blocks: block `n`'s weights are held, and the next block's logits are had. -/
def Ready (ζ : ℕ → EReal) (i : ℕ) (v : Fin 64 → ℕ → EReal) (x : Fin 256) (n : ℕ) (p : Pc Ideal) : Prop := Held ζ i v x n p.1 ∧ IsLogits ζ x (n - 1) p.2

/-- The values of block `b`. -/
def IsVals (v : Fin 64 → ℕ → EReal) (b : ℕ) (vt : Vec Ideal S1x1x64x256 .bf16) : Prop := ∀ (d : Fin 64) (t : Fin 256), vt (ix4 0 0 d t) = v d (256 * b + t.val)

variable (u : FVec Ideal S264x256 .bf16) (hu : IsSuf u)

include hu in
theorem Ready.step {n : ℕ} {p : Pc Ideal} (h : Ready ζ i v x (n + 1) p) (hn : n + 1 < 64) (hi : 256 * n + 256 ≤ i)
    {vt : Vec Ideal S1x1x64x256 .bf16} (hv : IsVals v (n + 1) vt) {z : FVec Ideal S256x256 .f32} (hz : IsLogits ζ x (n - 1) z) :
    Ready ζ i v x n (stepC (F := Ideal) ((il2 : ℝ) : EReal) u vt z p) :=
  ⟨(h.1.flush hn vt hv).wt (by omega) u hu p.2 h.2 hi, hz⟩

variable {zf : KO → FVec Ideal S256x256 .f32} {vf : VO → Vec Ideal S1x1x64x256 .bf16} {hd : ℕ}
  (hz : ∀ (k : KO) (b : ℕ), b < 64 → k.1 = kO b → IsLogits ζ x b (zf k)) (hv : ∀ (w : VO) (b : ℕ), b < 64 → w.1 = vO hd b → IsVals v b (vf w))

include hu hz hv in
/-- Four blocks. -/
theorem Ready.quad {n : ℕ} {p : Pc Ideal} (h : Ready ζ i v x (4 * (n + 1)) p) (hn : 4 * (n + 1) < 64) (hi : 256 * (4 * (n + 1)) ≤ i)
    (k : Fin 4 → KO) (w : Fin 4 → VO) (hk : ∀ r, (k r).1 = kO (4 * (n + 1) - 1 - r.val - 1)) (hw : ∀ r, (w r).1 = vO hd (4 * (n + 1) - r.val)) :
    Ready ζ i v x (4 * n) (quadC (F := Ideal) ((il2 : ℝ) : EReal) u zf vf k w p) := by
  have h0 : Ready ζ i v x (4 * n + 3) _ := Ready.step u hu (n := 4 * n + 3) h (by omega) (by omega) (hv (w 0) (4 * n + 3 + 1) (by omega) (hw 0)) (hz (k 0) (4 * n + 3 - 1) (by omega) (hk 0))
  have h1 : Ready ζ i v x (4 * n + 2) _ := Ready.step u hu (n := 4 * n + 2) h0 (by omega) (by omega) (hv (w 1) (4 * n + 2 + 1) (by omega) (hw 1)) (hz (k 1) (4 * n + 2 - 1) (by omega) (hk 1))
  have h2 : Ready ζ i v x (4 * n + 1) _ := Ready.step u hu (n := 4 * n + 1) h1 (by omega) (by omega) (hv (w 2) (4 * n + 1 + 1) (by omega) (hw 2)) (hz (k 2) (4 * n + 1 - 1) (by omega) (hk 2))
  have hk3 : (k 3).1 = kO (4 * n - 1) := by
    rw [hk 3]; congr 2
  exact Ready.step u hu (n := 4 * n) h2 (by omega) (by omega) (hv (w 3) (4 * n + 1) (by omega) (hw 3)) (hz (k 3) (4 * n - 1) (by omega) hk3)

include hu hz hv in
/-- The loop. -/
theorem Ready.loop {q : ℕ} (hq : q < 32) {p : Pc Ideal} (h : Ready ζ i v x (4 * (q / 2)) p) (hi : 512 * q ≤ i) {N : ℕ} (hN : N = q / 2)
    (k : Fin N → Fin 4 → KO) (w : Fin N → Fin 4 → VO) (hk : ∀ n r, (k n r).1 = kO (4 * (q / 2 - n.val) - 1 - r.val - 1))
    (hw : ∀ n r, (w n r).1 = vO hd (4 * (q / 2 - n.val) - r.val)) (n : ℕ) (hn : n ≤ N) :
    Ready ζ i v x (4 * (q / 2 - n)) (loopC (F := Ideal) ((il2 : ℝ) : EReal) u zf vf k w p n) := by
  induction n with
  | zero => exact h
  | succ n ih =>
    have hn' : n < N := hn
    rw [loopC, dif_pos hn']
    have e : q / 2 - n = (q / 2 - (n + 1)) + 1 := by omega
    have ih' := ih (by omega)
    rw [e] at ih'
    refine Ready.quad u hu hz hv ih' (by omega) (by omega) _ _ (fun r => ?_) (fun r => ?_)
    · rw [hk]; dsimp only; rw [e]
    · rw [hw]; dsimp only; rw [e]

theorem loopC_none {N : ℕ} (k : Fin N → Fin 4 → KO) (w : Fin N → Fin 4 → VO) (p : Pc Ideal) {n : ℕ} (h : n = 0) :
    loopC (F := Ideal) ((il2 : ℝ) : EReal) u zf vf k w p n = p := by subst h; rfl

theorem vsel_off {w w' : VO} {b : ℕ} (h : w.1 = vO 0 b) (h' : w'.1 = vO 1 b) (c : Fin 4) : (vsel w w' c).1 = vO (c.val / 2) b := by
  unfold vsel
  split_ifs with hc
  · rw [h, show c.val / 2 = 0 by omega]
  · rw [h', show c.val / 2 = 1 by omega]

include hu hz hv in
/-- The blocks on the diagonal. -/
theorem head_held {T : Tab} {q : ℕ} (hT : T.Is q) (hq : q < 32) (c : Fin 4) (hd' : hd = c.val / 2) (hi : i = 512 * q + 256 * (c.val % 2) + x.val) :
    Held ζ i v x (2 * q) (headC T (F := Ideal) ((il2 : ℝ) : EReal) u zf vf c) := by
  have hx : x.val < 256 := x.isLt
  subst hd'
  unfold headC
  rw [hT.m0', hT.m1, hT.m0]
  split_ifs with hc
  · have h0 : Met ζ i v x (2 * q + 1 + 1) (zeroC (F := Ideal)) := met_zero _ (by omega)
    have h1 := h0.wm (by omega) u hu (maskv 0#32) (zf T.k31) (hz _ _ (by omega) hT.k31) (fun t a b => by
      rw [maskv_zero]; simp only [show (256 * (2 * q + 1) + t.val < i) = (t.val < x.val) from propext (by omega)])
    have h2 := h1.flush (by omega) (vf (vsel T.v4 T.v5 c)) (hv _ _ (by omega) (vsel_off hT.v4 hT.v5 c))
    exact h2.wm (by omega) u hu (maskv (-256#32)) (zf T.k30) (hz _ _ (by omega) hT.k30) (fun t a b => by
      rw [maskv_all, if_pos (by omega)])
  · have h0 : Met ζ i v x (2 * q + 1) (zeroC (F := Ideal)) := met_zero _ (by omega)
    exact h0.wm (by omega) u hu (maskv 0#32) (zf T.k30) (hz _ _ (by omega) hT.k30) (fun t a b => by
      rw [maskv_zero]; simp only [show (256 * (2 * q) + t.val < i) = (t.val < x.val) from propext (by omega)])

include hu hz hv in
/-- The chunk's result: the values of all keys, weighted. -/
theorem resC_at {T : Tab} {q : ℕ} (hT : T.Is q) (hq : q < 32) (c : Fin 4) (hd' : hd = c.val / 2) (hi : i = 512 * q + 256 * (c.val % 2) + x.val) (d : Fin 64) :
    resC T (F := Ideal) ((il2 : ℝ) : EReal) u zf vf c (ix2 d x) = ∑ j ∈ Finset.range NK, v d j * wgt ζ i j := by
  have hh : Ready ζ i v x (2 * q) (headC T (F := Ideal) ((il2 : ℝ) : EReal) u zf vf c, zf T.k2) :=
    ⟨head_held u hu hz hv hT hq c hd' hi, hz _ _ (by omega) hT.k2⟩
  have ho : Ready ζ i v x (4 * (q / 2)) (oddC (F := Ideal) ((il2 : ℝ) : EReal) u zf vf (headC T (F := Ideal) ((il2 : ℝ) : EReal) u zf vf c, zf T.k2) c T.odd) := by
    rcases hT.odd with ⟨h, e⟩ | ⟨h, k, w, w', e, hk⟩
    · rw [e]
      rw [show 4 * (q / 2) = 2 * q by omega]
      exact hh
    · rw [e]
      show Ready ζ i v x _ (stepC (F := Ideal) _ u (vf (vsel (w 1) (w' 1) c)) (zf (k 1)) (stepC (F := Ideal) _ u (vf (vsel (w 0) (w' 0) c)) (zf (k 0)) _))
      obtain ⟨m, rfl⟩ : ∃ m, q = 2 * m + 1 := ⟨q / 2, by omega⟩
      have e0 : 2 * (2 * m + 1) = 4 * m + 1 + 1 := by ring
      rw [e0] at hh
      rw [show (2 * m + 1) / 2 = m by omega]
      subst hd'
      have h0 := Ready.step u hu hh (by omega) (by omega) (hv (vsel (w 0) (w' 0) c) (4 * m + 1 + 1) (by omega) (vsel_off (by rw [(hk 0).2.1, e0]; rfl) (by rw [(hk 0).2.2, e0]; rfl) c))
        (hz (k 0) (4 * m + 1 - 1) (by omega) (by rw [(hk 0).1, e0]; rfl))
      exact Ready.step u hu h0 (by omega) (by omega) (hv (vsel (w 1) (w' 1) c) (4 * m + 1) (by omega) (vsel_off (by rw [(hk 1).2.1, e0]; rfl) (by rw [(hk 1).2.2, e0]; rfl) c))
        (hz (k 1) (4 * m - 1) (by omega) (by rw [(hk 1).1, e0]; rfl))
  subst hd'
  have hl := Ready.loop u hu hz hv hq ho (by omega) hT.n1 T.k1 (fun n r => vsel (T.v1 n r) (T.w1 n r) c) hT.k1 (fun n r => vsel_off (hT.v1 n r) (hT.w1 n r) c) T.n1 le_rfl
  rw [show 4 * (q / 2 - T.n1) = 0 by have := hT.n1; omega] at hl
  have hf := hl.1.flush (by omega) (vf (vsel T.z0 T.z1 c)) (hv _ 0 (by omega) (vsel_off hT.z0 hT.z1 c))
  have hr := hf.acc d
  rw [Nat.mul_zero, ← Finset.range_eq_Ico] at hr
  unfold resC
  rw [loopC_none u _ _ _ hT.n2]
  exact hr

end Cert.Sb

end
-- ==== Proof.AttnTab.lean ====
/-
  The offsets and masks of a grid point, in closed form.
-/
module

public import proofs.«01_k».proof.Proof.AttnSweep
public import proofs.«01_k».proof.Proof.Region

@[expose] public section

set_option maxRecDepth 16384

noncomputable section

namespace Cert.KernelIdeal.Sb

open Idealize.ShloMosaic Idealize.ShloMosaic.TcCoe
open Cert.Sb Cert.KernelIdeal Cert.KernelIdeal.Gen

/-- A grid point's query tile. -/
theorem coords_q : ∀ t : Fin grid0.N, (grid0.coords t 1).val = t.val % 32 := by decide +kernel

theorem off2 : ∀ t : Fin grid0.N, k0_off2 (grid0.coords t) = kO (2 * (t.val % 32) - 1) := by decide +kernel
theorem off3_1 : ∀ t : Fin grid0.N, k0_off3 (grid0.coords t) 1#32 = kO (2 * (t.val % 32) + 1) := by decide +kernel
theorem off3_0 : ∀ t : Fin grid0.N, k0_off3 (grid0.coords t) 0#32 = kO (2 * (t.val % 32)) := by decide +kernel
theorem off4 : ∀ t : Fin grid0.N, k0_off4 (grid0.coords t) = vO 0 (2 * (t.val % 32) + 1) := by decide +kernel
theorem off5 : ∀ t : Fin grid0.N, k0_off5 (grid0.coords t) = vO 1 (2 * (t.val % 32) + 1) := by decide +kernel
theorem msk : ∀ t : Fin grid0.N, qm (grid0.coords t) 1#32 256#32 = 0#32 ∧ qm (grid0.coords t) 0#32 0#32 = 0#32 ∧ qm (grid0.coords t) 0#32 256#32 = -256#32 := by
  decide +kernel
theorem cond1 : ∀ t : Fin grid0.N, k0_cond1 (grid0.coords t) = 1#1 ↔ t.val % 32 % 2 = 1 := by decide +kernel
theorem off6 : ∀ t : Fin grid0.N, t.val % 32 % 2 = 1 → ∀ r : Fin 2, k0_off6 (grid0.coords t) (BitVec.ofNat 32 (1 + r.val)) = kO (2 * (t.val % 32) - 1 - r.val - 1) := by decide +kernel
theorem off7 : ∀ t : Fin grid0.N, t.val % 32 % 2 = 1 → ∀ r : Fin 2, k0_off7 (grid0.coords t) (BitVec.ofNat 32 (1 + r.val)) = vO 0 (2 * (t.val % 32) - r.val) := by decide +kernel
theorem off8 : ∀ t : Fin grid0.N, t.val % 32 % 2 = 1 → ∀ r : Fin 2, k0_off8 (grid0.coords t) (BitVec.ofNat 32 (1 + r.val)) = vO 1 (2 * (t.val % 32) - r.val) := by decide +kernel
theorem trips1 : ∀ t : Fin grid0.N, (k0_t1_loop (grid0.coords t)).trips = t.val % 32 / 2 := by decide +kernel
theorem trips2 : ∀ t : Fin grid0.N, (k0_t2_loop (grid0.coords t)).trips = 0 := by decide +kernel
theorem off9 : ∀ t : Fin grid0.N, ∀ (n : Fin (k0_t1_loop (grid0.coords t)).trips) (r : Fin 4),
    k0_off9 (grid0.coords t) n (BitVec.ofNat 32 r.val) = kO (4 * (t.val % 32 / 2 - n.val) - 1 - r.val - 1) := by decide +kernel
theorem off10 : ∀ t : Fin grid0.N, ∀ (n : Fin (k0_t1_loop (grid0.coords t)).trips) (r : Fin 4),
    k0_off10 (grid0.coords t) n (BitVec.ofNat 32 r.val) = vO 0 (4 * (t.val % 32 / 2 - n.val) - r.val) := by decide +kernel
theorem off11 : ∀ t : Fin grid0.N, ∀ (n : Fin (k0_t1_loop (grid0.coords t)).trips) (r : Fin 4),
    k0_off11 (grid0.coords t) n (BitVec.ofNat 32 r.val) = vO 1 (4 * (t.val % 32 / 2 - n.val) - r.val) := by decide +kernel
theorem off1 : ∀ t : Fin grid0.N, k0_off1 (grid0.coords t) 0#32 = ![2 * (t.val / 32)] ∧ k0_off1 (grid0.coords t) 1#32 = ![2 * (t.val / 32) + 1] := by decide +kernel

/-- The grid point's offsets are those of its query tile. -/
theorem tab_is (t : Fin grid0.N) : (tab (grid0.coords t)).Is (t.val % 32) where
  k2 := off2 t
  k31 := off3_1 t
  k30 := off3_0 t
  v4 := off4 t
  v5 := off5 t
  m1 := (msk t).1
  m0 := (msk t).2.1
  m0' := (msk t).2.2
  odd := by
    by_cases h : k0_cond1 (grid0.coords t) = 1#1
    · have h' := (cond1 t).1 h
      exact .inr ⟨h', _, _, _, dif_pos h, fun r => ⟨off6 t h' r, off7 t h' r, off8 t h' r⟩⟩
    · exact .inl ⟨by have := mt (cond1 t).2 h; omega, dif_neg h⟩
  n1 := trips1 t
  k1 := off9 t
  v1 := off10 t
  w1 := off11 t
  n2 := trips2 t
  z0 := rfl
  z1 := rfl

end Cert.KernelIdeal.Sb

end
-- ==== Proof.AttnLogits.lean ====
/-
  The logits a chunk of the kernel's queries has against a block of keys: the scaled products of a query with the
  keys, and the head's bias.
-/
module

public import proofs.«01_k».proof.Proof.AttnBlk
public import proofs.«01_k».proof.Proof.AttnTab

@[expose] public section

set_option maxRecDepth 16384

noncomputable section

namespace Cert.Sb

open Idealize.ShloMosaic
open Cert.KernelIdeal Cert.KernelIdeal.Facts₀ Cert.KernelIdeal.Facts

/-! ## The augmented queries -/

theorem qa_hit {α : Type} (r o : ℕ) (h : ∀ a, (![r, o] : Fin 2 → ℕ) a + S64x512.size a ≤ S128x1024.size a) (X : S128x1024.Idx → α)
    (w : S64x512.Idx → α) (J : S128x1024.Idx) (e : Fin 64) (x : Fin 512) (h0 : (J 0).val = r + e.val) (h1 : (J 1).val = o + x.val) :
    (rQa r o h).overlay X w J = w (ix2 e x) := by
  have : J = (rQa r o h).emb (ix2 e x) := by
    funext a
    apply Fin.ext
    rw [Rect.emb_apply]
    fin_cases a
    · simpa using h0
    · simpa using h1
  rw [this]
  exact Rect.overlay_emb _ _ _ _

theorem qa_miss {α : Type} (r o : ℕ) (h : ∀ a, (![r, o] : Fin 2 → ℕ) a + S64x512.size a ≤ S128x1024.size a) (X : S128x1024.Idx → α)
    (w : S64x512.Idx → α) (J : S128x1024.Idx)
    (hm : (J 0).val < r ∨ r + 64 ≤ (J 0).val ∨ (J 1).val < o ∨ o + 512 ≤ (J 1).val) : (rQa r o h).overlay X w J = X J := by
  refine Rect.overlay_of_not_mem _ _ _ fun hj => ?_
  have a0 := (Rect.mem_set_unit.1 hj) 0
  have a1 := (Rect.mem_set_unit.1 hj) 1
  have b0 : r ≤ (J 0).val ∧ (J 0).val < r + 64 := a0
  have b1 : o ≤ (J 1).val ∧ (J 1).val < o + 512 := a1
  omega

variable (s : St Ideal) (l2e sl : Ideal .f32) (b0 b1 : { f : Fin 1 → ℕ // ∀ a, f a + S1.size a ≤ S16.size a })

theorem qa_eq : (initS l2e sl s b0 b1).qa = (rQa 64 512 inb_S128x1024_S64x512_64_512).overlay ((rQa 0 512 inb_S128x1024_S64x512_0_512).overlay
    ((rQa 64 0 inb_S128x1024_S64x512_64_0).overlay ((rQa 0 0 inb_S128x1024_S64x512_0_0).overlay s.qa
    (qsv sl (gQt s 0 inb_S128x512_S64x512_0_0))) (augv l2e (gB s b0)))
    (qsv sl (gQt s 64 inb_S128x512_S64x512_64_0))) (augv l2e (gB s b1)) := rfl

theorem gQt_at (r : ℕ) (hr : ∀ a, (![r, 0] : Fin 2 → ℕ) a + S64x512.size a ≤ S128x512.size a) (hr' : r + 64 ≤ 128) (e : Fin 64) (x : Fin 512) :
    gQt s r hr (ix2 e x) = s.qt (ix2 ⟨r + e.val, by omega⟩ x) := by
  unfold gQt
  congr 1
  funext a
  apply Fin.ext
  rw [Rect.emb_apply]
  fin_cases a <;> simp

theorem rQ_emb (i : Fin 4) (e : Fin 128) (x : Fin 256) :
    (((rQ (chs i)).emb (ix2 e x)) 0).val = e.val ∧ (((rQ (chs i)).emb (ix2 e x)) 1).val = 256 * i.val + x.val := by
  have := chs_o i
  constructor <;> rw [Rect.emb_apply] <;> simp [this]

/-- The upper rows hold the scaled queries, -/
theorem gQ_lo (i : Fin 4) (e : Fin 64) (x : Fin 256) :
    gQ (initS l2e sl s b0 b1) (chs i) (ix2 ⟨e.val, by omega⟩ x)
      = s.qt (ix2 ⟨64 * (i.val / 2) + e.val, by omega⟩ ⟨256 * (i.val % 2) + x.val, by omega⟩) * sl := by
  unfold gQ
  rw [qa_eq]
  obtain ⟨h0, h1⟩ := rQ_emb i ⟨e.val, by omega⟩ x
  generalize (rQ (chs i)).emb _ = J at *
  dsimp only at h0
  rw [qa_miss _ _ _ _ _ _ (by omega)]
  by_cases hi : i.val / 2 = 0
  · rw [qa_miss _ _ _ _ _ _ (by omega), qa_miss _ _ _ _ _ _ (by omega),
      qa_hit _ _ _ _ _ _ e ⟨256 * (i.val % 2) + x.val, by omega⟩ (by omega) (by dsimp only; omega), qsv_at, gQt_at _ _ _ (by omega)]
    simp only [hi]
  · have hi' : i.val / 2 = 1 := by omega
    rw [qa_hit _ _ _ _ _ _ e ⟨256 * (i.val % 2) + x.val, by omega⟩ (by omega) (by dsimp only; omega), qsv_at, gQt_at _ _ _ (by omega)]
    simp only [hi']

/-- the lower the bias's pieces. -/
theorem gQ_hi (i : Fin 4) (b : EReal) (hb0 : i.val / 2 = 0 → gB s b0 = b) (hb1 : i.val / 2 = 1 → gB s b1 = b)
    (e : Fin 64) (x : Fin 256) :
    gQ (initS l2e sl s b0 b1) (chs i) (ix2 ⟨64 + e.val, by omega⟩ x)
      = if e.val = 0 then b * l2e else if e.val = 1 ∨ e.val = 2 then b * l2e - b * l2e else 0 := by
  unfold gQ
  rw [qa_eq]
  obtain ⟨h0, h1⟩ := rQ_emb i ⟨64 + e.val, by omega⟩ x
  generalize (rQ (chs i)).emb _ = J at *
  dsimp only at h0
  by_cases hi : i.val / 2 = 0
  · rw [qa_miss _ _ _ _ _ _ (by omega), qa_miss _ _ _ _ _ _ (by omega),
      qa_hit _ _ _ _ _ _ e ⟨256 * (i.val % 2) + x.val, by omega⟩ (by omega) (by dsimp only; omega), hb0 hi]
    exact augv_at _ _ _ _
  · have hi' : i.val / 2 = 1 := by omega
    rw [qa_hit _ _ _ _ _ _ e ⟨256 * (i.val % 2) + x.val, by omega⟩ (by omega) (by dsimp only; omega), hb1 hi']
    exact augv_at _ _ _ _

/-- The bias read. -/
theorem gB_at (b : { f : Fin 1 → ℕ // ∀ a, f a + S1.size a ≤ S16.size a }) (n : Fin 16) (h : b.1 = ![n.val]) : gB s b = s.bias (ix1 n) := by
  obtain ⟨f, hf⟩ := b
  dsimp only at h
  subst h
  unfold gB
  congr 1
  generalize Shape.Idx.first _ = y
  funext a
  apply Fin.ext
  rw [Rect.emb_apply]
  fin_cases a
  have hy : (y 0).val < 1 := (y 0).isLt
  show n.val + 1 * (y 0).val = n.val
  omega

/-- The keys read. -/
theorem gK_at (k : KO) (b : ℕ) (hb : b < 64) (h : k.1 = kO b) (r c : Fin 256) : gK s k (ix2 r c) = s.ky (ix2 ⟨256 * b + r.val, by omega⟩ c) := by
  obtain ⟨f, hf⟩ := k
  dsimp only at h
  subst h
  unfold gK
  congr 1
  funext a
  apply Fin.ext
  rw [Rect.emb_apply]
  fin_cases a <;> simp [kO]

/-- The values read. -/
theorem gV_at (v : VO) (h b : ℕ) (hh : h < 2) (hb : b < 64) (e : v.1 = vO h b) (d : Fin 64) (t : Fin 256) :
    gV s v (ix4 0 0 d t) = s.vt (ix4 ⟨h, hh⟩ ⟨b, hb⟩ d t) := by
  obtain ⟨f, hf⟩ := v
  dsimp only at e
  subst e
  unfold gV
  congr 1
  funext a
  apply Fin.ext
  rw [Rect.emb_apply]
  fin_cases a <;> simp [vO]

/-! ## The logits -/

/-- The logit of query `i` against key `j` in head `h`, of bias `b`. -/
def zeta (q k : S16384x16x64.Idx → EReal) (b : EReal) (h : Fin 16) (i : Fin 16384) (j : ℕ) : EReal :=
  if hj : j < 16384 then (∑ e : Fin 64, q (ix3 i h e) * k (ix3 ⟨j, hj⟩ h e)) * ((1 / 8 : ℝ) : EReal) + b else 0

/-- A bias put together again from its three pieces: an infinite one has become minus infinity. -/
def whole (b : EReal) : EReal := b + (b - b) + (b - b)

theorem whole_coe (b : ℝ) : whole (b : EReal) = b := by
  unfold whole
  rw [← EReal.coe_sub, sub_self, EReal.coe_zero, add_zero, add_zero]

theorem whole_top : whole ⊤ = ⊥ := rfl

theorem whole_bot : whole ⊥ = ⊥ := rfl

/-- A key whose logit is infinite has no weight. -/
theorem wgt_inf (ζ : ℕ → EReal) (i j : ℕ) (hi : i ≤ NK) (h : j < i → ζ j = ⊥ ∨ ζ j = ⊤) : wgt ζ i j = 0 := by
  unfold wgt
  split_ifs with hj
  · rcases h hj with e | e
    · rw [e, sub_eq_add_neg, EReal.bot_add, Ideal.exp_bot]
    · have hs : suf ζ i j = ⊤ := by
        refine top_le_iff.1 ?_
        have h1 : msp ζ i j ≤ suf ζ i j := Finset.single_le_sum (fun n _ => msp_nonneg ζ i n) (Finset.mem_Ico.2 ⟨le_rfl, by omega⟩)
        have h2 : msp ζ i j = ⊤ := by
          unfold msp
          rw [if_pos hj, e, spe_top]
        exact h2 ▸ h1
      rw [e, hs]
      rfl
  · rfl

/-- The pieces weigh the keys as the bias itself does, an infinite one too. -/
theorem wgt_whole (q k : S16384x16x64.Idx → EReal) (b : EReal) (h : Fin 16) (i : Fin 16384) (j : ℕ) :
    wgt (zeta q k (whole b) h i) i.val j = wgt (zeta q k b h i) i.val j := by
  have hi : i.val ≤ NK := i.isLt.le
  have hl : wgt (zeta q k ⊥ h i) i.val j = 0 := wgt_inf _ _ _ hi fun hj => Or.inl (by
    unfold zeta
    rw [dif_pos (by omega), EReal.add_bot])
  induction b with
  | bot => rw [whole_bot]
  | coe b => rw [whole_coe]
  | top =>
    rw [whole_top, hl, wgt_inf _ _ _ hi fun hj => ?_]
    unfold zeta
    rw [dif_pos (by omega)]
    generalize (∑ e : Fin 64, q (ix3 i h e) * k (ix3 ⟨j, _⟩ h e)) * ((1 / 8 : ℝ) : EReal) = y
    by_cases hy : y = ⊥
    · exact Or.inl (by rw [hy, EReal.bot_add])
    · exact Or.inr (EReal.add_top_of_ne_bot hy)

/-- A sum of which all but the first three terms are nought. -/
theorem sum_three (f : Fin 64 → EReal) (h : ∀ e : Fin 64, 3 ≤ e.val → f e = 0) : ∑ e, f e = f 0 + f 1 + f 2 := by
  rw [Fin.sum_univ_succ, Fin.sum_univ_succ, Fin.sum_univ_succ, Finset.sum_eq_zero fun e _ => h _ (by simp [Fin.val_succ]), add_zero, ← add_assoc]
  rfl

/-- A product of 128 rows is that of the 64 rows, and the bias's pieces. -/
theorem dot_aug (a : Fin 128 → EReal) (w : Fin 128 → EReal) (kr qr : Fin 64 → EReal) (b : EReal)
    (ha : ∀ e : Fin 64, a ⟨e.val, by omega⟩ = kr e) (h0 : a ⟨64, by omega⟩ = 1) (h1 : a ⟨65, by omega⟩ = 1) (h2 : a ⟨66, by omega⟩ = 1)
    (hw : ∀ e : Fin 64, w ⟨e.val, by omega⟩ = qr e * (((1 / 8) * il2 : ℝ) : EReal))
    (hw1 : ∀ e : Fin 64, w ⟨64 + e.val, by omega⟩ = if e.val = 0 then b * ((il2 : ℝ) : EReal)
      else if e.val = 1 ∨ e.val = 2 then b * ((il2 : ℝ) : EReal) - b * ((il2 : ℝ) : EReal) else 0) :
    ∑ e, a e * w e = ((∑ e, qr e * kr e) * ((1 / 8 : ℝ) : EReal) + whole b) * ((il2 : ℝ) : EReal) := by
  rw [show ∑ e, a e * w e = ∑ e : Fin (64 + 64), a e * w e from rfl, Fin.sum_univ_add]
  have e1 : ∀ e : Fin 64, a (Fin.castAdd 64 e) * w (Fin.castAdd 64 e) = qr e * kr e * ((1 / 8 : ℝ) : EReal) * ((il2 : ℝ) : EReal) := fun e => by
    rw [show Fin.castAdd 64 e = (⟨e.val, by omega⟩ : Fin 128) from rfl, ha, hw, EReal.coe_mul, ← mul_assoc, ← mul_assoc, mul_comm (kr e)]
  have e2 : ∑ e : Fin 64, a (Fin.natAdd 64 e) * w (Fin.natAdd 64 e) = whole b * ((il2 : ℝ) : EReal) := by
    have hf (e : Fin 64) : w (Fin.natAdd 64 e) = _ := hw1 e
    rw [sum_three _ fun e he => by rw [hf, if_neg (by omega), if_neg (by omega), mul_zero], hf, hf, hf]
    have a0 : a (Fin.natAdd 64 (0 : Fin 64)) = 1 := h0
    have a1 : a (Fin.natAdd 64 (1 : Fin 64)) = 1 := h1
    have a2 : a (Fin.natAdd 64 (2 : Fin 64)) = 1 := h2
    rw [a0, a1, a2, one_mul, one_mul, one_mul]
    unfold whole
    rw [add_il2, add_il2, sub_il2]
    rfl
  rw [Finset.sum_congr rfl fun e _ => e1 e, e2, add_il2, sum_mul_ext _ _ (EReal.coe_nonneg.2 (by norm_num)) (EReal.coe_ne_top _), sum_il2]

end Cert.Sb

end
-- ==== Proof.AttnOut.lean ====
/-
  The block the attention kernel's body leaves: the values of all keys before each query, weighted.
-/
module

public import proofs.«01_k».proof.Proof.AttnLogits
public import proofs.«01_k».proof.Proof.AttnSweep
public import Idealize.ShloMosaic.PureOps.IdealRules

@[expose] public section

set_option maxRecDepth 16384

noncomputable section

namespace Cert.Sb

open Idealize.ShloMosaic

/-- Coordinate `d` of value `j` in head `h`, -/
def val (v : Cert.KernelIdeal.S16384x16x64.Idx → EReal) (h : Fin 16) (d : Fin 64) (j : ℕ) : EReal :=
  if hj : j < 16384 then v (ix3 ⟨j, hj⟩ h d) else 0

/-- and the attention's result at query `i`. -/
def attn (q k v : Cert.KernelIdeal.S16384x16x64.Idx → EReal) (β : Cert.KernelIdeal.S16.Idx → EReal) (h : Fin 16) (d : Fin 64) (i : Fin 16384) : EReal :=
  ∑ j ∈ Finset.range NK, val v h d j * wgt (zeta q k (β (ix1 h)) h i) i.val j

end Cert.Sb

namespace Cert.KernelIdeal.Sb

open Idealize.ShloMosaic Idealize.ShloMosaic.TcCoe
open Cert.KernelIdeal Cert.KernelIdeal.Gen Cert.Sb

theorem l2e_eq : (l2e : Ideal .f32) = ((il2 : ℝ) : EReal) := IdealRules.named_const.ideal_named_scalar _ _ _ _ rfl

theorem sl2e_eq : (sl2e : Ideal .f32) = (((1 / 8) * il2 : ℝ) : EReal) := IdealRules.named_const.ideal_named_scalar _ _ _ _ rfl

variable (m : (ℓ : Loc nD τ sig) → Buf (Elt Ideal) ℓ) (c : Dev nD) (t : Fin cfg0.N)

theorem suf_is : IsSuf (uv (st₀ m c t)) := fun r e => by
  rw [← ent6 m c r e, ← blk4 m c t r e]
  unfold uv gUt
  pointwise
  show iblk m c 4 t _ = _
  congr 1
  funext a
  apply Fin.ext
  rw [Rect.emb_apply]
  fin_cases a <;> simp

theorem vals_is (w : VO) (h : Fin 2) (b : ℕ) (hb : b < 64) (e : w.1 = vO h.val b) :
    IsVals (val (m ((c : Thread nD τ).loc main_arg2)) ⟨2 * (t.val / 32) + h.val, by have := pt_lt t; omega⟩) b (gV (st₀ m c t) w) := fun d r => by
  rw [gV_at _ _ h.val b h.isLt hb e]
  unfold val
  rw [dif_pos (by omega)]
  exact blk3 m c t h ⟨b, hb⟩ d r

theorem keys_at (k : KO) (b : ℕ) (hb : b < 64) (h : k.1 = kO b) (r : Fin 256) (p : Fin 2) (e : Fin 128) :
    gK (st₀ m c t) k (ix2 r ⟨128 * p.val + e.val, by omega⟩)
      = kcat (m ((c : Thread nD τ).loc main_arg1)) (ix3 ⟨256 * b + r.val, by omega⟩ ⟨2 * (t.val / 32) + p.val, by have := pt_lt t; omega⟩ e) := by
  rw [gK_at _ k b hb h, ← kflat_at, ← ent13_eq m c]
  refine (blk2 m c t _ _).trans ?_
  congr 2
  apply Fin.ext
  dsimp only
  ring

theorem logits_is (i : Fin 4) (x : Fin 256) (k : KO) (b : ℕ) (hb : b < 64) (h : k.1 = kO b) :
    IsLogits (zeta (m ((c : Thread nD τ).loc main_arg0)) (m ((c : Thread nD τ).loc main_arg1))
        (whole (m ((c : Thread nD τ).loc main_arg3) (ix1 ⟨2 * (t.val / 32) + i.val / 2, by have := pt_lt t; omega⟩)))
        ⟨2 * (t.val / 32) + i.val / 2, by have := pt_lt t; omega⟩ ⟨512 * (t.val % 32) + 256 * (i.val % 2) + x.val, by omega⟩) x b
      (zq (initS l2e sl2e (st₀ m c t) (tab (grid0.coords t)).b0 (tab (grid0.coords t)).b1) k i) := fun r => by
  have hko := chs_ko i
  have ht := pt_lt t
  unfold zq
  rw [qkv_at _ _ (by omega)]
  have hg : gK (initS l2e sl2e (st₀ m c t) (tab (grid0.coords t)).b0 (tab (grid0.coords t)).b1) k = gK (st₀ m c t) k := rfl
  rw [hg, l2e_eq, sl2e_eq]
  unfold zeta
  rw [dif_pos (show 256 * b + r.val < 16384 by omega)]
  have hK (e : Fin 128) : gK (st₀ m c t) k (ix2 r ⟨(chs i).ko + e.val, by omega⟩)
      = kcat (m ((c : Thread nD τ).loc main_arg1)) (ix3 ⟨256 * b + r.val, by omega⟩ ⟨2 * (t.val / 32) + i.val / 2, by omega⟩ e) := by
    rw [← keys_at m c t k b hb h r ⟨i.val / 2, by omega⟩ e]
    congr 2
    apply Fin.ext
    dsimp only
    omega
  refine (dot_aug (fun e => gK (st₀ m c t) k (ix2 r ⟨(chs i).ko + e.val, by omega⟩)) _ _ _ _ (fun e => ?_) ?_ ?_ ?_ (fun e => ?_) fun e => ?_)
  · exact (hK _).trans (kcat_lo _ _ _ _)
  · exact (hK _).trans (kcat_one _ _ _)
  · exact (hK _).trans (kcat_two _ _ _)
  · exact (hK _).trans (kcat_three _ _ _)
  · rw [gQ_lo]
    congr 1
    refine (blk1 m c t _ _).trans ?_
    have h1 : (64 * (i.val / 2) + e.val) / 64 = i.val / 2 := by omega
    have h2 : (64 * (i.val / 2) + e.val) % 64 = e.val := by omega
    simp only [h1, h2, add_assoc]
  · rw [gQ_hi _ _ _ _ _ i (m ((c : Thread nD τ).loc main_arg3) (ix1 ⟨2 * (t.val / 32) + i.val / 2, by omega⟩)) ?_ ?_ e x]
    · intro h0
      rw [gB_at _ _ ⟨2 * (t.val / 32), by omega⟩ (off1 t).1]
      refine (blk0 m c t _).trans ?_
      simp only [h0, add_zero]
    · intro h0
      rw [gB_at _ _ ⟨2 * (t.val / 32) + 1, by omega⟩ (off1 t).2]
      refine (blk0 m c t _).trans ?_
      simp only [h0]

/-- What the body leaves at a grid point. -/
theorem out_at (i : Fin 4) (d : Fin 64) (x : Fin 256) :
    outAt m c t (ix2 ⟨64 * (i.val / 2) + d.val, by omega⟩ ⟨256 * (i.val % 2) + x.val, by omega⟩)
      = attn (m ((c : Thread nD τ).loc main_arg0)) (m ((c : Thread nD τ).loc main_arg1)) (m ((c : Thread nD τ).loc main_arg2))
          (m ((c : Thread nD τ).loc main_arg3)) ⟨2 * (t.val / 32) + i.val / 2, by have := pt_lt t; omega⟩ d
          ⟨512 * (t.val % 32) + 256 * (i.val % 2) + x.val, by omega⟩ := by
  have hr := congrFun (body_res (tab (grid0.coords t)) (l2e : Ideal .f32) sl2e (st₀ m c t) i) (ix2 d x)
  have hr' : outAt m c t ((rAcc (chs i)).emb (ix2 d x)) = _ := hr
  rw [show (ix2 ⟨64 * (i.val / 2) + d.val, by omega⟩ ⟨256 * (i.val % 2) + x.val, by omega⟩ : S128x512.Idx) = (rAcc (chs i)).emb (ix2 d x) from ?_, hr']
  · have hz := fun (k : KO) b (hb : b < 64) (e : k.1 = kO b) => logits_is m c t i x k b hb e
    rw [l2e_eq] at *
    refine (resC_at (hd := i.val / 2)
      (v := val (m ((c : Thread nD τ).loc main_arg2)) ⟨2 * (t.val / 32) + i.val / 2, by have := pt_lt t; omega⟩)
      (ζ := zeta (m ((c : Thread nD τ).loc main_arg0)) (m ((c : Thread nD τ).loc main_arg1))
        (whole (m ((c : Thread nD τ).loc main_arg3) (ix1 ⟨2 * (t.val / 32) + i.val / 2, by have := pt_lt t; omega⟩)))
        ⟨2 * (t.val / 32) + i.val / 2, by have := pt_lt t; omega⟩ ⟨512 * (t.val % 32) + 256 * (i.val % 2) + x.val, by omega⟩) _ (suf_is m c t) (fun k b hb e => hz k b hb e)
      (fun w b hb e => vals_is m c t w ⟨i.val / 2, by omega⟩ b hb e) (tab_is t) (by omega) i rfl rfl d).trans ?_
    exact Finset.sum_congr rfl fun j _ => congrArg _ (wgt_whole _ _ _ _ _ _)
  · funext a
    apply Fin.ext
    rw [Rect.emb_apply]
    have h1 := chs_r i
    have h2 := chs_co i
    fin_cases a
    · simp [h1]
    · simp [h2]

end Cert.KernelIdeal.Sb

end
-- ==== Proof.AttnValue.lean ====
/-
  The array the attention kernel ends with.
-/
module

public import proofs.«01_k».proof.Proof.AttnOut

@[expose] public section

set_option maxRecDepth 16384

noncomputable section

namespace Cert.KernelIdeal.Sb

open Idealize.ShloMosaic Idealize.ShloMosaic.TcCoe Idealize.SL.Sem
open Cert.KernelIdeal Cert.KernelIdeal.Gen Cert.Sb

variable (m : (ℓ : Loc nD τ sig) → Buf (Elt Ideal) ℓ) (ρ : Dev nD → PrngReg) (c : Dev nD)

/-- The attention's result, all heads: row `64 h + d` is coordinate `d` of head `h`. -/
def G (q k v : S16384x16x64.Idx → EReal) (β : S16.Idx → EReal) : S1024x16384.Idx → EReal := fun j =>
  attn q k v β ⟨(j 0).val / 64, by have : (j 0).val < 1024 := (j 0).isLt; omega⟩ ⟨(j 0).val % 64, by omega⟩ ⟨(j 1).val, (j 1).isLt⟩

theorem out_row (t : Fin cfg0.N) (r : Fin 128) (x : Fin 512) :
    outAt m c t (ix2 r x)
      = G (m ((c : Thread nD τ).loc main_arg0)) (m ((c : Thread nD τ).loc main_arg1)) (m ((c : Thread nD τ).loc main_arg2))
          (m ((c : Thread nD τ).loc main_arg3)) (ix2 ⟨128 * (t.val / 32) + r.val, by have := pt_lt t; omega⟩ ⟨512 * (t.val % 32) + x.val, by omega⟩) := by
  have ht := pt_lt t
  have key := out_at m c t ⟨2 * (r.val / 64) + x.val / 256, by omega⟩ ⟨r.val % 64, by omega⟩ ⟨x.val % 256, by omega⟩
  dsimp only at key
  have e1 : 64 * ((2 * (r.val / 64) + x.val / 256) / 2) + r.val % 64 = r.val := by omega
  have e2 : 256 * ((2 * (r.val / 64) + x.val / 256) % 2) + x.val % 256 = x.val := by omega
  have e3 : 2 * (t.val / 32) + (2 * (r.val / 64) + x.val / 256) / 2 = (128 * (t.val / 32) + r.val) / 64 := by omega
  have e4 : r.val % 64 = (128 * (t.val / 32) + r.val) % 64 := by omega
  have e5 : 512 * (t.val % 32) + 256 * ((2 * (r.val / 64) + x.val / 256) % 2) + x.val % 256 = 512 * (t.val % 32) + x.val := by omega
  simp only [e1, e2, e3, e5] at key
  refine key.trans ?_
  show attn _ _ _ _ _ _ _ = attn _ _ _ _ _ _ _
  congr 1
  exact Fin.ext e4

theorem arr_eq : (dats m 0 c).arrAt 5 (cfgs 0).N
      = G (m ((c : Thread nD τ).loc main_arg0)) (m ((c : Thread nD τ).loc main_arg1)) (m ((c : Thread nD τ).loc main_arg2))
          (m ((c : Thread nD τ).loc main_arg3)) := by
  refine (dats m 0 c).arrAt_eq_of_covers 5 _ (by decide +kernel) fun t hf y => ?_
  blk_simp
  rw [after0_5]
  obtain ⟨r, x, rfl⟩ : ∃ (r : Fin 128) (x : Fin 512), y = ix2 r x := ⟨y 0, y 1, eq_ix2 y⟩
  refine (out_row m c t r x).trans ?_
  congr 1
  funext a
  apply Fin.ext
  blk_simp
  simp only [idx t]
  match a with
  | ⟨0, _⟩ => exact congrArg (· + r.val) (Nat.mul_comm _ _)
  | ⟨1, _⟩ => exact congrArg (· + x.val) (Nat.mul_comm _ _)

/-- The kernel's run. -/
theorem run : θ_run defs (onTc (τ := τ) (main (F := Ideal))) ⟨m, fun _ => 0, ρ⟩ (fun r => ∀ c : Dev nD,
      r.2.mem ((c.tc : Thread nD τ).loc main_v17)
        = G (m ((c : Thread nD τ).loc main_arg0)) (m ((c : Thread nD τ).loc main_arg1)) (m ((c : Thread nD τ).loc main_arg2))
          (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr.1 c).1 5).trans (arr_eq m c), hr.2 c⟩)
    (θ_run_and (run_arrays m ρ) (frame_of m ρ (dats m) (A_eq m) (run_arrays m ρ)))

end Cert.KernelIdeal.Sb

end
-- ==== Proof.AttnCum.lean ====
/-
  The sum over a window that reaches from each place to the axis's end.
-/
module

public import proofs.«01_k».proof.Proof.AttnReal

@[expose] public section

noncomputable section

namespace Cert.Sb

open Idealize.ShloMosaic

/-- Terms added from the left. -/
theorem foldl_sum {ι : Type} (l : List ι) (g : EReal → ι → EReal) (f : ι → EReal) (hg : ∀ r n, g r n = r + f n) (a : EReal) :
    l.foldl g a = a + (l.map f).sum := by
  induction l generalizing a with
  | nil => simp
  | cons n l ih => rw [List.foldl_cons, hg, ih, List.map_cons, List.sum_cons, add_assoc]

/-- The terms from `j` on, by their distance from `j`. -/
theorem sum_from (N j : ℕ) (f : ℕ → EReal) : (∑ n ∈ Finset.range N, if j + n < N then f (j + n) else 0) = ∑ n ∈ Finset.Ico j N, f n := by
  rw [Finset.sum_Ico_eq_sum_range]
  symm
  rw [← Finset.sum_filter]
  refine Finset.sum_congr ?_ fun _ _ => rfl
  ext n
  simp only [Finset.mem_range, Finset.mem_filter]
  omega

theorem numel_row (N : ℕ) : (⟨3, ![1, 1, N]⟩ : Shape).numel = N := by
  show ∏ a : Fin 3, (![1, 1, N] : Fin 3 → ℕ) a = N
  rw [Fin.prod_univ_three]
  show 1 * 1 * N = N
  omega

theorem symm_row {N : ℕ} (n : Fin (⟨3, ![1, 1, N]⟩ : Shape).numel) :
    (⟨3, ![1, 1, N]⟩ : Shape).rowMajor.symm n = ix3 (0 : Fin 1) (0 : Fin 1) (n.cast (numel_row N)) :=
  ((⟨3, ![1, 1, N]⟩ : Shape).rowMajor.symm_apply_eq).2 (Fin.ext (by
    rw [Shape.rowMajor_val_three]
    show n.val = (0 * 1 + 0) * N + n.val
    omega))

/-- The sums from each key on. -/
theorem rev_cum {A B N M : ℕ} (hN : M + 1 = N) (x : FVec Ideal ⟨3, ![A, B, N]⟩ .f32) (init : FVec Ideal ⟨0, ![]⟩ .f32) (hi : ∀ y, init y = (0 : EReal))
    (hw : (⟨3, ![A, B, N]⟩ : Shape).ReduceWindows (![1, 1, N] : Fin 3 → ℕ) ![1, 1, 1] ![0, 0, 0] ![0, 0, M] ⟨3, ![A, B, N]⟩)
    (hu : 0 < (⟨0, ![]⟩ : Shape).numel) (h : Fin A) (i : Fin B) (j : Fin N) (f : ℕ → EReal) (hx : ∀ n : Fin N, x (ix3 h i n) = f n.val) :
    Host.reduceWindowAdd (F := Ideal) ![1, 1, N] ![1, 1, 1] ![0, 0, 0] ![0, 0, M] x init hw hu (ix3 h i j)
      = ∑ n ∈ Finset.Ico j.val N, f n := by
  unfold Host.reduceWindowAdd
  rw [hi]
  show Ideal.hostReduceWindowAdd _ _ _ _ _ _ _ _ = _
  unfold Ideal.hostReduceWindowAdd Host.reduceWindow
  refine (foldl_sum _ _ (fun n => if j.val + n.val < N then f (j.val + n.val) else 0) (fun r n => ?_) 0).trans ?_
  · have h0 : ((⟨3, ![1, 1, N]⟩ : Shape).rowMajor.symm n 0).val = 0 := by rw [symm_row]; rfl
    have h1 : ((⟨3, ![1, 1, N]⟩ : Shape).rowMajor.symm n 1).val = 0 := by rw [symm_row]; rfl
    have h2 : ((⟨3, ![1, 1, N]⟩ : Shape).rowMajor.symm n 2).val = n.val := by rw [symm_row]; rfl
    have hh := h.isLt
    have hii := i.isLt
    dsimp only
    congr 1
    split
    · next hin =>
      have b := hin 2
      change 0 ≤ j.val * 1 + ((⟨3, ![1, 1, N]⟩ : Shape).rowMajor.symm n 2).val
        ∧ j.val * 1 + ((⟨3, ![1, 1, N]⟩ : Shape).rowMajor.symm n 2).val - 0 < N at b
      rw [h2] at b
      rw [if_pos (by omega)]
      refine (congrArg x (funext fun a => Fin.ext ?_)).trans (hx ⟨j.val + n.val, by omega⟩)
      match a with
      | ⟨0, _⟩ =>
        show h.val * 1 + ((⟨3, ![1, 1, N]⟩ : Shape).rowMajor.symm n 0).val - 0 = h.val
        rw [h0]; omega
      | ⟨1, _⟩ =>
        show i.val * 1 + ((⟨3, ![1, 1, N]⟩ : Shape).rowMajor.symm n 1).val - 0 = i.val
        rw [h1]; omega
      | ⟨2, _⟩ =>
        show j.val * 1 + ((⟨3, ![1, 1, N]⟩ : Shape).rowMajor.symm n 2).val - 0 = j.val + n.val
        rw [h2]; omega
    · next hin =>
      rw [if_neg fun hlt => hin fun a => by
        match a with
        | ⟨0, _⟩ =>
          show 0 ≤ h.val * 1 + ((⟨3, ![1, 1, N]⟩ : Shape).rowMajor.symm n 0).val ∧ h.val * 1 + ((⟨3, ![1, 1, N]⟩ : Shape).rowMajor.symm n 0).val - 0 < A
          rw [h0]; omega
        | ⟨1, _⟩ =>
          show 0 ≤ i.val * 1 + ((⟨3, ![1, 1, N]⟩ : Shape).rowMajor.symm n 1).val ∧ i.val * 1 + ((⟨3, ![1, 1, N]⟩ : Shape).rowMajor.symm n 1).val - 0 < B
          rw [h1]; omega
        | ⟨2, _⟩ =>
          show 0 ≤ j.val * 1 + ((⟨3, ![1, 1, N]⟩ : Shape).rowMajor.symm n 2).val ∧ j.val * 1 + ((⟨3, ![1, 1, N]⟩ : Shape).rowMajor.symm n 2).val - 0 < N
          rw [h2]; omega]
  · congr 1
    rw [zero_add, ← Fin.sum_univ_def, Fin.sum_univ_eq_sum_range (fun n => if j.val + n < N then f (j.val + n) else 0), ← sum_from]
    congr 2
    exact numel_row N

end Cert.Sb

end
-- ==== Proof.AttnRef.lean ====
/-
  The reference's attention, read at an index: the same sum of weighted values.
-/
module

public import proofs.«01_k».proof.Proof.AttnValue
public import proofs.«01_k».proof.Proof.AttnCum
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Sb

open Idealize.ShloMosaic Idealize.ShloMosaic.TcCoe
open Cert.ReferenceIdeal Cert.ReferenceIdeal.Gen Cert.Sb

/-! ## The reference's steps -/

/-- An array of noughts. -/
def nought : FVec Ideal S16x16384x16384 .f32 := broadcastInDim S16x16384x16384 ![] bcast_S_S16x16384x16384 (constant S_ .f32 0x00000000#32)

/-- The logits. -/
def zr (q k : FVec Ideal S16384x16x64 .f32) (β : FVec Ideal S16 .f32) : FVec Ideal S16x16384x16384 .f32 :=
  addf (mulf (Host.dotGeneral dot_S16384x16x64_S16384x16x64_S16x16384x16384_2_2_0_0_1_1 none q k)
      (broadcastInDim S16x16384x16384 ![] bcast_S_S16x16384x16384 (constant S_ .f32 0x3E000000#32)))
    (broadcastInDim S16x16384x16384 ![0, 1, 2] bcast_S16x1x1_S16x16384x16384_0_1_2 (broadcastInDim S16x1x1 ![0] bcast_S16_S16x1x1_0 β))

/-- The keys before each query. -/
def mkr : IVec S16x16384x16384 1 :=
  broadcastInDim S16x16384x16384 ![1, 2] bcast_S16384x16384_S16x16384x16384_1_2
    (cmpi .slt (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))

/-- The log of the sigmoid. -/
def lsr (y : FVec Ideal S16x16384x16384 .f32) : FVec Ideal S16x16384x16384 .f32 :=
  Host.negf (select (cmpf .une (subf (Host.negf y) nought) (subf (Host.negf y) nought)) (addf (Host.negf y) nought)
    (addf (maximumf (Host.negf y) nought) (Host.log1p (Host.exp (Host.negf (Host.absf (subf (Host.negf y) nought)))))))

/-- The logs of the complements, at the keys before the query. -/
def sr (z : FVec Ideal S16x16384x16384 .f32) : FVec Ideal S16x16384x16384 .f32 := select mkr (lsr (Host.negf z)) nought

/-- The sums from each key on. -/
def cr (s : FVec Ideal S16x16384x16384 .f32) : FVec Ideal S16x16384x16384 .f32 :=
  Host.reduceWindowAdd ![1, 1, 16384] ![1, 1, 1] ![0, 0, 0] ![0, 0, 16383] s (broadcastInDim S_ ![] bcast_S_S_ (constant S_ .f32 0x00000000#32))
    reduceWindows_S16x16384x16384_S16x16384x16384_w1s1p0_0_w1s1p0_0_w16384s1p0_16383 h_S_

/-- The weights. -/
def ar (z : FVec Ideal S16x16384x16384 .f32) : FVec Ideal S16x16384x16384 .f32 :=
  select mkr (Host.exp (addf (lsr z) (subf (cr (sr z)) (sr z)))) nought

/-- The weighted values, heads first. -/
def or (v : FVec Ideal S16384x16x64 .f32) (a : FVec Ideal S16x16384x16384 .f32) : FVec Ideal S16x64x16384 .f32 :=
  Host.dotGeneral dot_S16384x16x64_S16x16384x16384_S16x64x16384_0_2_2_1_1_0 none v a

theorem res_eq (m : (ℓ : Loc nD τ sig) → Buf (Elt Ideal) ℓ) (c : Dev nD) :
    Value.res_main_v22 m c = shapeCast S1024x16384 (or (m ((c.tc : Thread nD τ).loc main_arg2))
      (ar (zr (m ((c.tc : Thread nD τ).loc main_arg0)) (m ((c.tc : Thread nD τ).loc main_arg1)) (m ((c.tc : Thread nD τ).loc main_arg3)))))
      shapeCasts_S16x64x16384_S1024x16384 := rfl

/-! ## The steps at an index -/

variable (h : Fin 16) (i j : Fin 16384)

theorem nought_at : nought (ix3 h i j) = (0 : EReal) := by
  pointwise [nought]

theorem toInt_key (n : Fin 16384) : (BitVec.ofNat 32 n.val).toInt = n.val := by
  have e : (BitVec.ofNat 32 n.val).toNat = n.val := by rw [BitVec.toNat_ofNat]; exact Nat.mod_eq_of_lt (by omega)
  rw [BitVec.toInt_eq_toNat_of_lt (by rw [e]; omega), e]

theorem pick (P : Prop) [Decidable P] (a b : EReal) : Scalar.select (BitVec.ofBool (decide P)) a b = if P then a else b := by
  by_cases h : P <;> simp [h, Scalar.select]

theorem mkr_at : mkr (ix3 h i j) = BitVec.ofBool (decide (j.val < i.val)) := by
  pointwise [mkr]
  show BitVec.ofBool (decide ((BitVec.ofNat 32 j.val).toInt < (BitVec.ofNat 32 i.val).toInt)) = _
  rw [toInt_key, toInt_key]
  simp only [Nat.cast_lt]

theorem zr_at (q k : FVec Ideal S16384x16x64 .f32) (β : FVec Ideal S16 .f32) : zr q k β (ix3 h i j) = zeta q k (β (ix1 h)) h i j.val := by
  pointwise [zr]
  have e8 : Ideal.ofBits FTy.f32 1040187392#32 = ((1 / 8 : ℝ) : EReal) := by
    simp [Ideal.ofBits, Ideal.ieee]
    rw [← EReal.coe_mul]
    norm_num
  unfold zeta
  rw [e8, dif_pos j.isLt]

theorem lsr_at (y : FVec Ideal S16x16384x16384 .f32) (ζ : EReal) (hy : y (ix3 h i j) = ζ) : lsr y (ix3 h i j) = -spe (-ζ) := by
  pointwise [lsr]
  rw [nought_at, hy, if_neg (not_not.2 rfl), sub_zero, Ideal.absf_def, ← spe_nat]
  rfl

theorem or_at (v : FVec Ideal S16384x16x64 .f32) (a : FVec Ideal S16x16384x16384 .f32) (d : Fin 64) :
    or v a (ix3 h d i) = ∑ j : Fin 16384, v (ix3 j h d) * a (ix3 h i j) := by
  pointwise [or]

theorem cast_at (x : FVec Ideal S16x64x16384 .f32) (d : Fin 64) :
    shapeCast S1024x16384 x shapeCasts_S16x64x16384_S1024x16384 (ix2 ⟨64 * h.val + d.val, by omega⟩ i) = x (ix3 h d i) := by
  pointwise

theorem sr_at (z : FVec Ideal S16x16384x16384 .f32) (ζ : ℕ → EReal) (hz : ∀ j : Fin 16384, z (ix3 h i j) = ζ j.val) :
    sr z (ix3 h i j) = -msp ζ i.val j.val := by
  pointwise [sr]
  rw [mkr_at, nought_at, lsr_at (ζ := -ζ j.val)]
  · rw [pick, neg_neg]
    unfold msp
    split_ifs
    · rfl
    · simp
  · show -(z (ix3 h i j)) = _
    rw [hz]

theorem cr_at (s : FVec Ideal S16x16384x16384 .f32) (f : ℕ → EReal) (hs : ∀ j : Fin 16384, s (ix3 h i j) = f j.val) :
    cr s (ix3 h i j) = ∑ n ∈ Finset.Ico j.val NK, f n := by
  unfold cr
  refine rev_cum (by norm_num) s _ (fun y => ?_) _ _ h i j f hs
  pointwise

/-- The terms' negatives add up to the sum's. -/
theorem neg_msp (ζ : ℕ → EReal) (i : ℕ) (s : Finset ℕ) : ∑ n ∈ s, -msp ζ i n = -∑ n ∈ s, msp ζ i n := by
  classical
  induction s using Finset.induction_on with
  | empty => simp
  | insert a s ha ih =>
    rw [Finset.sum_insert ha, Finset.sum_insert ha, ih, EReal.neg_add (Or.inl (nonneg_ne_bot (msp_nonneg _ _ _))) (Or.inr (nonneg_ne_bot (part_nonneg _ _ _))),
      sub_eq_add_neg]

/-- The reference's exponent is the logit less all from its key on, at the infinities too. -/
theorem exponent (z r : EReal) (hr : 0 ≤ r) : -spe (-z) + (-(spe z + r) - -spe z) = z - (spe z + r) := by
  induction z with
  | bot => rw [EReal.neg_bot, spe_top, EReal.neg_top, EReal.bot_add, sub_eq_add_neg, EReal.bot_add]
  | top => rw [EReal.neg_top, spe_bot, spe_top, EReal.top_add_of_ne_bot (nonneg_ne_bot hr)]; rfl
  | coe z =>
    rw [← EReal.coe_neg, spe_coe, spe_coe]
    induction r with
    | bot => exact absurd rfl (nonneg_ne_bot hr)
    | top => rw [EReal.coe_add_top]; rfl
    | coe r =>
      rw [← EReal.coe_add, ← EReal.coe_neg, ← EReal.coe_neg, ← EReal.coe_neg, ← EReal.coe_sub, ← EReal.coe_sub, ← EReal.coe_add, spl_neg]
      congr 1
      ring

theorem ar_at (z : FVec Ideal S16x16384x16384 .f32) (ζ : ℕ → EReal) (hz : ∀ j : Fin 16384, z (ix3 h i j) = ζ j.val) :
    ar z (ix3 h i j) = wgt ζ i.val j.val := by
  pointwise [ar]
  rw [mkr_at, nought_at, lsr_at h i j z _ (hz j), cr_at h i j _ (fun n => -msp ζ i.val n) (fun j => sr_at h i j z ζ hz), sr_at h i j z ζ hz, pick]
  unfold wgt
  split_ifs with hj
  · have hs : suf ζ i.val j.val = spe (ζ j.val) + suf ζ i.val (j.val + 1) := by
      rw [suf_split ζ i.val (Nat.le_succ j.val) (show j.val + 1 ≤ NK from j.isLt), Nat.Ico_succ_singleton, Finset.sum_singleton]
      unfold msp
      rw [if_pos hj]
    rw [neg_msp, show ∑ n ∈ Finset.Ico j.val NK, msp ζ i.val n = suf ζ i.val j.val from rfl, hs, show msp ζ i.val j.val = spe (ζ j.val) from if_pos hj,
      exponent _ _ (suf_nonneg _ _ _)]
  · rfl

/-- The reference's result at an index. -/
theorem ref_at (q k v : FVec Ideal S16384x16x64 .f32) (β : FVec Ideal S16 .f32) (d : Fin 64) :
    or v (ar (zr q k β)) (ix3 h d i) = attn q k v β h d i := by
  rw [or_at]
  unfold attn
  rw [show NK = 16384 from rfl, ← Fin.sum_univ_eq_sum_range (fun j => val v h d j * wgt (zeta q k (β (ix1 h)) h i) i.val j)]
  refine Finset.sum_congr rfl fun j _ => ?_
  rw [ar_at h i j _ _ fun j => zr_at h i j q k β]
  unfold val
  rw [dif_pos j.isLt]

/-- The reference's result is the kernel's. -/
theorem ref_eq (q k v : FVec Ideal S16384x16x64 .f32) (β : FVec Ideal S16 .f32) :
    shapeCast S1024x16384 (or v (ar (zr q k β))) shapeCasts_S16x64x16384_S1024x16384 = Cert.KernelIdeal.Sb.G q k v β := by
  funext y
  obtain ⟨r, i, rfl⟩ : ∃ (r : Fin 1024) (i : Fin 16384), y = ix2 r i := ⟨y 0, y 1, eq_ix2 y⟩
  have e : r = ⟨64 * (⟨r.val / 64, by omega⟩ : Fin 16).val + (⟨r.val % 64, by omega⟩ : Fin 64).val, by dsimp only; omega⟩ :=
    Fin.ext (Nat.div_add_mod _ _).symm
  have key := (cast_at ⟨r.val / 64, by omega⟩ i (or v (ar (zr q k β))) ⟨r.val % 64, by omega⟩).trans
    (ref_at ⟨r.val / 64, by omega⟩ i q k v β ⟨r.val % 64, by omega⟩)
  rw [← e] at key
  exact key

end Cert.ReferenceIdeal.Sb

end
-- ==== Proof.AttnClaims.lean ====
/-
  The attention kernel ends with the reference's result.
-/
module

public import proofs.«01_k».proof.Defs
public import proofs.«01_k».proof.Proof.AttnRef

@[expose] public section

set_option maxRecDepth 16384

noncomputable section

namespace Cert.AttnClaims

open Idealize.ShloMosaic Idealize.ShloMosaic.TcCoe Idealize.SL.Sem
open Cert.Sb

/-- The kernel and the reference end with the same array. -/
theorem algebraic : Cert.algebraic_KernelIdeal_ReferenceIdeal := fun m g m' g' _ hagree =>
  ⟨fun c => Cert.KernelIdeal.Sb.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Sb.run m g,
    (θ_run Cert.ReferenceIdeal.defs _ _).mono
      (fun _ h c => ⟨(h c).1.trans (by
        obtain ⟨e0, e1, e2, e3⟩ := hagree c
        rw [Cert.ReferenceIdeal.Sb.res_eq, e0, e1, e2, e3]
        exact Cert.ReferenceIdeal.Sb.ref_eq _ _ _ _), (h c).2⟩)
      (Cert.ReferenceIdeal.Value.run m' g')⟩

end Cert.AttnClaims

end
-- ==== Proof.WoValue.lean ====
/-
  The output projection computes its reference, over the extended reals.

  Every grid point takes 512 columns of the attention's result, turns them into rows, multiplies by the weights and adds
  the gated product to the rows. The blocks tile the result array, and each is the reference's rows there.
-/
module

public import proofs.«01_k».proof.Proof.Gen.KernelWoIdeal.Value
public import proofs.«01_k».proof.Proof.Gen.ReferenceWoIdeal.Run
public import Idealize.ShloMosaic.Lib.Pipeline.ValueKit
public import Idealize.ShloMosaic.Lib.Pointwise
public import Idealize.ShloMosaic.Lib.Tactic

@[expose] public section

set_option maxRecDepth 16384

noncomputable section

namespace Cert.Wo

open Idealize.ShloMosaic

/-- The projected, gated rows added to the rows; the attention's result has one column per row. -/
def proj (o : (⟨2, ![1024, 16384]⟩ : Shape).Idx → EReal) (x : (⟨2, ![16384, 1024]⟩ : Shape).Idx → EReal)
    (g : (⟨2, ![1, 1024]⟩ : Shape).Idx → EReal) (w : (⟨2, ![1024, 1024]⟩ : Shape).Idx → EReal)
    (r : Fin 16384) (k : Fin 1024) : EReal :=
  x (ix2 r k) + g (ix2 0 k) * ∑ j : Fin 1024, o (ix2 j r) * w (ix2 j k)

end Cert.Wo

namespace Cert.KernelWoIdeal.Wo

open Cert.KernelWoIdeal Cert.KernelWoIdeal.Gen Cert.KernelWoIdeal.Value Cert.Wo
open Idealize.ShloMosaic Idealize.ShloMosaic.TcCoe Idealize.SL.Sem

theorem hz : (![0, 0] : Fin 2 → Nat) = fun _ => 0 := funext fun a => by fin_cases a <;> rfl

/-- One point's output block is its payload over the point's input blocks. -/
theorem out_eq (x0 : Vec Ideal S1024x512 .f32) (x1 : Vec Ideal S512x1024 .f32) (x2 : Vec Ideal S1x1024 .f32)
    (x3 : Vec Ideal S1024x1024 .bf16) : out0_4 x0 x1 x2 x3 = k0_pay1 x0 x1 x2 x3 := by
  unfold out0_4
  rw [View.canon_unit_zero hz]
  simp only [View.ld_unit_zero (S := S1024x512) hz, View.ld_unit_zero (S := S512x1024) hz,
    View.ld_unit_zero (S := S1x1024) hz, View.ld_unit_zero (S := S1024x1024) hz]

theorem pay1_at (o : Vec Ideal S1024x512 .f32) (x : Vec Ideal S512x1024 .f32) (g : Vec Ideal S1x1024 .f32)
    (w : Vec Ideal S1024x1024 .bf16) (r : Fin 512) (k : Fin 1024) :
    k0_pay1 o x g w (ix2 r k) = x (ix2 r k) + g (ix2 0 k) * ∑ j : Fin 1024, o (ix2 j r) * w (ix2 j k) := by
  pointwise [k0_pay1]

variable (m : (ℓ : Loc nD τ sig) → Buf (Elt Ideal) ℓ)

/-- Where each window stands at a grid point. -/
theorem idx : ∀ t : Fin cfg0.N, win0_0.index t = ![0, t.val] ∧ win0_1.index t = ![t.val, 0] ∧ win0_2.index t = ![0, 0]
    ∧ win0_3.index t = ![0, 0] ∧ win0_4.index t = ![t.val, 0] :=
  (by decide +kernel : ∀ t : Fin grid0.N, _)

theorem row_lt (t : Fin cfg0.N) (r : Fin 512) : 512 * t.val + r.val < 16384 := by
  have := lt_of_lt_of_eq t.isLt N_0; omega

theorem blk0 (c : Dev nD) (t : Fin cfg0.N) (j : Fin 1024) (r : Fin 512) :
    iblk m c 0 t (ix2 j r) = m ((c : Thread nD τ).loc main_arg0) (ix2 j ⟨512 * t.val + r, row_lt t r⟩) := by
  blk_ext [iblk, V, idx t]

theorem blk1 (c : Dev nD) (t : Fin cfg0.N) (r : Fin 512) (k : Fin 1024) :
    iblk m c 1 t (ix2 r k) = m ((c : Thread nD τ).loc main_arg1) (ix2 ⟨512 * t.val + r, row_lt t r⟩ k) := by
  blk_ext [iblk, V, idx t]

theorem blk2 (c : Dev nD) (t : Fin cfg0.N) (k : Fin 1024) :
    iblk m c 2 t (ix2 0 k) = m ((c : Thread nD τ).loc main_arg2) (ix2 0 k) := by
  blk_ext [iblk, V, idx t]

theorem blk3 (c : Dev nD) (t : Fin cfg0.N) (j k : Fin 1024) :
    iblk m c 3 t (ix2 j k) = m ((c : Thread nD τ).loc main_arg3) (ix2 j k) := by
  blk_point [iblk, V, idx t]

/-- The result array the projection leaves. -/
def G (o : S1024x16384.Idx → EReal) (x : S16384x1024.Idx → EReal) (g : S1x1024.Idx → EReal) (w : S1024x1024.Idx → EReal) :
    S16384x1024.Idx → EReal := fun i => proj o x g w ⟨(i 0).val, (i 0).isLt⟩ ⟨(i 1).val, (i 1).isLt⟩

theorem out_row (c : Dev nD) (t : Fin cfg0.N) (r : Fin 512) (k : Fin 1024) :
    out0_4 (iblk m c 0 t) (iblk m c 1 t) (iblk m c 2 t) (iblk m c 3 t) (ix2 r k)
      = G (m ((c : Thread nD τ).loc main_arg0)) (m ((c : Thread nD τ).loc main_arg1)) (m ((c : Thread nD τ).loc main_arg2))
          (m ((c : Thread nD τ).loc main_arg3)) (ix2 ⟨512 * t.val + r.val, row_lt t r⟩ k) := by
  rw [out_eq, pay1_at]
  simp only [blk0, blk1, blk2, blk3]
  rfl

theorem arr_eq (c : Dev nD) : (dats m 0 c).arrAt 4 cfg0.N
      = G (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t hf y => ?_
  blk_simp
  rw [after0_4]
  obtain ⟨r, k, rfl⟩ : ∃ (r : Fin 512) (k : Fin 1024), y = ix2 r k := ⟨y 0, y 1, eq_ix2 y⟩
  refine (out_row m c t r k).trans ?_
  congr 1
  funext a
  apply Fin.ext
  blk_simp
  simp only [idx t]
  match a with
  | ⟨0, _⟩ => exact congrArg (· + r.val) (Nat.mul_comm _ _)
  | ⟨1, _⟩ => exact (Nat.zero_add _).symm

end Cert.KernelWoIdeal.Wo

namespace Cert.ReferenceWoIdeal.Wo

open Cert.ReferenceWoIdeal Cert.ReferenceWoIdeal.Gen Cert.ReferenceWoIdeal.Value Cert.Wo
open Idealize.ShloMosaic Idealize.ShloMosaic.TcCoe Idealize.SL.Sem

/-- The reference's result as a term of its arguments. -/
def res (o : FVec Ideal S1024x16384 .f32) (x : FVec Ideal S16384x1024 .f32) (g : FVec Ideal S1x1024 .f32)
    (w : FVec Ideal S1024x1024 .f32) : FVec Ideal S16384x1024 .f32 :=
  addf x (mulf (broadcastInDim S16384x1024 ![0, 1] bcast_S1x1024_S16384x1024_0_1 g)
    (Host.dotGeneral dot_S16384x1024_S1024x1024_S16384x1024_1_0_0_1_n_n none
      (transpose S16384x1024 [1, 0] o transposes_S1024x16384_S16384x1024_1_0) w))

theorem res_at (o : FVec Ideal S1024x16384 .f32) (x : FVec Ideal S16384x1024 .f32) (g : FVec Ideal S1x1024 .f32)
    (w : FVec Ideal S1024x1024 .f32) (r : Fin 16384) (k : Fin 1024) : res o x g w (ix2 r k) = proj o x g w r k := by
  pointwise [res, proj]

theorem res_eq (o : FVec Ideal S1024x16384 .f32) (x : FVec Ideal S16384x1024 .f32) (g : FVec Ideal S1x1024 .f32)
    (w : FVec Ideal S1024x1024 .f32) : res o x g w = Cert.KernelWoIdeal.Wo.G o x g w := by
  funext i
  obtain ⟨r, k, rfl⟩ : ∃ (r : Fin 16384) (k : Fin 1024), i = ix2 r k := ⟨i 0, i 1, eq_ix2 i⟩
  exact res_at o x g w r k

end Cert.ReferenceWoIdeal.Wo

end
-- ==== Proof.WoClaims.lean ====
/-
  The output projection's claims: the kernel against its reference over the extended reals, and the reference's own frame.
-/
module

public import proofs.«01_k».proof.Defs
public import proofs.«01_k».proof.Proof.WoValue
public import Idealize.ShloMosaic.Lib.Quiescent

@[expose] public section

set_option maxRecDepth 16384

noncomputable section

namespace Cert.WoClaims

open Idealize.ShloMosaic Idealize.ShloMosaic.TcCoe Idealize.SL.Sem

/-- The kernel and the reference end with the same rows. -/
theorem algebraic : Cert.algebraic_KernelWoIdeal_ReferenceWoIdeal := fun m g m' g' _ hagree =>
  ⟨fun c => Cert.KernelWoIdeal.Wo.G (m ((c.tc : Thread Cert.KernelWoIdeal.nD Cert.KernelWoIdeal.τ).loc Cert.KernelWoIdeal.main_arg0))
      (m ((c.tc : Thread Cert.KernelWoIdeal.nD Cert.KernelWoIdeal.τ).loc Cert.KernelWoIdeal.main_arg1))
      (m ((c.tc : Thread Cert.KernelWoIdeal.nD Cert.KernelWoIdeal.τ).loc Cert.KernelWoIdeal.main_arg2))
      (m ((c.tc : Thread Cert.KernelWoIdeal.nD Cert.KernelWoIdeal.τ).loc Cert.KernelWoIdeal.main_arg3)),
    (θ_run Cert.KernelWoIdeal.defs _ _).mono
      (fun _ h c => ⟨(h c).1.trans (Cert.KernelWoIdeal.Wo.arr_eq m c), (h c).2⟩)
      (Cert.KernelWoIdeal.Value.run_blocks m g),
    (θ_run Cert.ReferenceWoIdeal.defs _ _).mono
      (fun _ h c => ⟨(h c).1.trans (by
        obtain ⟨e0, e1, e2, e3⟩ := hagree c
        rw [e0, e1, e2, e3]
        exact Cert.ReferenceWoIdeal.Wo.res_eq _ _ _ _), (h c).2⟩)
      (Cert.ReferenceWoIdeal.Value.run m' g')⟩

/-- The reference ends, keeps its arguments and leaves every counter at zero. -/
theorem frame_ref : Cert.quiescent_ReferenceWoIdeal := fun m g _ =>
  (θ_run Cert.ReferenceWoIdeal.defs _ _).mono (fun r h => ⟨fun c => (h c).2, sem_eq_zero_of_no_sems rfl r.2⟩)
    (Cert.ReferenceWoIdeal.Value.run m g)

end Cert.WoClaims

end
-- ==== Proof.QkvTab.lean ====
/-
  The tables the host builds for the projection of queries, keys and values: which column belongs to which head, and the
  norms' weights repeated for every head.
-/
module

public import proofs.«01_k».proof.Proof.Gen.KernelQkvIdeal.Value
public import Idealize.ShloMosaic.Lib.Pipeline.ValueKit
public import Idealize.ShloMosaic.Lib.Pointwise
public import Idealize.ShloMosaic.Lib.Tactic

@[expose] public section

set_option maxRecDepth 16384

noncomputable section

namespace Cert.KernelQkvIdeal.Qkv

open Cert.KernelQkvIdeal Cert.KernelQkvIdeal.Gen Cert.KernelQkvIdeal.Value
open Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_12.index t = ![0, t.val] :=
  (by decide +kernel : ∀ t : Fin grid0.N, _)

theorem row_lt (t : Fin cfg0.N) (r : Fin 256) : 256 * t.val + r.val < 16384 := by
  have := lt_of_lt_of_eq t.isLt N_0; omega

theorem blk0 (c : Dev nD) (t : Fin cfg0.N) (r : Fin 256) (k : Fin 1024) :
    iblk m c 0 t (ix2 r k) = m ((c : Thread nD τ).loc main_arg0) (ix2 ⟨256 * t.val + r, row_lt t r⟩ k) := by
  blk_ext [iblk, V, idx t]

theorem blk4 (c : Dev nD) (t : Fin cfg0.N) (j : Fin 1024) (k : Fin 3072) :
    iblk m c 4 t (ix2 j k) = m ((c : Thread nD τ).loc main_arg4) (ix2 j k) := by
  blk_point [iblk, V, idx t]

theorem ent12 (c : Dev nD) (k : Fin 1024) :
    V m c main_v12 (ix2 0 k) = m ((c : Thread nD τ).loc main_arg5) (ix1 ⟨k.val % 64, Nat.mod_lt _ (by decide)⟩) := by
  simp only [V, List.flatten_cons, List.flatten_nil, List.append_nil, List.cons_append, List.nil_append]
  after_results_simp
  pointwise

theorem ent16 (c : Dev nD) (k : Fin 1024) :
    V m c main_v16 (ix2 0 k) = m ((c : Thread nD τ).loc main_arg6) (ix1 ⟨k.val % 64, Nat.mod_lt _ (by decide)⟩) := by
  simp only [V, List.flatten_cons, List.flatten_nil, List.append_nil, List.cons_append, List.nil_append]
  after_results_simp
  pointwise

/-- The head of each row, as the host divides it. -/
def fdiv : IVec S1024x128 32 :=
  select (andi (cmpi .ne (signi (iotaInDim S1024x128 32 0)) (broadcastInDim S1024x128 ![] bcast_S_S1024x128 (signi (constantI S_ 32 64#32))))
      (cmpi .ne (Host.remsi (iotaInDim S1024x128 32 0) (broadcastInDim S1024x128 ![] bcast_S_S1024x128 (constantI S_ 32 64#32)))
        (broadcastInDim S1024x128 ![] bcast_S_S1024x128 (constantI S_ 32 0#32))))
    (subi (Host.divsi (iotaInDim S1024x128 32 0) (broadcastInDim S1024x128 ![] bcast_S_S1024x128 (constantI S_ 32 64#32)))
      (broadcastInDim S1024x128 ![] bcast_S_S1024x128 (constantI S_ 32 1#32)))
    (Host.divsi (iotaInDim S1024x128 32 0) (broadcastInDim S1024x128 ![] bcast_S_S1024x128 (constantI S_ 32 64#32)))

theorem fdiv_at (j : Fin 1024) (k : Fin 128) : fdiv (ix2 j k) = BitVec.ofNat 32 (j.val / 64) := by
  pointwise [fdiv]
  have h : ∀ j : Fin 1024, Scalar.select
        (IntOp.andi
          (IntOp.cmpi CmpIPredicate.ne
            (if BitVec.ofNat 32 j.val = 0 then (0 : BitVec 32) else if (BitVec.ofNat 32 j.val).msb = true then -1 else 1)
            (if 64#32 = 0 then (0 : BitVec 32) else if (64#32).msb = true then -1 else 1))
          (IntOp.cmpi CmpIPredicate.ne (IntOp.remsi ArithUnit.host (BitVec.ofNat 32 j.val) 64#32) 0#32))
        (IntOp.subi (IntOp.divsi ArithUnit.host (BitVec.ofNat 32 j.val) 64#32) 1#32)
        (IntOp.divsi ArithUnit.host (BitVec.ofNat 32 j.val) 64#32) =
      BitVec.ofNat 32 (j.val / 64) := by decide +kernel
  exact h j

theorem u1 : FloatOps.uitofp (F := Ideal) FTy.bf16 1#1 = (1 : EReal) := by
  show (((1#1).toNat : ℝ) : EReal) = 1
  norm_num

theorem u0 : FloatOps.uitofp (F := Ideal) FTy.bf16 0#1 = (0 : EReal) := by
  show (((0#1).toNat : ℝ) : EReal) = 0
  norm_num

/-- Which column belongs to which head. -/
def segv : FVec Ideal S1024x128 .bf16 := uitofp .bf16 (cmpi .eq fdiv (iotaInDim S1024x128 32 1))

theorem segv_at (j : Fin 1024) (k : Fin 128) : segv (ix2 j k) = if j.val / 64 = k.val then (1 : EReal) else 0 := by
  have e : segv (ix2 j k) = FloatOps.uitofp (F := Ideal) FTy.bf16 (IntOp.cmpi .eq (fdiv (ix2 j k)) (BitVec.ofNat 32 k.val)) := rfl
  have c : ∀ a b : Fin 128, IntOp.cmpi CmpIPredicate.eq (BitVec.ofNat 32 a.val) (BitVec.ofNat 32 b.val) = BitVec.ofBool (decide (a.val = b.val)) := by decide +kernel
  rw [e, fdiv_at, c ⟨j.val / 64, by omega⟩ k]
  by_cases h : j.val / 64 = k.val <;> simp [h, u1, u0]

theorem ent4 (c : Dev nD) : V m c main_v4 = segv := by
  simp only [V, List.flatten_cons, List.flatten_nil, List.append_nil, List.cons_append, List.nil_append]
  after_results_simp
  rfl

/-- The same table transposed, three times over. -/
def segt : FVec Ideal S384x1024 .bf16 :=
  shapeCast S384x1024 (broadcastInDim S3x128x1x1024 ![0, 1, 2, 3] bcast_S1x128x1x1024_S3x128x1x1024_0_1_2_3
    (shapeCast S1x128x1x1024 (transpose S128x1024 [1, 0] segv transposes_S1024x128_S128x1024_1_0) shapeCasts_S128x1024_S1x128x1x1024))
    shapeCasts_S3x128x1x1024_S384x1024

theorem segt_at (i : Fin 384) (j : Fin 1024) : segt (ix2 i j) = if j.val / 64 = i.val % 128 then (1 : EReal) else 0 := by
  have e : segt (ix2 i j) = segv (ix2 j ⟨i.val % 128, Nat.mod_lt _ (by decide)⟩) := by pointwise [segt]
  rw [e, segv_at]

theorem ent8 (c : Dev nD) : V m c main_v8 = segt := by
  simp only [V, List.flatten_cons, List.flatten_nil, List.append_nil, List.cons_append, List.nil_append]
  after_results_simp
  rfl

/-! ## The blocks of a grid point -/

theorem blk1 (c : Dev nD) (t : Fin cfg0.N) (k : Fin 1024) :
    iblk m c 1 t (ix2 0 k) = m ((c : Thread nD τ).loc main_arg1) (ix2 0 k) := by
  blk_ext [iblk, V, idx t]

theorem blk2 (c : Dev nD) (t : Fin cfg0.N) (k : Fin 1024) :
    iblk m c 2 t (ix2 0 k) = m ((c : Thread nD τ).loc main_arg2) (ix2 0 k) := by
  blk_ext [iblk, V, idx t]

theorem blk3 (c : Dev nD) (t : Fin cfg0.N) (k : Fin 1024) :
    iblk m c 3 t (ix2 0 k) = m ((c : Thread nD τ).loc main_arg3) (ix2 0 k) := by
  blk_ext [iblk, V, idx t]

theorem blk5 (c : Dev nD) (t : Fin cfg0.N) : iblk m c 5 t = segv := by
  funext y
  obtain ⟨j, k, rfl⟩ : ∃ (j : Fin 1024) (k : Fin 128), y = ix2 j k := ⟨y 0, y 1, eq_ix2 y⟩
  rw [← ent4 m c]
  blk_ext [iblk, idx t]

theorem blk6 (c : Dev nD) (t : Fin cfg0.N) : iblk m c 6 t = segt := by
  funext y
  obtain ⟨j, k, rfl⟩ : ∃ (j : Fin 384) (k : Fin 1024), y = ix2 j k := ⟨y 0, y 1, eq_ix2 y⟩
  rw [← ent8 m c]
  blk_ext [iblk, idx t]

theorem blk7 (c : Dev nD) (t : Fin cfg0.N) (k : Fin 1024) :
    iblk m c 7 t (ix2 0 k) = m ((c : Thread nD τ).loc main_arg5) (ix1 ⟨k.val % 64, Nat.mod_lt _ (by decide)⟩) := by
  rw [← ent12 m c]
  blk_ext [iblk, idx t]

theorem blk8 (c : Dev nD) (t : Fin cfg0.N) (k : Fin 1024) :
    iblk m c 8 t (ix2 0 k) = m ((c : Thread nD τ).loc main_arg6) (ix1 ⟨k.val % 64, Nat.mod_lt _ (by decide)⟩) := by
  rw [← ent16 m c]
  blk_ext [iblk, idx t]

end Cert.KernelQkvIdeal.Qkv

end
-- ==== Proof.QkvMath.lean ====
/-
  The numbers in the projection of queries, keys and values.

  Where the modulation, the norm's weight and the weights are real, so is every modulated row and every projected column:
  a row with an infinite entry has an infinite mean square, the root's inverse is zero, and zero times infinity is zero.
  Splitting a real in three leaves nothing after the first piece.
-/
module

public import proofs.«01_k».proof.Proof.FfnValue

@[expose] public section

noncomputable section

namespace Cert.Qkv

open Idealize.ShloMosaic
open Cert.Ffn

/-- Neither infinity. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsReal.sub_self {x : EReal} (h : IsReal x) : x - x = 0 := by
  obtain ⟨a, rfl⟩ := h
  rw [← EReal.coe_sub, _root_.sub_self, EReal.coe_zero]

theorem c1024 : Ideal.ofBits FTy.f32 0x44800000#32 = ((1024 : ℝ) : EReal) := by
  simp [Ideal.ofBits, Ideal.ieee]
  rw [← EReal.coe_mul]
  norm_num

theorem c64 : Ideal.ofBits FTy.f32 0x42800000#32 = ((64 : ℝ) : EReal) := by
  simp [Ideal.ofBits, Ideal.ieee]
  rw [← EReal.coe_mul]
  norm_num

theorem ci64 : Ideal.ofBits FTy.f32 0x3C800000#32 = ((1 / 64 : ℝ) : EReal) := by
  simp [Ideal.ofBits, Ideal.ieee]
  rw [← EReal.coe_mul]
  norm_num

theorem c8 : Ideal.ofBits FTy.f32 0x3E000000#32 = ((1 / 8 : ℝ) : EReal) := by
  simp [Ideal.ofBits, Ideal.ieee]
  rw [← EReal.coe_mul]
  norm_num

theorem c2 : Ideal.ofBits FTy.f32 0x40000000#32 = ((2 : ℝ) : EReal) := by
  simp [Ideal.ofBits, Ideal.ieee]
  rw [← EReal.coe_mul]
  norm_num

theorem ceps : ∃ e : ℝ, 0 < e ∧ Ideal.ofBits FTy.f32 0x358637BD#32 = (e : EReal) := by
  refine ⟨8796093 / 8796093022208, by norm_num, ?_⟩
  simp [Ideal.ofBits, Ideal.ieee]
  rw [← EReal.coe_mul]
  norm_num

theorem sq_nonneg' (x : EReal) : 0 ≤ x * x := by
  induction x with
  | bot => simp
  | top => simp
  | coe r => rw [← EReal.coe_mul]; exact EReal.coe_nonneg.2 (mul_self_nonneg r)

/-- The root's inverse of a real at least the norm's constant is real. -/
theorem rsqrt_real {s : EReal} (hs : IsReal s) (h0 : 0 ≤ s) : IsReal (Ideal.rsqrt (s + Ideal.ofBits FTy.f32 0x358637BD#32)) := by
  obtain ⟨a, rfl⟩ := hs
  obtain ⟨e, he, hb⟩ := ceps
  have ha : 0 ≤ a := EReal.coe_nonneg.1 h0
  rw [hb, ← EReal.coe_add, Ideal.rsqrt_coe, if_neg (by linarith), if_neg (by linarith)]
  exact ⟨_, rfl⟩

/-- A row's normed entries are real, whatever the row. -/
theorem norm_real (x : Fin 1024 → EReal) (k : Fin 1024) :
    IsReal (x k * Ideal.rsqrt (Ideal.div (∑ j, x j * x j) (Ideal.ofBits FTy.f32 0x44800000#32) + Ideal.ofBits FTy.f32 0x358637BD#32)) := by
  rw [c1024, Ideal.div_coe (by norm_num)]
  have hn : 0 ≤ ∑ j, x j * x j := Finset.sum_nonneg fun j _ => sq_nonneg' (x j)
  by_cases ht : ∑ j, x j * x j = ⊤
  · obtain ⟨e, he, hb⟩ := ceps
    rw [ht, EReal.top_mul_coe_of_pos (by norm_num), hb, EReal.top_add_coe, Ideal.rsqrt_top, mul_zero]
    exact ⟨0, EReal.coe_zero.symm⟩
  · have hr : IsReal (∑ j, x j * x j) := ⟨_, (EReal.coe_toReal ht (fun e => by simp [e] at hn)).symm⟩
    have hk : x k * x k ≤ ∑ j, x j * x j := Finset.single_le_sum (f := fun j => x j * x j) (fun j _ => sq_nonneg' (x j)) (Finset.mem_univ k)
    refine IsReal.mul ?_ (rsqrt_real (hr.mul ⟨_, rfl⟩) (mul_nonneg hn (EReal.coe_nonneg.2 (by norm_num))))
    refine ⟨_, (EReal.coe_toReal (fun e => ?_) (fun e => ?_)).symm⟩
    · rw [e] at hk; exact ht (top_le_iff.1 (by simpa using hk))
    · rw [e] at hk; exact ht (top_le_iff.1 (by simpa using hk))

theorem one_real : IsReal 1 := ⟨1, EReal.coe_one.symm⟩

/-- A modulated row is real. -/
theorem modu_real (x g sh sc : Fin 1024 → EReal) (hg : ∀ k, IsReal (g k)) (hsh : ∀ k, IsReal (sh k)) (hsc : ∀ k, IsReal (sc k)) (k : Fin 1024) :
    IsReal (modu x g sh sc k) :=
  (((norm_real x k).mul (hg k)).mul (one_real.add (hsc k))).add (hsh k)

/-- One row of one head normed: its mean square over the head's 64 columns. -/
def hrms (q : Fin 1024 → EReal) (gn : Fin 64 → EReal) (j : Fin 1024) : EReal :=
  q j * Ideal.rsqrt (Ideal.div (∑ d : Fin 64, q ⟨64 * (j.val / 64) + d.val, by omega⟩ * q ⟨64 * (j.val / 64) + d.val, by omega⟩)
    (Ideal.ofBits FTy.f32 0x42800000#32) + Ideal.ofBits FTy.f32 0x358637BD#32) * gn ⟨j.val % 64, Nat.mod_lt _ (by decide)⟩

/-- What the kernel forms of a head's sum of squares: the squares split in three, each piece summed. -/
def rinv (q : Fin 1024 → EReal) (c : Fin 128) : EReal :=
  Ideal.rsqrt (((∑ j : Fin 1024, q j * q j * (if j.val / 64 = c.val then 1 else 0))
      + (∑ j : Fin 1024, (q j * q j - q j * q j) * (if j.val / 64 = c.val then 1 else 0))
      + (∑ j : Fin 1024, (q j * q j - q j * q j - (q j * q j - q j * q j)) * (if j.val / 64 = c.val then 1 else 0)))
      * Ideal.ofBits FTy.f32 0x3C800000#32 + Ideal.ofBits FTy.f32 0x358637BD#32)

/-- A sum over one head's columns. -/
theorem sum_head (f : Fin 1024 → EReal) (h : Fin 16) :
    ∑ j : Fin 1024, f j * (if j.val / 64 = h.val then 1 else 0) = ∑ d : Fin 64, f ⟨64 * h.val + d.val, by omega⟩ := by
  rw [← Equiv.sum_comp (finProdFinEquiv : Fin 16 × Fin 64 ≃ Fin 1024), Fintype.sum_prod_type, Finset.sum_eq_single h]
  · refine Finset.sum_congr rfl fun d _ => ?_
    have e : (finProdFinEquiv (h, d) : Fin 1024) = ⟨64 * h.val + d.val, by omega⟩ := Fin.ext (by simp [finProdFinEquiv]; omega)
    rw [e, if_pos (by show (64 * h.val + d.val) / 64 = _; omega), mul_one]
  · intro b _ hb
    refine Finset.sum_eq_zero fun d _ => ?_
    rw [if_neg, mul_zero]
    intro e
    apply hb
    apply Fin.ext
    rw [← e]
    simp [finProdFinEquiv]
    omega
  · intro hh; exact absurd (Finset.mem_univ _) hh

theorem rinv_eq (q : Fin 1024 → EReal) (hq : ∀ j, IsReal (q j)) (h : Fin 16) :
    rinv q ⟨h.val, by omega⟩ = Ideal.rsqrt (Ideal.div (∑ d : Fin 64, q ⟨64 * h.val + d.val, by omega⟩ * q ⟨64 * h.val + d.val, by omega⟩)
      (Ideal.ofBits FTy.f32 0x42800000#32) + Ideal.ofBits FTy.f32 0x358637BD#32) := by
  have e (j : Fin 1024) : q j * q j - q j * q j = 0 := ((hq j).mul (hq j)).sub_self
  unfold rinv
  simp only [e, sub_zero, zero_mul, Finset.sum_const_zero, add_zero]
  rw [sum_head (fun j => q j * q j) h, c64, ci64, Ideal.div_coe (by norm_num)]

theorem rinv_real (q : Fin 1024 → EReal) (hq : ∀ j, IsReal (q j)) (h : Fin 16) : IsReal (rinv q ⟨h.val, by omega⟩) := by
  rw [rinv_eq q hq h, c64, Ideal.div_coe (by norm_num)]
  exact rsqrt_real ((IsReal.sum _ _ fun d => (hq _).mul (hq _)).mul ⟨_, rfl⟩)
    (mul_nonneg (Finset.sum_nonneg fun d _ => sq_nonneg' _) (EReal.coe_nonneg.2 (by norm_num)))

/-- The three pieces of the inverse root, spread over the columns: only the head's own piece counts, and only its first. -/
theorem spread (r : Fin 128 → EReal) (j : Fin 1024) (hr : IsReal (r ⟨j.val / 64, by omega⟩)) :
    (∑ i : Fin 384, (if i.val < 128 then r ⟨i.val % 128, Nat.mod_lt _ (by decide)⟩
        else if i.val < 256 then r ⟨i.val % 128, Nat.mod_lt _ (by decide)⟩ - r ⟨i.val % 128, Nat.mod_lt _ (by decide)⟩
        else r ⟨i.val % 128, Nat.mod_lt _ (by decide)⟩ - r ⟨i.val % 128, Nat.mod_lt _ (by decide)⟩
          - (r ⟨i.val % 128, Nat.mod_lt _ (by decide)⟩ - r ⟨i.val % 128, Nat.mod_lt _ (by decide)⟩))
      * (if j.val / 64 = i.val % 128 then 1 else 0)) = r ⟨j.val / 64, by omega⟩ := by
  rw [Finset.sum_eq_single (⟨j.val / 64, by omega⟩ : Fin 384)]
  · have h : j.val / 64 % 128 = j.val / 64 := by omega
    simp only [h]
    rw [if_pos (by omega), if_pos trivial, mul_one]
  · intro i _ hi
    by_cases h : j.val / 64 = i.val % 128
    · have e : (⟨i.val % 128, Nat.mod_lt _ (by decide)⟩ : Fin 128) = ⟨j.val / 64, by omega⟩ := Fin.ext h.symm
      have hlt : ¬ i.val < 128 := fun hl => hi (Fin.ext (by show i.val = j.val / 64; omega))
      rw [e, if_neg hlt, hr.sub_self]
      simp
    · rw [if_neg h, mul_zero]
  · intro hh; exact absurd (Finset.mem_univ _) hh

/-- The scale of the queries: an eighth, over the logarithm of two. -/
theorem scale_eq (y : EReal) :
    y * (((1 / 8) * (Real.log 2)⁻¹ : ℝ) : EReal)
      = Ideal.div (y * Ideal.ofBits FTy.f32 0x3E000000#32) (Ideal.log (Ideal.ofBits FTy.f32 0x40000000#32)) := by
  have hl : Real.log 2 ≠ 0 := (Real.log_pos (by norm_num)).ne'
  rw [c8, c2, Ideal.log_coe, if_neg (by norm_num), Ideal.div_coe hl, one_div (Real.log 2), EReal.coe_mul, mul_assoc]

end Cert.Qkv

end
-- ==== Proof.QkvTile.lean ====
/-
  One grid point of the projection of queries, keys and values, entry by entry.
-/
module

public import proofs.«01_k».proof.Proof.QkvTab
public import proofs.«01_k».proof.Proof.QkvMath

@[expose] public section

set_option maxRecDepth 16384

noncomputable section

namespace Cert.KernelQkvIdeal.Qkv

open Cert.KernelQkvIdeal Cert.KernelQkvIdeal.Gen Cert.KernelQkvIdeal.Value Cert.Qkv
open Idealize.ShloMosaic Idealize.ShloMosaic.TcCoe Idealize.SL.Sem
open Cert.Ffn (modu)

theorem pay2_at (x : Vec Ideal S256x1024 .f32) (g sh sc : Vec Ideal S1x1024 .f32) (w : Vec Ideal S1024x3072 .bf16) (r : Fin 256) (n : Fin 3072) :
    k0_pay2 x g sh sc w (ix2 r n)
      = ∑ j : Fin 1024, modu (fun j => x (ix2 r j)) (fun j => g (ix2 0 j)) (fun j => sh (ix2 0 j)) (fun j => sc (ix2 0 j)) j * w (ix2 j n) := by
  pointwise [k0_pay2, modu]

/-- The inverse roots of the heads' mean squares. -/
def rv (q : FVec Ideal S256x1024 .f32) (seg : FVec Ideal S1024x128 .bf16) : FVec Ideal S256x128 .f32 :=
  let a := mulf q q
  let s1 : FVec Ideal S256x1024 .bf16 := truncf .bf16 a bitsLt_bf16_f32
  let b := subf a (extf .f32 s1 bitsLt_bf16_f32)
  let s2 : FVec Ideal S256x1024 .bf16 := truncf .bf16 b bitsLt_bf16_f32
  let s3 : FVec Ideal S256x1024 .bf16 := truncf .bf16 (subf b (extf .f32 s2 bitsLt_bf16_f32)) bitsLt_bf16_f32
  let z : FVec Ideal S256x128 .f32 := constant S256x128 .f32 0x00000000#32
  rsqrt (addf (mulf (addf (addf (matmul dot_S256x1024_S1024x128_S256x128_1_0_0_1_n_n none s1 seg z)
      (matmul dot_S256x1024_S1024x128_S256x128_1_0_0_1_n_n none s2 seg z))
      (matmul dot_S256x1024_S1024x128_S256x128_1_0_0_1_n_n none s3 seg z))
      (broadcast S256x128 (Scalar.ofBits (F := Ideal) .f32 0x3C800000#32))) (broadcast S256x128 (Scalar.ofBits (F := Ideal) .f32 0x358637BD#32)))

/-- Their three pieces, side by side. -/
def catv (r : FVec Ideal S256x128 .f32) : FVec Ideal S256x384 .bf16 :=
  let s1 : FVec Ideal S256x128 .bf16 := truncf .bf16 r bitsLt_bf16_f32
  let b := subf r (extf .f32 s1 bitsLt_bf16_f32)
  let s2 : FVec Ideal S256x128 .bf16 := truncf .bf16 b bitsLt_bf16_f32
  let s3 : FVec Ideal S256x128 .bf16 := truncf .bf16 (subf b (extf .f32 s2 bitsLt_bf16_f32)) bitsLt_bf16_f32
  concatenate S256x384 1 [⟨S256x128, s1⟩, ⟨S256x128, s2⟩, ⟨S256x128, s3⟩] concatenates_S256x128_S256x128_S256x128_S256x384_d1

/-- The rows normed head by head. -/
def hn (seg : FVec Ideal S1024x128 .bf16) (segt : FVec Ideal S384x1024 .bf16) (q : FVec Ideal S256x1024 .f32) (gain : FVec Ideal S1x1024 .f32) :
    FVec Ideal S256x1024 .f32 :=
  mulf (mulf q (matmul dot_S256x384_S384x1024_S256x1024_1_0_0_1_n_n none (catv (rv q seg)) segt (constant S256x1024 .f32 0x00000000#32)))
    (broadcastTo S256x1024 gain broadcasts_S1x1024_S256x1024)

theorem rv_at (q : FVec Ideal S256x1024 .f32) (r : Fin 256) (c : Fin 128) : rv q segv (ix2 r c) = rinv (fun j => q (ix2 r j)) c := by
  pointwise [rv]
  simp only [segv_at]
  rfl

theorem catv_at (v : FVec Ideal S256x128 .f32) (r : Fin 256) (i : Fin 384) :
    catv v (ix2 r i) = if i.val < 128 then v (ix2 r ⟨i.val % 128, Nat.mod_lt _ (by decide)⟩)
        else if i.val < 256 then v (ix2 r ⟨i.val % 128, Nat.mod_lt _ (by decide)⟩) - v (ix2 r ⟨i.val % 128, Nat.mod_lt _ (by decide)⟩)
        else v (ix2 r ⟨i.val % 128, Nat.mod_lt _ (by decide)⟩) - v (ix2 r ⟨i.val % 128, Nat.mod_lt _ (by decide)⟩)
          - (v (ix2 r ⟨i.val % 128, Nat.mod_lt _ (by decide)⟩) - v (ix2 r ⟨i.val % 128, Nat.mod_lt _ (by decide)⟩)) := by
  pointwise [catv]
  by_cases h1 : i.val < 128
  · rw [dif_pos h1, if_pos h1]
    have e : i.val % 128 = i.val := by omega
    simp only [e]
  · rw [dif_neg h1, if_neg h1]
    by_cases h2 : i.val < 256
    · have e : i.val % 128 = i.val - 128 := by omega
      rw [dif_pos (by omega), if_pos h2]
      simp only [e]
    · have e : i.val % 128 = i.val - 128 - 128 := by omega
      rw [dif_neg (by omega), if_neg h2]
      simp only [e]

theorem hn_sum (q : FVec Ideal S256x1024 .f32) (gain : FVec Ideal S1x1024 .f32) (r : Fin 256) (j : Fin 1024) :
    hn segv segt q gain (ix2 r j) = q (ix2 r j) * (∑ i : Fin 384, catv (rv q segv) (ix2 r i) * segt (ix2 i j)) * gain (ix2 0 j) := by
  pointwise [hn]

theorem hn_at (q : FVec Ideal S256x1024 .f32) (gain : FVec Ideal S1x1024 .f32) (gn : Fin 64 → EReal)
    (hg : ∀ j : Fin 1024, gain (ix2 0 j) = gn ⟨j.val % 64, Nat.mod_lt _ (by decide)⟩) (r : Fin 256) (j : Fin 1024)
    (hq : ∀ j, IsReal (q (ix2 r j))) :
    hn segv segt q gain (ix2 r j) = hrms (fun j => q (ix2 r j)) gn j := by
  rw [hn_sum, hg]
  simp only [catv_at, rv_at, segt_at]
  rw [spread (rinv fun j => q (ix2 r j)) j (rinv_real _ hq ⟨j.val / 64, by omega⟩)]
  rw [rinv_eq _ hq ⟨j.val / 64, by omega⟩]
  rfl

/-! ## What each output block is -/

theorem hz : (![0, 0] : Fin 2 → Nat) = fun _ => 0 := funext fun a => by fin_cases a <;> rfl

variable (x0 : Vec Ideal S256x1024 .f32) (x1 x2 x3 : Vec Ideal S1x1024 .f32) (x4 : Vec Ideal S1024x3072 .bf16)
  (x5 : Vec Ideal S1024x128 .bf16) (x6 : Vec Ideal S384x1024 .bf16) (x7 x8 : Vec Ideal S1x1024 .f32)

theorem out9_eq : out0_9 x0 x1 x2 x3 x4 x5 x6 x7 x8
    = hn (k0_pay3 x5) (k0_pay4 x6) (k0_pay12 (k0_pay2 x0 x3 x1 x2 x4)) (k0_pay13 x8) := by
  unfold_out out0_9
  rw [View.canon_unit_zero hz]
  simp only [View.ld_unit_zero (S := S256x1024) hz, View.ld_unit_zero (S := S1x1024) hz, View.ld_unit_zero (S := S1024x3072) hz,
    View.ld_unit_zero (S := S1024x128) hz, View.ld_unit_zero (S := S384x1024) hz]
  rfl

theorem out10_eq : out0_10 x0 x1 x2 x3 x4 x5 x6 x7 x8 = k0_pay17 (k0_pay2 x0 x3 x1 x2 x4) := by
  unfold_out out0_10
  rw [View.canon_unit_zero hz]
  simp only [View.ld_unit_zero (S := S256x1024) hz, View.ld_unit_zero (S := S1x1024) hz, View.ld_unit_zero (S := S1024x3072) hz]

theorem out12_eq : out0_12 x0 x1 x2 x3 x4 x5 x6 x7 x8
    = k0_pay35 (hn (k0_pay3 x5) (k0_pay4 x6) (k0_pay5 x0 x3 x1 x2 x4) (k0_pay6 x7)) := by
  unfold_out out0_12
  rw [View.canon_unit_zero hz]
  simp only [View.ld_unit_zero (S := S256x1024) hz, View.ld_unit_zero (S := S1x1024) hz, View.ld_unit_zero (S := S1024x3072) hz,
    View.ld_unit_zero (S := S1024x128) hz, View.ld_unit_zero (S := S384x1024) hz]
  rfl

end Cert.KernelQkvIdeal.Qkv

end
-- ==== Proof.QkvValue.lean ====
/-
  The keys, the values and the queries the kernel writes, as arrays, over the extended reals.
-/
module

public import proofs.«01_k».proof.Proof.QkvTile

@[expose] public section

set_option maxRecDepth 16384

noncomputable section

namespace Cert.Qkv

open Idealize.ShloMosaic
open Cert.Ffn (modu)

/-- One entry of the modulated rows' product with the weights. -/
def proj (x : (⟨2, ![16384, 1024]⟩ : Shape).Idx → EReal) (sh sc g : (⟨2, ![1, 1024]⟩ : Shape).Idx → EReal)
    (w : (⟨2, ![1024, 3072]⟩ : Shape).Idx → EReal) (r : Fin 16384) (n : Fin 3072) : EReal :=
  ∑ j : Fin 1024, modu (fun j => x (ix2 r j)) (fun j => g (ix2 0 j)) (fun j => sh (ix2 0 j)) (fun j => sc (ix2 0 j)) j * w (ix2 j n)

/-- The modulation, the norm's weight and the weights hold no infinity. -/
structure Finite (sh sc g : (⟨2, ![1, 1024]⟩ : Shape).Idx → EReal) (w : (⟨2, ![1024, 3072]⟩ : Shape).Idx → EReal) : Prop where
  sh : ∀ i, IsReal (sh i)
  sc : ∀ i, IsReal (sc i)
  g : ∀ i, IsReal (g i)
  w : ∀ i, IsReal (w i)

theorem proj_real (x : (⟨2, ![16384, 1024]⟩ : Shape).Idx → EReal) {sh sc g : (⟨2, ![1, 1024]⟩ : Shape).Idx → EReal}
    {w : (⟨2, ![1024, 3072]⟩ : Shape).Idx → EReal} (h : Finite sh sc g w) (r : Fin 16384) (n : Fin 3072) : IsReal (proj x sh sc g w r n) :=
  IsReal.sum _ _ fun j => (modu_real _ _ _ _ (fun k => h.g _) (fun k => h.sh _) (fun k => h.sc _) j).mul (h.w _)

/-- The keys. -/
def keys (x : (⟨2, ![16384, 1024]⟩ : Shape).Idx → EReal) (sh sc g : (⟨2, ![1, 1024]⟩ : Shape).Idx → EReal)
    (w : (⟨2, ![1024, 3072]⟩ : Shape).Idx → EReal) (kn : (⟨1, ![64]⟩ : Shape).Idx → EReal) : (⟨2, ![16384, 1024]⟩ : Shape).Idx → EReal :=
  fun i => hrms (fun j => proj x sh sc g w ⟨(i 0).val, (i 0).isLt⟩ ⟨1024 + j.val, by omega⟩) (fun d => kn (ix1 d)) ⟨(i 1).val, (i 1).isLt⟩

/-- The values. -/
def vals (x : (⟨2, ![16384, 1024]⟩ : Shape).Idx → EReal) (sh sc g : (⟨2, ![1, 1024]⟩ : Shape).Idx → EReal)
    (w : (⟨2, ![1024, 3072]⟩ : Shape).Idx → EReal) : (⟨2, ![16384, 1024]⟩ : Shape).Idx → EReal :=
  fun i => proj x sh sc g w ⟨(i 0).val, (i 0).isLt⟩ ⟨2048 + (i 1).val, by have : (i 1).val < 1024 := (i 1).isLt; omega⟩

/-- The scaled queries, one column per row. -/
def qrys (x : (⟨2, ![16384, 1024]⟩ : Shape).Idx → EReal) (sh sc g : (⟨2, ![1, 1024]⟩ : Shape).Idx → EReal)
    (w : (⟨2, ![1024, 3072]⟩ : Shape).Idx → EReal) (qn : (⟨1, ![64]⟩ : Shape).Idx → EReal) : (⟨2, ![1024, 16384]⟩ : Shape).Idx → EReal :=
  fun i => hrms (fun j => proj x sh sc g w ⟨(i 1).val, (i 1).isLt⟩ ⟨j.val, by omega⟩) (fun d => qn (ix1 d)) ⟨(i 0).val, (i 0).isLt⟩
    * (((1 / 8) * (Real.log 2)⁻¹ : ℝ) : EReal)

end Cert.Qkv

namespace Cert.KernelQkvIdeal.Qkv

open Cert.KernelQkvIdeal Cert.KernelQkvIdeal.Gen Cert.KernelQkvIdeal.Value Cert.Qkv
open Idealize.ShloMosaic Idealize.ShloMosaic.TcCoe Idealize.SL.Sem
open Cert.Ffn (modu)

theorem pay3_eq (v : Vec Ideal S1024x128 .bf16) : k0_pay3 v = v := by
  funext y
  obtain ⟨a, b, rfl⟩ : ∃ (a : Fin 1024) (b : Fin 128), y = ix2 a b := ⟨y 0, y 1, eq_ix2 y⟩
  pointwise [k0_pay3]

theorem pay4_eq (v : Vec Ideal S384x1024 .bf16) : k0_pay4 v = v := by
  funext y
  obtain ⟨a, b, rfl⟩ : ∃ (a : Fin 384) (b : Fin 1024), y = ix2 a b := ⟨y 0, y 1, eq_ix2 y⟩
  pointwise [k0_pay4]

theorem pay6_at (v : Vec Ideal S1x1024 .f32) (k : Fin 1024) : k0_pay6 v (ix2 0 k) = v (ix2 0 k) := by
  pointwise [k0_pay6]

theorem pay13_at (v : Vec Ideal S1x1024 .f32) (k : Fin 1024) : k0_pay13 v (ix2 0 k) = v (ix2 0 k) := by
  pointwise [k0_pay13]

theorem pay5_at (x : Vec Ideal S256x1024 .f32) (g sh sc : Vec Ideal S1x1024 .f32) (w : Vec Ideal S1024x3072 .bf16) (r : Fin 256) (j : Fin 1024) :
    k0_pay5 x g sh sc w (ix2 r j) = k0_pay2 x g sh sc w (ix2 r ⟨j.val, by omega⟩) := by
  pointwise [k0_pay5]

theorem pay12_at (v : FVec Ideal S256x3072 .f32) (r : Fin 256) (j : Fin 1024) : k0_pay12 v (ix2 r j) = v (ix2 r ⟨1024 + j.val, by omega⟩) := by
  pointwise [k0_pay12]

theorem pay17_at (v : FVec Ideal S256x3072 .f32) (r : Fin 256) (j : Fin 1024) : k0_pay17 v (ix2 r j) = v (ix2 r ⟨2048 + j.val, by omega⟩) := by
  pointwise [k0_pay17]

theorem pay35_at (v : FVec Ideal S256x1024 .f32) (r : Fin 256) (j : Fin 1024) :
    k0_pay35 v (ix2 j r) = v (ix2 r j) * (((1 / 8) * (Real.log 2)⁻¹ : ℝ) : EReal) := by
  pointwise [k0_pay35]
  rfl

variable (m : (ℓ : Loc nD τ sig) → Buf (Elt Ideal) ℓ)

/-- The product's entries at a grid point are those of its rows. -/
theorem prod_at (c : Dev nD) (t : Fin cfg0.N) (r : Fin 256) (n : Fin 3072) :
    k0_pay2 (iblk m c 0 t) (iblk m c 3 t) (iblk m c 1 t) (iblk m c 2 t) (iblk m c 4 t) (ix2 r n)
      = proj (m ((c : Thread nD τ).loc main_arg0)) (m ((c : Thread nD τ).loc main_arg1)) (m ((c : Thread nD τ).loc main_arg2))
          (m ((c : Thread nD τ).loc main_arg3)) (m ((c : Thread nD τ).loc main_arg4)) ⟨256 * t.val + r.val, row_lt t r⟩ n := by
  rw [pay2_at]
  simp only [blk0, blk1, blk2, blk3, blk4]
  rfl

/-- The memory's modulation, norm's weight and weights hold no infinity. -/
abbrev Fnt (c : Dev nD) : Prop :=
  Finite (m ((c : Thread nD τ).loc main_arg1)) (m ((c : Thread nD τ).loc main_arg2)) (m ((c : Thread nD τ).loc main_arg3))
    (m ((c : Thread nD τ).loc main_arg4))

theorem out9_row (c : Dev nD) (hf : Fnt m c) (t : Fin cfg0.N) (r : Fin 256) (k : Fin 1024) :
    out0_9 (iblk m c 0 t) (iblk m c 1 t) (iblk m c 2 t) (iblk m c 3 t) (iblk m c 4 t) (iblk m c 5 t) (iblk m c 6 t) (iblk m c 7 t) (iblk m c 8 t) (ix2 r k)
      = keys (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg6))
          (ix2 ⟨256 * t.val + r.val, row_lt t r⟩ k) := by
  rw [out9_eq, pay3_eq, pay4_eq, blk5, blk6]
  have e (j : Fin 1024) : k0_pay12 (k0_pay2 (iblk m c 0 t) (iblk m c 3 t) (iblk m c 1 t) (iblk m c 2 t) (iblk m c 4 t)) (ix2 r j)
      = proj (m ((c : Thread nD τ).loc main_arg0)) (m ((c : Thread nD τ).loc main_arg1)) (m ((c : Thread nD τ).loc main_arg2))
          (m ((c : Thread nD τ).loc main_arg3)) (m ((c : Thread nD τ).loc main_arg4)) ⟨256 * t.val + r.val, row_lt t r⟩ ⟨1024 + j.val, by omega⟩ := by
    rw [pay12_at, prod_at]
  rw [hn_at _ _ (fun d => m ((c : Thread nD τ).loc main_arg6) (ix1 d)) (fun j => (pay13_at _ j).trans (blk8 m c t j)) r k
    (fun j => by rw [e]; exact proj_real _ hf _ _)]
  simp only [e]
  rfl

theorem out10_row (c : Dev nD) (t : Fin cfg0.N) (r : Fin 256) (k : Fin 1024) :
    out0_10 (iblk m c 0 t) (iblk m c 1 t) (iblk m c 2 t) (iblk m c 3 t) (iblk m c 4 t) (iblk m c 5 t) (iblk m c 6 t) (iblk m c 7 t) (iblk m c 8 t) (ix2 r k)
      = vals (m ((c : Thread nD τ).loc main_arg0)) (m ((c : Thread nD τ).loc main_arg1)) (m ((c : Thread nD τ).loc main_arg2))
          (m ((c : Thread nD τ).loc main_arg3)) (m ((c : Thread nD τ).loc main_arg4)) (ix2 ⟨256 * t.val + r.val, row_lt t r⟩ k) := by
  rw [out10_eq, pay17_at, prod_at]
  rfl

theorem out12_row (c : Dev nD) (hf : Fnt m c) (t : Fin cfg0.N) (k : Fin 1024) (r : Fin 256) :
    out0_12 (iblk m c 0 t) (iblk m c 1 t) (iblk m c 2 t) (iblk m c 3 t) (iblk m c 4 t) (iblk m c 5 t) (iblk m c 6 t) (iblk m c 7 t) (iblk m c 8 t) (ix2 k r)
      = qrys (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix2 k ⟨256 * t.val + r.val, row_lt t r⟩) := by
  rw [out12_eq, pay35_at, pay3_eq, pay4_eq, blk5, blk6]
  have e (j : Fin 1024) : k0_pay5 (iblk m c 0 t) (iblk m c 3 t) (iblk m c 1 t) (iblk m c 2 t) (iblk m c 4 t) (ix2 r j)
      = proj (m ((c : Thread nD τ).loc main_arg0)) (m ((c : Thread nD τ).loc main_arg1)) (m ((c : Thread nD τ).loc main_arg2))
          (m ((c : Thread nD τ).loc main_arg3)) (m ((c : Thread nD τ).loc main_arg4)) ⟨256 * t.val + r.val, row_lt t r⟩ ⟨j.val, by omega⟩ := by
    rw [pay5_at, prod_at]
  rw [hn_at _ _ (fun d => m ((c : Thread nD τ).loc main_arg5) (ix1 d)) (fun j => (pay6_at _ j).trans (blk7 m c t j)) r k
    (fun j => by rw [e]; exact proj_real _ hf _ _)]
  simp only [e]
  rfl

/-! ## The arrays -/

theorem arr9_eq (c : Dev nD) (hf : Fnt m c) : (dats m 0 c).arrAt 9 cfg0.N
      = keys (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg6)) := by
  refine (dats m 0 c).arrAt_eq_of_covers 9 _ (by decide +kernel) fun t _ y => ?_
  blk_simp
  rw [after0_9]
  obtain ⟨r, k, rfl⟩ : ∃ (r : Fin 256) (k : Fin 1024), y = ix2 r k := ⟨y 0, y 1, eq_ix2 y⟩
  refine (out9_row m c hf t r k).trans ?_
  congr 1
  funext a
  apply Fin.ext
  blk_simp
  simp only [idx t]
  match a with
  | ⟨0, _⟩ => exact congrArg (· + r.val) (Nat.mul_comm _ _)
  | ⟨1, _⟩ => exact (Nat.zero_add _).symm

theorem arr10_eq (c : Dev nD) : (dats m 0 c).arrAt 10 cfg0.N
      = vals (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 10 _ (by decide +kernel) fun t _ y => ?_
  blk_simp
  rw [after0_10]
  obtain ⟨r, k, rfl⟩ : ∃ (r : Fin 256) (k : Fin 1024), y = ix2 r k := ⟨y 0, y 1, eq_ix2 y⟩
  refine (out10_row m c t r k).trans ?_
  congr 1
  funext a
  apply Fin.ext
  blk_simp
  simp only [idx t]
  match a with
  | ⟨0, _⟩ => exact congrArg (· + r.val) (Nat.mul_comm _ _)
  | ⟨1, _⟩ => exact (Nat.zero_add _).symm

theorem arr12_eq (c : Dev nD) (hf : Fnt m c) : (dats m 0 c).arrAt 12 cfg0.N
      = qrys (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 12 _ (by decide +kernel) fun t _ y => ?_
  blk_simp
  rw [after0_12]
  obtain ⟨k, r, rfl⟩ : ∃ (k : Fin 1024) (r : Fin 256), y = ix2 k r := ⟨y 0, y 1, eq_ix2 y⟩
  refine (out12_row m c hf t k r).trans ?_
  congr 1
  funext a
  apply Fin.ext
  blk_simp
  simp only [idx t]
  match a with
  | ⟨0, _⟩ => exact (Nat.zero_add _).symm
  | ⟨1, _⟩ => exact congrArg (· + r.val) (Nat.mul_comm _ _)

end Cert.KernelQkvIdeal.Qkv

end
-- ==== Proof.QkvRef.lean ====
/-
  The reference's keys, values and queries are those arrays.
-/
module

public import proofs.«01_k».proof.Proof.QkvValue
public import proofs.«01_k».proof.Proof.Gen.ReferenceQkvIdeal.Run

@[expose] public section

set_option maxRecDepth 16384

noncomputable section

namespace Cert.ReferenceQkvIdeal.Qkv

open Cert.ReferenceQkvIdeal Cert.ReferenceQkvIdeal.Gen Cert.ReferenceQkvIdeal.Value Cert.Qkv
open Idealize.ShloMosaic Idealize.ShloMosaic.TcCoe Idealize.SL.Sem
open Cert.Ffn (modu)

/-- The modulated rows times the weights. -/
def mm (x : FVec Ideal S16384x1024 .f32) (sh sc g : FVec Ideal S1x1024 .f32) (w : FVec Ideal S1024x3072 .f32) : FVec Ideal S16384x3072 .f32 :=
  Host.dotGeneral dot_S16384x1024_S1024x3072_S16384x3072_1_0_0_1_n_n none (addf (mulf (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)) (broadcastInDim S16384x1024 ![0, 1] bcast_S1x1024_S16384x1024_0_1 (addf (broadcastInDim S1x1024 ![] bcast_S_S1x1024 (constant S_ .f32 0x3F800000#32)) sc))) (broadcastInDim S16384x1024 ![0, 1] bcast_S1x1024_S16384x1024_0_1 sh)) w

theorem mm_at (x : FVec Ideal S16384x1024 .f32) (sh sc g : FVec Ideal S1x1024 .f32) (w : FVec Ideal S1024x3072 .f32) (r : Fin 16384) (n : Fin 3072) :
    mm x sh sc g w (ix2 r n) = proj x sh sc g w r n := by
  pointwise [mm, proj, modu]

/-- The queries' third of the product, head by head. -/
def selq (p : FVec Ideal S16384x3072 .f32) : FVec Ideal S16384x16x64 .f32 := shapeCast _ (extractStridedSlice S16384x1x16x64 ![0, 0, 0, 0] (shapeCast _ p shapeCasts_S16384x3072_S16384x3x16x64) slices_S16384x3x16x64_S16384x1x16x64_0_0_0_0) shapeCasts_S16384x1x16x64_S16384x16x64

/-- The keys' third. -/
def selk (p : FVec Ideal S16384x3072 .f32) : FVec Ideal S16384x16x64 .f32 := shapeCast _ (extractStridedSlice S16384x1x16x64 ![0, 1, 0, 0] (shapeCast _ p shapeCasts_S16384x3072_S16384x3x16x64) slices_S16384x3x16x64_S16384x1x16x64_0_1_0_0) shapeCasts_S16384x1x16x64_S16384x16x64

/-- The values' third. -/
def selv (p : FVec Ideal S16384x3072 .f32) : FVec Ideal S16384x16x64 .f32 := shapeCast _ (extractStridedSlice S16384x1x16x64 ![0, 2, 0, 0] (shapeCast _ p shapeCasts_S16384x3072_S16384x3x16x64) slices_S16384x3x16x64_S16384x1x16x64_0_2_0_0) shapeCasts_S16384x1x16x64_S16384x16x64

theorem selq_at (p : FVec Ideal S16384x3072 .f32) (r : Fin 16384) (h : Fin 16) (d : Fin 64) :
    selq p (ix3 r h d) = p (ix2 r ⟨h.val * 64 + d.val, by omega⟩) := by
  pointwise [selq]

theorem selk_at (p : FVec Ideal S16384x3072 .f32) (r : Fin 16384) (h : Fin 16) (d : Fin 64) :
    selk p (ix3 r h d) = p (ix2 r ⟨1024 + h.val * 64 + d.val, by omega⟩) := by
  pointwise [selk]

theorem selv_at (p : FVec Ideal S16384x3072 .f32) (r : Fin 16384) (h : Fin 16) (d : Fin 64) :
    selv p (ix3 r h d) = p (ix2 r ⟨2048 + h.val * 64 + d.val, by omega⟩) := by
  pointwise [selv]

/-- Each head's rows normed. -/
def headn (q : FVec Ideal S16384x16x64 .f32) (gn : FVec Ideal S64 .f32) : FVec Ideal S16384x16x64 .f32 :=
  mulf (mulf q (broadcastInDim S16384x16x64 ![0, 1, 2] bcast_S16384x16x1_S16384x16x64_0_1_2 (Host.rsqrt (addf (Host.divf (broadcastInDim S16384x16x1 ![0, 1] bcast_S16384x16_S16384x16x1_0_1 (Host.reduceAdd (mulf q q) (constant S_ .f32 0x00000000#32) reducesTo_S16384x16x64_S16384x16_d2 h_S_)) (broadcastInDim S16384x16x1 ![] bcast_S_S16384x16x1 (constant S_ .f32 0x42800000#32))) (broadcastInDim S16384x16x1 ![] bcast_S_S16384x16x1 (constant S_ .f32 0x358637BD#32)))))) (broadcastInDim S16384x16x64 ![0, 1, 2] bcast_S1x1x64_S16384x16x64_0_1_2 (broadcastInDim S1x1x64 ![2] bcast_S64_S1x1x64_2 gn))

theorem headn_at (q : FVec Ideal S16384x16x64 .f32) (gn : FVec Ideal S64 .f32) (r : Fin 16384) (h : Fin 16) (d : Fin 64) :
    headn q gn (ix3 r h d) = q (ix3 r h d) * Ideal.rsqrt (Ideal.div (∑ e : Fin 64, q (ix3 r h e) * q (ix3 r h e))
      (Ideal.ofBits FTy.f32 0x42800000#32) + Ideal.ofBits FTy.f32 0x358637BD#32) * gn (ix1 d) := by
  pointwise [headn]

/-- A normed head in one row of all heads. -/
theorem headn_row (q : FVec Ideal S16384x16x64 .f32) (gn : FVec Ideal S64 .f32) (f : Fin 1024 → EReal) (r : Fin 16384) (j : Fin 1024)
    (hf : ∀ (h : Fin 16) (d : Fin 64), q (ix3 r h d) = f ⟨64 * h.val + d.val, by omega⟩) :
    headn q gn (ix3 r ⟨j.val / 64, by omega⟩ ⟨j.val % 64, Nat.mod_lt _ (by decide)⟩) = hrms f (fun d => gn (ix1 d)) j := by
  rw [headn_at]
  simp only [hf]
  have e : (⟨64 * (j.val / 64) + j.val % 64, by omega⟩ : Fin 1024) = j := Fin.ext (by show 64 * (j.val / 64) + j.val % 64 = j.val; omega)
  rw [e]
  rfl

/-- The heads side by side. -/
def flat (q : FVec Ideal S16384x16x64 .f32) : FVec Ideal S16384x1024 .f32 := shapeCast S16384x1024 q shapeCasts_S16384x16x64_S16384x1024

theorem flat_at (q : FVec Ideal S16384x16x64 .f32) (r : Fin 16384) (j : Fin 1024) :
    flat q (ix2 r j) = q (ix3 r ⟨j.val / 64, by omega⟩ ⟨j.val % 64, Nat.mod_lt _ (by decide)⟩) := by
  pointwise [flat]

/-- The queries scaled, one column per row. -/
def scal (q : FVec Ideal S16384x16x64 .f32) : FVec Ideal S1024x16384 .bf16 :=
  truncf .bf16 (transpose S1024x16384 [1, 0] (shapeCast _ (Host.divf (mulf q (broadcastInDim S16384x16x64 ![] bcast_S_S16384x16x64 (constant S_ .f32 0x3E000000#32))) (broadcastInDim S16384x16x64 ![] bcast_S_S16384x16x64 (id (Host.log (constant S_ .f32 0x40000000#32))))) shapeCasts_S16384x16x64_S16384x1024) transposes_S16384x1024_S1024x16384_1_0) bitsLt_bf16_f32

theorem scal_at (q : FVec Ideal S16384x16x64 .f32) (j : Fin 1024) (r : Fin 16384) :
    scal q (ix2 j r) = Ideal.div (q (ix3 r ⟨j.val / 64, by omega⟩ ⟨j.val % 64, Nat.mod_lt _ (by decide)⟩) * Ideal.ofBits FTy.f32 0x3E000000#32)
      (Ideal.log (Ideal.ofBits FTy.f32 0x40000000#32)) := by
  pointwise [scal]
  rfl

section

variable (x : FVec Ideal S16384x1024 .f32) (sh sc g : FVec Ideal S1x1024 .f32) (w : FVec Ideal S1024x3072 .f32) (qn kn : FVec Ideal S64 .f32)

theorem keys_eq : flat (headn (selk (mm x sh sc g w)) kn) = keys x sh sc g w kn := by
  funext i
  obtain ⟨r, k, rfl⟩ : ∃ (r : Fin 16384) (k : Fin 1024), i = ix2 r k := ⟨i 0, i 1, eq_ix2 i⟩
  rw [flat_at, headn_row _ _ (fun j => proj x sh sc g w r ⟨1024 + j.val, by omega⟩) r k fun h d => by
    rw [selk_at, mm_at]
    exact congrArg (proj x sh sc g w r) (Fin.ext (by show 1024 + h.val * 64 + d.val = 1024 + (64 * h.val + d.val); omega))]
  rfl

theorem vals_eq : flat (selv (mm x sh sc g w)) = vals x sh sc g w := by
  funext i
  obtain ⟨r, k, rfl⟩ : ∃ (r : Fin 16384) (k : Fin 1024), i = ix2 r k := ⟨i 0, i 1, eq_ix2 i⟩
  rw [flat_at, selv_at, mm_at]
  refine congrArg (proj x sh sc g w r) (Fin.ext ?_)
  show 2048 + k.val / 64 * 64 + k.val % 64 = 2048 + k.val
  omega

theorem qrys_eq : scal (headn (selq (mm x sh sc g w)) qn) = qrys x sh sc g w qn := by
  funext i
  obtain ⟨k, r, rfl⟩ : ∃ (k : Fin 1024) (r : Fin 16384), i = ix2 k r := ⟨i 0, i 1, eq_ix2 i⟩
  rw [scal_at, ← scale_eq, headn_row _ _ (fun j => proj x sh sc g w r ⟨j.val, by omega⟩) r k fun h d => by
    rw [selq_at, mm_at]
    exact congrArg (proj x sh sc g w r) (Fin.ext (by show h.val * 64 + d.val = 64 * h.val + d.val; omega))]
  rfl

end

end Cert.ReferenceQkvIdeal.Qkv

end
-- ==== Proof.QkvClaims.lean ====
/-
  The claims of the queries, keys and values: the kernel against its reference over the extended reals, the named constant,
  and the reference's own frame.
-/
module

public import proofs.«01_k».proof.Defs
public import proofs.«01_k».proof.Proof.QkvRef
public import Idealize.ShloMosaic.Lib.Quiescent
public import Idealize.ShloMosaic.Lib.ReduceAll

@[expose] public section

set_option maxRecDepth 16384

noncomputable section

namespace Cert.QkvClaims

open Idealize.ShloMosaic Idealize.ShloMosaic.TcCoe Idealize.SL.Sem
open Cert.Qkv

/-- The precondition's stated facts. -/
theorem pre_facts : Cert.Pre_finite.Facts where
  bcast_S_S1x1024 := by decide
  reducesTo_S1x1024_S_d0_1 := by decide
  h_S_ := by decide
  bcast_S_S1024x3072 := by decide
  reducesTo_S1024x3072_S_d0_1 := by decide

attribute [local instance] pre_facts

instance : Subsingleton Cert.Pre_finite.S_.Idx := ⟨fun _ _ => funext fun a => a.elim0⟩

/-- A number smaller in size than infinity is a real. -/
theorem real_of_lt (x : EReal) (h : max x (-x) < ⊤) : IsReal x := by
  refine ⟨x.toReal, (EReal.coe_toReal (fun e => ?_) fun e => ?_).symm⟩
  · subst e; simp at h
  · subst e; simp at h

/-- The precondition's comparison, read at one element. -/
theorem real_of_word (x : EReal) (b : EReal) (hb : b = ⊤)
    (h : FloatOps.cmpf (F := Ideal) (φ := .f32) .olt (FloatOps.absf (F := Ideal) (φ := .f32) x) b = 1#1) : IsReal x := by
  subst hb
  have h' : BitVec.ofBool (decide (max x (-x) < (⊤ : EReal))) = 1#1 := h
  refine real_of_lt x ?_
  by_contra hn
  simp [hn] at h'

theorem inf_top : Ideal.ofBits FTy.f32 0x7F800000#32 = (⊤ : EReal) := by
  simp [Ideal.ofBits, Ideal.ieee]

/-- The precondition says that the modulation, the norm's weight and the weights hold no infinity. -/
theorem finite (m : (ℓ : Loc Cert.KernelQkvIdeal.nD Cert.KernelQkvIdeal.τ Cert.KernelQkvIdeal.sig) → Buf (Elt Ideal) ℓ)
    (h : Cert.Pre_KernelQkvIdeal_finite m) (c : Dev Cert.KernelQkvIdeal.nD) : Cert.KernelQkvIdeal.Qkv.Fnt m c := by
  have hc := congrFun (h c) ix0
  dsimp only [Cert.Pre_finite.fn, Cert.Pre_finite.fn_part1] at hc
  have and1 : ∀ a b : BitVec 1, IntOp.andi a b = 1#1 → a = 1#1 ∧ b = 1#1 := by decide
  obtain ⟨h123, h4⟩ := and1 _ _ hc
  obtain ⟨h12, h3⟩ := and1 _ _ h123
  obtain ⟨h1, h2⟩ := and1 _ _ h12
  refine ⟨fun j => ?_, fun j => ?_, fun j => ?_, fun j => ?_⟩
  · exact real_of_word _ _ inf_top (Host.reduce_andi_all _ _ _ _ _ h1 j)
  · exact real_of_word _ _ inf_top (Host.reduce_andi_all _ _ _ _ _ h2 j)
  · exact real_of_word _ _ inf_top (Host.reduce_andi_all _ _ _ _ _ h3 j)
  · exact real_of_word _ _ inf_top (Host.reduce_andi_all _ _ _ _ _ h4 j)

/-- The reference's keys. -/
theorem res0_eq (m : (ℓ : Loc Cert.ReferenceQkvIdeal.nD Cert.ReferenceQkvIdeal.τ Cert.ReferenceQkvIdeal.sig) → Buf (Elt Ideal) ℓ) (c : Dev Cert.ReferenceQkvIdeal.nD) :
    Cert.ReferenceQkvIdeal.Value.res_main_v52 m c = keys (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg6)) :=
  Eq.trans rfl (Cert.ReferenceQkvIdeal.Qkv.keys_eq (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg6)))

/-- The reference's queries. -/
theorem res2_eq (m : (ℓ : Loc Cert.ReferenceQkvIdeal.nD Cert.ReferenceQkvIdeal.τ Cert.ReferenceQkvIdeal.sig) → Buf (Elt Ideal) ℓ) (c : Dev Cert.ReferenceQkvIdeal.nD) :
    Cert.ReferenceQkvIdeal.Value.res_main_v62 m c = qrys (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5)) :=
  Eq.trans rfl (Cert.ReferenceQkvIdeal.Qkv.qrys_eq (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5)))

/-- The kernel and the reference end with the same keys, values and queries. -/
theorem algebraic : Cert.algebraic_KernelQkvIdeal_ReferenceQkvIdeal_pre_finite := fun m g m' g' hm hagree =>
  ⟨fun c => keys (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg6)),
    fun c => vals (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)),
    fun c => qrys (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg5)),
    (θ_run Cert.KernelQkvIdeal.defs _ _).mono
      (fun _ h c => by
        obtain ⟨h0, h1, _, h3, _, h5⟩ := h c
        exact ⟨h0.trans (Cert.KernelQkvIdeal.Qkv.arr9_eq m c (finite m hm c)), h1.trans (Cert.KernelQkvIdeal.Qkv.arr10_eq m c),
          h3.trans (Cert.KernelQkvIdeal.Qkv.arr12_eq m c (finite m hm c)), h5⟩)
      (Cert.KernelQkvIdeal.Value.run_blocks m g),
    (θ_run Cert.ReferenceQkvIdeal.defs _ _).mono
      (fun _ h c => by
        obtain ⟨h0, h1, h2, h3⟩ := h c
        obtain ⟨e0, e1, e2, e3, e4, e5, e6⟩ := hagree c
        refine ⟨(h0.trans (res0_eq m' c)).trans ?_, (h1.trans (Cert.ReferenceQkvIdeal.Qkv.vals_eq _ _ _ _ _)).trans ?_,
          (h2.trans (res2_eq m' c)).trans ?_, h3⟩
        · rw [e0, e1, e2, e3, e4, e6]
        · rw [e0, e1, e2, e3, e4]
        · rw [e0, e1, e2, e3, e4, e5])
      (Cert.ReferenceQkvIdeal.Value.run m' g')⟩

/-- The reference ends, keeps its arguments and leaves every counter at zero. -/
theorem frame_ref : Cert.quiescent_ReferenceQkvIdeal := fun m g _ =>
  (θ_run Cert.ReferenceQkvIdeal.defs _ _).mono (fun r h => ⟨fun c => (h c).2.2.2, sem_eq_zero_of_no_sems rfl r.2⟩)
    (Cert.ReferenceQkvIdeal.Value.run m g)

/-- So it does under the precondition. -/
theorem frame_ref_pre : Cert.quiescent_ReferenceQkvIdeal_pre_finite := fun m g _ =>
  (θ_run Cert.ReferenceQkvIdeal.defs _ _).mono (fun r h => ⟨fun c => (h c).2.2.2, sem_eq_zero_of_no_sems rfl r.2⟩)
    (Cert.ReferenceQkvIdeal.Value.run m g)

/-- The named constant stands for the real its name says. -/
theorem preserves : Cert.preserves_KernelQkv_KernelQkvIdeal :=
  IdealRules.named_const.statement Cert.KernelQkvIdeal.κ "scale_log2e" .f32 0x3E38AA3B#32 (((1 / 8) * (Real.log 2)⁻¹ : ℝ) : EReal) rfl

end Cert.QkvClaims

end
-- ==== Proof.lean ====
/-
  The proof of `Cert.Claim`: four programs of one layer, the queries, keys and values, the stick-breaking attention over the
  prompt, the output projection and the feed-forward block. The frames, the named constants and the values are proved in
  the modules under Proof/; here they are put in the certificate's order behind the witnesses of the programs' stated facts.
-/
module

public import proofs.«01_k».proof.Defs
public import proofs.«01_k».proof.Proof.AttnFrames
public import proofs.«01_k».proof.Proof.FfnClaims
public import proofs.«01_k».proof.Proof.Gen.KernelFfn.Frame
public import proofs.«01_k».proof.Proof.AttnClaims
public import proofs.«01_k».proof.Proof.Gen.KernelWo.Frame
public import proofs.«01_k».proof.Proof.WoClaims
public import proofs.«01_k».proof.Proof.Gen.KernelQkv.Frame
public import proofs.«01_k».proof.Proof.QkvClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.KernelFfn.Gen.facts, Cert.KernelFfnIdeal.Gen.facts, Cert.ReferenceFfnIdeal.Gen.facts,
    Cert.KernelWo.Gen.facts, Cert.KernelWoIdeal.Gen.facts, Cert.ReferenceWoIdeal.Gen.facts,
    Cert.KernelQkv.Gen.facts, Cert.KernelQkvIdeal.Gen.facts, Cert.ReferenceQkvIdeal.Gen.facts, QkvClaims.pre_facts,
    AttnFrames.frame_p, AttnFrames.frame_pi, AttnFrames.frame_ri,
    fun m g _ => Cert.KernelFfn.Gen.frame m g, fun m g _ => Cert.KernelFfnIdeal.Gen.frame m g, FfnClaims.frame_ref,
    fun m g _ => Cert.KernelWo.Gen.frame m g, fun m g _ => Cert.KernelWoIdeal.Gen.frame m g, WoClaims.frame_ref,
    fun m g _ => Cert.KernelQkv.Gen.frame m g, fun m g _ => Cert.KernelQkvIdeal.Gen.frame m g,
    fun m g _ => Cert.KernelQkvIdeal.Gen.frame m g, QkvClaims.frame_ref, QkvClaims.frame_ref_pre,
    AttnFrames.preserves, AttnClaims.algebraic, trivial, FfnClaims.algebraic, trivial, WoClaims.algebraic,
    QkvClaims.preserves, QkvClaims.algebraic⟩

end Cert.Proof

end
